-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 [hPre_picked : Cert.Pre_picked.Facts] (m : (ℓ : Loc Cert.Kernel25.nD Cert.Kernel25.τ Cert.Kernel25.sig) → Buf (Elt Bits) ℓ) : Prop :=
  ∀ c : Dev Cert.Kernel25.nD,
    (Cert.Pre_picked.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4))) = (fun _ => 1#1)

def Pre_Kernel25Ideal [hPre_picked : Cert.Pre_picked.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_picked.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_picked [hPre_picked : Cert.Pre_picked.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_picked.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))) = (fun _ => 1#1)

def Pre_Reference25 (m : (ℓ : Loc Cert.Reference25.nD Cert.Reference25.τ Cert.Reference25.sig) → Buf (Elt Bits) ℓ) : Prop :=
  True

def Pre_Reference25_picked [hPre_picked : Cert.Pre_picked.Facts] (m : (ℓ : Loc Cert.Reference25.nD Cert.Reference25.τ Cert.Reference25.sig) → Buf (Elt Bits) ℓ) : Prop :=
  ∀ c : Dev Cert.Reference25.nD,
    (Cert.Pre_picked.fn (F := Bits) (m ((c.tc : Thread Cert.Reference25.nD Cert.Reference25.τ).loc Cert.Reference25.main_arg0)) (m ((c.tc : Thread Cert.Reference25.nD Cert.Reference25.τ).loc Cert.Reference25.main_arg1)) (m ((c.tc : Thread Cert.Reference25.nD Cert.Reference25.τ).loc Cert.Reference25.main_arg2)) (m ((c.tc : Thread Cert.Reference25.nD Cert.Reference25.τ).loc Cert.Reference25.main_arg3)) (m ((c.tc : Thread Cert.Reference25.nD Cert.Reference25.τ).loc Cert.Reference25.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] [hPre_picked : Cert.Pre_picked.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] [hPre_picked : Cert.Pre_picked.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_picked [hReference25Ideal : Cert.Reference25Ideal.Facts] [hPre_picked : Cert.Pre_picked.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_picked m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25 [hReference25 : Cert.Reference25.Facts] : Prop :=
  ∀ (m : (ℓ : Loc Cert.Reference25.nD Cert.Reference25.τ Cert.Reference25.sig) → Buf (Elt Bits) ℓ) (g : Dev Cert.Reference25.nD → PrngReg), Pre_Reference25 m →
    θ_run (Cert.Reference25.defs (F := Bits)) (onTc (τ := Cert.Reference25.τ) (Cert.Reference25.main (F := Bits))) ⟨m, fun _ => 0, g⟩ (fun r => (∀ c : Dev Cert.Reference25.nD,
      r.2.mem ((c.tc : Thread Cert.Reference25.nD Cert.Reference25.τ).loc Cert.Reference25.main_arg0) = m ((c.tc : Thread Cert.Reference25.nD Cert.Reference25.τ).loc Cert.Reference25.main_arg0)
      ∧ r.2.mem ((c.tc : Thread Cert.Reference25.nD Cert.Reference25.τ).loc Cert.Reference25.main_arg1) = m ((c.tc : Thread Cert.Reference25.nD Cert.Reference25.τ).loc Cert.Reference25.main_arg1)
      ∧ r.2.mem ((c.tc : Thread Cert.Reference25.nD Cert.Reference25.τ).loc Cert.Reference25.main_arg2) = m ((c.tc : Thread Cert.Reference25.nD Cert.Reference25.τ).loc Cert.Reference25.main_arg2)
      ∧ r.2.mem ((c.tc : Thread Cert.Reference25.nD Cert.Reference25.τ).loc Cert.Reference25.main_arg3) = m ((c.tc : Thread Cert.Reference25.nD Cert.Reference25.τ).loc Cert.Reference25.main_arg3)
      ∧ r.2.mem ((c.tc : Thread Cert.Reference25.nD Cert.Reference25.τ).loc Cert.Reference25.main_arg4) = m ((c.tc : Thread Cert.Reference25.nD Cert.Reference25.τ).loc Cert.Reference25.main_arg4))
      ∧ r.2.sem = fun _ => 0)

def quiescent_Reference25_pre_picked [hReference25 : Cert.Reference25.Facts] [hPre_picked : Cert.Pre_picked.Facts] : Prop :=
  ∀ (m : (ℓ : Loc Cert.Reference25.nD Cert.Reference25.τ Cert.Reference25.sig) → Buf (Elt Bits) ℓ) (g : Dev Cert.Reference25.nD → PrngReg), Pre_Reference25_picked m →
    θ_run (Cert.Reference25.defs (F := Bits)) (onTc (τ := Cert.Reference25.τ) (Cert.Reference25.main (F := Bits))) ⟨m, fun _ => 0, g⟩ (fun r => (∀ c : Dev Cert.Reference25.nD,
      r.2.mem ((c.tc : Thread Cert.Reference25.nD Cert.Reference25.τ).loc Cert.Reference25.main_arg0) = m ((c.tc : Thread Cert.Reference25.nD Cert.Reference25.τ).loc Cert.Reference25.main_arg0)
      ∧ r.2.mem ((c.tc : Thread Cert.Reference25.nD Cert.Reference25.τ).loc Cert.Reference25.main_arg1) = m ((c.tc : Thread Cert.Reference25.nD Cert.Reference25.τ).loc Cert.Reference25.main_arg1)
      ∧ r.2.mem ((c.tc : Thread Cert.Reference25.nD Cert.Reference25.τ).loc Cert.Reference25.main_arg2) = m ((c.tc : Thread Cert.Reference25.nD Cert.Reference25.τ).loc Cert.Reference25.main_arg2)
      ∧ r.2.mem ((c.tc : Thread Cert.Reference25.nD Cert.Reference25.τ).loc Cert.Reference25.main_arg3) = m ((c.tc : Thread Cert.Reference25.nD Cert.Reference25.τ).loc Cert.Reference25.main_arg3)
      ∧ r.2.mem ((c.tc : Thread Cert.Reference25.nD Cert.Reference25.τ).loc Cert.Reference25.main_arg4) = m ((c.tc : Thread Cert.Reference25.nD Cert.Reference25.τ).loc Cert.Reference25.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)) (v6 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_v9) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v169) = v0 c
          ∧ r.2.mem ((c.tc : Thread Cert.Reference2Ideal.nD Cert.Reference2Ideal.τ).loc Cert.Reference2Ideal.main_v165) = v1 c
          ∧ r.2.mem ((c.tc : Thread Cert.Reference2Ideal.nD Cert.Reference2Ideal.τ).loc Cert.Reference2Ideal.main_v151) = v2 c
          ∧ r.2.mem ((c.tc : Thread Cert.Reference2Ideal.nD Cert.Reference2Ideal.τ).loc Cert.Reference2Ideal.main_v111) = v3 c
          ∧ r.2.mem ((c.tc : Thread Cert.Reference2Ideal.nD Cert.Reference2Ideal.τ).loc Cert.Reference2Ideal.main_v108) = v4 c
          ∧ r.2.mem ((c.tc : Thread Cert.Reference2Ideal.nD Cert.Reference2Ideal.τ).loc Cert.Reference2Ideal.main_v105) = v5 c
          ∧ r.2.mem ((c.tc : Thread Cert.Reference2Ideal.nD Cert.Reference2Ideal.τ).loc Cert.Reference2Ideal.main_v100) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v11)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v87) = v1 c
          ∧ r.2.mem ((c.tc : Thread Cert.Reference5Ideal.nD Cert.Reference5Ideal.τ).loc Cert.Reference5Ideal.main_v88) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_v83) = v4 c
          ∧ r.2.mem ((c.tc : Thread Cert.Reference5Ideal.nD Cert.Reference5Ideal.τ).loc Cert.Reference5Ideal.main_v82) = v5 c
          ∧ r.2.mem ((c.tc : Thread Cert.Reference5Ideal.nD Cert.Reference5Ideal.τ).loc Cert.Reference5Ideal.main_v77) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)) (v4 : (c : Dev Cert.Kernel6Ideal.nD) → Buf (Elt Ideal) ((c.tc : Thread Cert.Kernel6Ideal.nD Cert.Kernel6Ideal.τ).loc Cert.Kernel6Ideal.main_v1_4)) (v5 : (c : Dev Cert.Kernel6Ideal.nD) → Buf (Elt Ideal) ((c.tc : Thread Cert.Kernel6Ideal.nD Cert.Kernel6Ideal.τ).loc Cert.Kernel6Ideal.main_v1_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_v1_4) = v4 c
          ∧ r.2.mem ((c.tc : Thread Cert.Kernel6Ideal.nD Cert.Kernel6Ideal.τ).loc Cert.Kernel6Ideal.main_v1_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v26) = v3 c
          ∧ r.2.mem ((c.tc : Thread Cert.Reference6Ideal.nD Cert.Reference6Ideal.τ).loc Cert.Reference6Ideal.main_v23) = v4 c
          ∧ r.2.mem ((c.tc : Thread Cert.Reference6Ideal.nD Cert.Reference6Ideal.τ).loc Cert.Reference6Ideal.main_v59) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v3)) (v3 : (c : Dev Cert.Kernel7Ideal.nD) → Buf (Elt Ideal) ((c.tc : Thread Cert.Kernel7Ideal.nD Cert.Kernel7Ideal.τ).loc Cert.Kernel7Ideal.main_v5)) (v4 : (c : Dev Cert.Kernel7Ideal.nD) → Buf (Elt Ideal) ((c.tc : Thread Cert.Kernel7Ideal.nD Cert.Kernel7Ideal.τ).loc Cert.Kernel7Ideal.main_v2_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_v5) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_v62) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_v61) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v23) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v13) = v2 c
          ∧ r.2.mem ((c.tc : Thread Cert.Reference9Ideal.nD Cert.Reference9Ideal.τ).loc Cert.Reference9Ideal.main_v19) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)) (v2 : (c : Dev Cert.Kernel12Ideal.nD) → Buf (Elt Ideal) ((c.tc : Thread Cert.Kernel12Ideal.nD Cert.Kernel12Ideal.τ).loc Cert.Kernel12Ideal.main_v7_2)) (v3 : (c : Dev Cert.Kernel12Ideal.nD) → Buf (Elt Ideal) ((c.tc : Thread Cert.Kernel12Ideal.nD Cert.Kernel12Ideal.τ).loc Cert.Kernel12Ideal.main_v7_3)) (v4 : (c : Dev Cert.Kernel12Ideal.nD) → Buf (Elt Ideal) ((c.tc : Thread Cert.Kernel12Ideal.nD Cert.Kernel12Ideal.τ).loc Cert.Kernel12Ideal.main_v7_4)) (v5 : (c : Dev Cert.Kernel12Ideal.nD) → Buf (Elt Ideal) ((c.tc : Thread Cert.Kernel12Ideal.nD Cert.Kernel12Ideal.τ).loc Cert.Kernel12Ideal.main_v7_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_v7_2) = v2 c
          ∧ r.2.mem ((c.tc : Thread Cert.Kernel12Ideal.nD Cert.Kernel12Ideal.τ).loc Cert.Kernel12Ideal.main_v7_3) = v3 c
          ∧ r.2.mem ((c.tc : Thread Cert.Kernel12Ideal.nD Cert.Kernel12Ideal.τ).loc Cert.Kernel12Ideal.main_v7_4) = v4 c
          ∧ r.2.mem ((c.tc : Thread Cert.Kernel12Ideal.nD Cert.Kernel12Ideal.τ).loc Cert.Kernel12Ideal.main_v7_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v46) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v48) = v2 c
          ∧ r.2.mem ((c.tc : Thread Cert.Reference12Ideal.nD Cert.Reference12Ideal.τ).loc Cert.Reference12Ideal.main_v49) = v3 c
          ∧ r.2.mem ((c.tc : Thread Cert.Reference12Ideal.nD Cert.Reference12Ideal.τ).loc Cert.Reference12Ideal.main_v27) = v4 c
          ∧ r.2.mem ((c.tc : Thread Cert.Reference12Ideal.nD Cert.Reference12Ideal.τ).loc Cert.Reference12Ideal.main_v50) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v3) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_v25) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)) (v4 : (c : Dev Cert.Kernel15Ideal.nD) → Buf (Elt Ideal) ((c.tc : Thread Cert.Kernel15Ideal.nD Cert.Kernel15Ideal.τ).loc Cert.Kernel15Ideal.main_v1_4)) (v5 : (c : Dev Cert.Kernel15Ideal.nD) → Buf (Elt Ideal) ((c.tc : Thread Cert.Kernel15Ideal.nD Cert.Kernel15Ideal.τ).loc Cert.Kernel15Ideal.main_v1_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_v1_4) = v4 c
          ∧ r.2.mem ((c.tc : Thread Cert.Kernel15Ideal.nD Cert.Kernel15Ideal.τ).loc Cert.Kernel15Ideal.main_v1_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v48) = v0 c
          ∧ r.2.mem ((c.tc : Thread Cert.Reference15Ideal.nD Cert.Reference15Ideal.τ).loc Cert.Reference15Ideal.main_v56) = v1 c
          ∧ r.2.mem ((c.tc : Thread Cert.Reference15Ideal.nD Cert.Reference15Ideal.τ).loc Cert.Reference15Ideal.main_v31) = v2 c
          ∧ r.2.mem ((c.tc : Thread Cert.Reference15Ideal.nD Cert.Reference15Ideal.τ).loc Cert.Reference15Ideal.main_v26) = v3 c
          ∧ r.2.mem ((c.tc : Thread Cert.Reference15Ideal.nD Cert.Reference15Ideal.τ).loc Cert.Reference15Ideal.main_v23) = v4 c
          ∧ r.2.mem ((c.tc : Thread Cert.Reference15Ideal.nD Cert.Reference15Ideal.τ).loc Cert.Reference15Ideal.main_v55) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v6_0)) (v1 : (c : Dev Cert.Kernel20Ideal.nD) → Buf (Elt Ideal) ((c.tc : Thread Cert.Kernel20Ideal.nD Cert.Kernel20Ideal.τ).loc Cert.Kernel20Ideal.main_v6_1)) (v2 : (c : Dev Cert.Kernel20Ideal.nD) → Buf (Elt Ideal) ((c.tc : Thread Cert.Kernel20Ideal.nD Cert.Kernel20Ideal.τ).loc Cert.Kernel20Ideal.main_v6_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6_0) = v0 c
          ∧ r.2.mem ((c.tc : Thread Cert.Kernel20Ideal.nD Cert.Kernel20Ideal.τ).loc Cert.Kernel20Ideal.main_v6_1) = v1 c
          ∧ r.2.mem ((c.tc : Thread Cert.Kernel20Ideal.nD Cert.Kernel20Ideal.τ).loc Cert.Kernel20Ideal.main_v6_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v5) = v1 c
          ∧ r.2.mem ((c.tc : Thread Cert.Reference20Ideal.nD Cert.Reference20Ideal.τ).loc Cert.Reference20Ideal.main_v8) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v8)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v8) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v26) = v0 c
          ∧ r.2.mem ((c.tc : Thread Cert.Reference24Ideal.nD Cert.Reference24Ideal.τ).loc Cert.Reference24Ideal.main_v7) = v1 c
          ∧ r.2.mem ((c.tc : Thread Cert.Reference24Ideal.nD Cert.Reference24Ideal.τ).loc Cert.Reference24Ideal.main_v13) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] [hPre_picked : Cert.Pre_picked.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v9) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def bitexact_Kernel25_Reference25 [hKernel25 : Cert.Kernel25.Facts] [hReference25 : Cert.Reference25.Facts] [hPre_picked : Cert.Pre_picked.Facts] : Prop :=
  ∀ (m : (ℓ : Loc Cert.Kernel25.nD Cert.Kernel25.τ Cert.Kernel25.sig) → Buf (Elt Bits) ℓ) (g : Dev Cert.Kernel25.nD → PrngReg)
    (m' : (ℓ : Loc Cert.Reference25.nD Cert.Reference25.τ Cert.Reference25.sig) → Buf (Elt Bits) ℓ) (g' : Dev Cert.Reference25.nD → PrngReg), Pre_Kernel25 m →
    (∀ c : Dev Cert.Kernel25.nD,
      m' ((c.tc : Thread Cert.Reference25.nD Cert.Reference25.τ).loc Cert.Reference25.main_arg0) = m ((c.tc : Thread Cert.Kernel25.nD Cert.Kernel25.τ).loc Cert.Kernel25.main_arg0)
      ∧ m' ((c.tc : Thread Cert.Reference25.nD Cert.Reference25.τ).loc Cert.Reference25.main_arg1) = m ((c.tc : Thread Cert.Kernel25.nD Cert.Kernel25.τ).loc Cert.Kernel25.main_arg1)
      ∧ m' ((c.tc : Thread Cert.Reference25.nD Cert.Reference25.τ).loc Cert.Reference25.main_arg2) = m ((c.tc : Thread Cert.Kernel25.nD Cert.Kernel25.τ).loc Cert.Kernel25.main_arg2)
      ∧ m' ((c.tc : Thread Cert.Reference25.nD Cert.Reference25.τ).loc Cert.Reference25.main_arg3) = m ((c.tc : Thread Cert.Kernel25.nD Cert.Kernel25.τ).loc Cert.Kernel25.main_arg3)
      ∧ m' ((c.tc : Thread Cert.Reference25.nD Cert.Reference25.τ).loc Cert.Reference25.main_arg4) = m ((c.tc : Thread Cert.Kernel25.nD Cert.Kernel25.τ).loc Cert.Kernel25.main_arg4)) →
    ∃ (v0 : (c : Dev Cert.Kernel25.nD) → Buf (Elt Bits) ((c.tc : Thread Cert.Kernel25.nD Cert.Kernel25.τ).loc Cert.Kernel25.main_v0_0)) (v1 : (c : Dev Cert.Kernel25.nD) → Buf (Elt Bits) ((c.tc : Thread Cert.Kernel25.nD Cert.Kernel25.τ).loc Cert.Kernel25.main_v0_1)),
      θ_run (Cert.Kernel25.defs (F := Bits)) (onTc (τ := Cert.Kernel25.τ) (Cert.Kernel25.main (F := Bits))) ⟨m, fun _ => 0, g⟩ (fun r => ∀ c : Dev Cert.Kernel25.nD,
          r.2.mem ((c.tc : Thread Cert.Kernel25.nD Cert.Kernel25.τ).loc Cert.Kernel25.main_v0_0) = v0 c
          ∧ r.2.mem ((c.tc : Thread Cert.Kernel25.nD Cert.Kernel25.τ).loc Cert.Kernel25.main_v0_1) = v1 c
          ∧ r.2.mem ((c.tc : Thread Cert.Kernel25.nD Cert.Kernel25.τ).loc Cert.Kernel25.main_arg0) = m ((c.tc : Thread Cert.Kernel25.nD Cert.Kernel25.τ).loc Cert.Kernel25.main_arg0)
          ∧ r.2.mem ((c.tc : Thread Cert.Kernel25.nD Cert.Kernel25.τ).loc Cert.Kernel25.main_arg1) = m ((c.tc : Thread Cert.Kernel25.nD Cert.Kernel25.τ).loc Cert.Kernel25.main_arg1)
          ∧ r.2.mem ((c.tc : Thread Cert.Kernel25.nD Cert.Kernel25.τ).loc Cert.Kernel25.main_arg2) = m ((c.tc : Thread Cert.Kernel25.nD Cert.Kernel25.τ).loc Cert.Kernel25.main_arg2)
          ∧ r.2.mem ((c.tc : Thread Cert.Kernel25.nD Cert.Kernel25.τ).loc Cert.Kernel25.main_arg3) = m ((c.tc : Thread Cert.Kernel25.nD Cert.Kernel25.τ).loc Cert.Kernel25.main_arg3)
          ∧ r.2.mem ((c.tc : Thread Cert.Kernel25.nD Cert.Kernel25.τ).loc Cert.Kernel25.main_arg4) = m ((c.tc : Thread Cert.Kernel25.nD Cert.Kernel25.τ).loc Cert.Kernel25.main_arg4))
      ∧ θ_run (Cert.Reference25.defs (F := Bits)) (onTc (τ := Cert.Reference25.τ) (Cert.Reference25.main (F := Bits))) ⟨m', fun _ => 0, g'⟩ (fun r => ∀ c : Dev Cert.Reference25.nD,
          r.2.mem ((c.tc : Thread Cert.Reference25.nD Cert.Reference25.τ).loc Cert.Reference25.main_v4) = v0 c
          ∧ r.2.mem ((c.tc : Thread Cert.Reference25.nD Cert.Reference25.τ).loc Cert.Reference25.main_v9) = v1 c
          ∧ r.2.mem ((c.tc : Thread Cert.Reference25.nD Cert.Reference25.τ).loc Cert.Reference25.main_arg0) = m' ((c.tc : Thread Cert.Reference25.nD Cert.Reference25.τ).loc Cert.Reference25.main_arg0)
          ∧ r.2.mem ((c.tc : Thread Cert.Reference25.nD Cert.Reference25.τ).loc Cert.Reference25.main_arg1) = m' ((c.tc : Thread Cert.Reference25.nD Cert.Reference25.τ).loc Cert.Reference25.main_arg1)
          ∧ r.2.mem ((c.tc : Thread Cert.Reference25.nD Cert.Reference25.τ).loc Cert.Reference25.main_arg2) = m' ((c.tc : Thread Cert.Reference25.nD Cert.Reference25.τ).loc Cert.Reference25.main_arg2)
          ∧ r.2.mem ((c.tc : Thread Cert.Reference25.nD Cert.Reference25.τ).loc Cert.Reference25.main_arg3) = m' ((c.tc : Thread Cert.Reference25.nD Cert.Reference25.τ).loc Cert.Reference25.main_arg3)
          ∧ r.2.mem ((c.tc : Thread Cert.Reference25.nD Cert.Reference25.τ).loc Cert.Reference25.main_arg4) = m' ((c.tc : Thread Cert.Reference25.nD Cert.Reference25.τ).loc Cert.Reference25.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hReference25 : Cert.Reference25.Facts) (hPre_finite : Cert.Pre_finite.Facts) (hPre_picked : Cert.Pre_picked.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25) (hPre_picked := hPre_picked)
    ∧ quiescent_Kernel25Ideal (hKernel25Ideal := hKernel25Ideal) (hPre_picked := hPre_picked)
    ∧ quiescent_Reference25Ideal (hReference25Ideal := hReference25Ideal)
    ∧ quiescent_Reference25Ideal_pre_picked (hReference25Ideal := hReference25Ideal) (hPre_picked := hPre_picked)
    ∧ quiescent_Reference25 (hReference25 := hReference25)
    ∧ quiescent_Reference25_pre_picked (hReference25 := hReference25) (hPre_picked := hPre_picked)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal) (hPre_picked := hPre_picked)
    ∧ bitexact_Kernel25_Reference25 (hKernel25 := hKernel25) (hReference25 := hReference25) (hPre_picked := hPre_picked)
-- ==== Pre_finite.lean ====
abbrev S2048x1024 : Shape := ⟨2, ![2048, 1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1024x4096 .f32) (main_arg2 : FVec F S1024x4096 .f32) (main_arg3 : FVec F S4096x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_picked.lean ====
abbrev S4 : Shape := ⟨1, ![4]⟩
abbrev S8x1024x512 : Shape := ⟨3, ![8, 1024, 512]⟩
abbrev S4x1024x512 : Shape := ⟨3, ![4, 1024, 512]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : IVec S4 32) (main_arg1 : FVec F S8x1024x512 .bf16) (main_arg2 : FVec F S8x1024x512 .bf16) (main_arg3 : FVec F S4x1024x512 .bf16) (main_arg4 : FVec F S4x1024x512 .bf16) : IVec S_ 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 8#32
  let main_v2 : IVec S4 32 := broadcastInDim S4 ![] bcast_S_S4 main_c_0
  let main_v3 : IVec S4 1 := cmpi .slt main_arg0 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S1024x8x512 : Shape := ⟨3, ![1024, 8, 512]⟩
abbrev S8x1024x512 : Shape := ⟨3, ![8, 1024, 512]⟩
abbrev S1024x1024 : Shape := ⟨2, ![1024, 1024]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 20
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S2048x1024, .bf16⟩
  | .hbm, ⟨10, _⟩ => ⟨S4096x1024, .bf16⟩
  | .hbm, ⟨11, _⟩ => ⟨S1024x4096, .bf16⟩
  | .hbm, ⟨12, _⟩ => ⟨S1024x8x512, .bf16⟩
  | .hbm, ⟨13, _⟩ => ⟨S8x1024x512, .bf16⟩
  | .hbm, ⟨14, _⟩ => ⟨S1024x4096, .bf16⟩
  | .hbm, ⟨15, _⟩ => ⟨S1024x8x512, .bf16⟩
  | .hbm, ⟨16, _⟩ => ⟨S8x1024x512, .bf16⟩
  | .hbm, ⟨17, _⟩ => ⟨S2048x4096, .bf16⟩
  | .hbm, ⟨18, _⟩ => ⟨S2048x4096, .bf16⟩
  | .hbm, ⟨19, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S2048x4096, .f32⟩
  | .hbm, ⟨32, _⟩ => ⟨S2048x4096, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S_, .f32⟩
  | .hbm, ⟨37, _⟩ => ⟨S2048x4096, .f32⟩
  | .hbm, ⟨38, _⟩ => ⟨S2048x4096, .f32⟩
  | .hbm, ⟨39, _⟩ => ⟨S_, .f32⟩
  | .hbm, ⟨40, _⟩ => ⟨S2048x4096, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S2048x1024, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S2048x4096, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x4096, .bf16⟩
  | .hbm, ⟨57, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_v11_2 : Ref sig .tc := ⟨.hbm, 38, rfl⟩
abbrev main_call2_cst_1 : Ref sig .tc := ⟨.hbm, 39, rfl⟩
abbrev main_call2_v6 : Ref sig .tc := ⟨.hbm, 40, rfl⟩
abbrev main_call2_v7 : Ref sig .tc := ⟨.hbm, 41, rfl⟩
abbrev main_v11_1 : Ref sig .tc := ⟨.hbm, 42, rfl⟩
abbrev main_v11_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩

abbrev nD : Nat := 1
abbrev τ : Topo := Topo.v7x

variable {F : FTy → Type} [FloatOps F]
-- ==== Kernel2.lean ====
abbrev S2048x1024 : Shape := ⟨2, ![2048, 1024]⟩
abbrev S1024x6144 : Shape := ⟨2, ![1024, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x6144 : Shape := ⟨2, ![2048, 6144]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x128x128 : Shape := ⟨3, ![8, 128, 128]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S1024 : Shape := ⟨1, ![1024]⟩

abbrev nBuf : Space → Nat
  | .hbm => 25
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S2048x1024, .f32⟩
  | .hbm, ⟨8, _⟩ => ⟨S2048x6144, .bf16⟩
  | .hbm, ⟨9, _⟩ => ⟨S2048x6144, .f32⟩
  | .hbm, ⟨10, _⟩ => ⟨S2048x6144, .bf16⟩
  | .hbm, ⟨11, _⟩ => ⟨S8x128, .f32⟩
  | .hbm, ⟨12, _⟩ => ⟨S128x8, .f32⟩
  | .hbm, ⟨13, _⟩ => ⟨S128x8x128, .f32⟩
  | .hbm, ⟨14, _⟩ => ⟨S128x1024, .f32⟩
  | .hbm, ⟨15, _⟩ => ⟨S8x128x128, .f32⟩
  | .hbm, ⟨16, _⟩ => ⟨S2048x6144, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x128x128, .f32⟩
  | .hbm, ⟨22, _⟩ => ⟨S128x128, .f32⟩
  | .hbm, ⟨23, _⟩ => ⟨S128x8, .f32⟩
  | .hbm, ⟨24, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x2048, .bf16⟩
  | .local _ .vmem, ⟨13, _⟩ => ⟨S128x2048, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_130 : BitVec 32 := 0#32
  let v396 : BitVec 1 := Scalar.cmpi .eq arg0 c0_i32_130
  let v397 : BitVec 32 := Scalar.extui v396
  let c0_i32_131 : BitVec 32 := 0#32
  let v398 : BitVec 1 := Scalar.cmpi .ne v397 c0_i32_131
  v398

def k0_cond2 (i : grid0.Coords) : BitVec 1 :=
  let arg0 : BitVec 32 := BitVec.ofNat 32 (i 0).val
  let c0_i32_132 : BitVec 32 := 0#32
  let v399 : BitVec 1 := Scalar.cmpi .sgt arg0 c0_i32_132
  let v400 : BitVec 32 := Scalar.extui v399
  let c0_i32_133 : BitVec 32 := 0#32
  let v401 : BitVec 1 := Scalar.cmpi .ne v400 c0_i32_133
  v401

def k0_cond3 (i : grid0.Coords) : BitVec 1 :=
  let arg0 : BitVec 32 := BitVec.ofNat 32 (i 0).val
  let c0_i32_134 : BitVec 32 := 0#32
  let v402 : BitVec 1 := Scalar.cmpi .eq arg0 c0_i32_134
  let v403 : BitVec 32 := Scalar.extui v402
  let c0_i32_135 : BitVec 32 := 0#32
  let v404 : BitVec 1 := Scalar.cmpi .ne v403 c0_i32_135
  v404

def k0_cond4 (i : grid0.Coords) : BitVec 1 :=
  let arg0 : BitVec 32 := BitVec.ofNat 32 (i 0).val
  let c0_i32_136 : BitVec 32 := 0#32
  let v405 : BitVec 1 := Scalar.cmpi .sgt arg0 c0_i32_136
  let v406 : BitVec 32 := Scalar.extui v405
  let c0_i32_137 : BitVec 32 := 0#32
  let v407 : BitVec 1 := Scalar.cmpi .ne v406 c0_i32_137
  v407

def k0_cond5 (i : grid0.Coords) : BitVec 1 :=
  let arg0 : BitVec 32 := BitVec.ofNat 32 (i 0).val
  let c0_i32_138 : BitVec 32 := 0#32
  let v408 : BitVec 1 := Scalar.cmpi .eq arg0 c0_i32_138
  let v409 : BitVec 32 := Scalar.extui v408
  let c0_i32_139 : BitVec 32 := 0#32
  let v410 : BitVec 1 := Scalar.cmpi .ne v409 c0_i32_139
  v410

def k0_cond6 (i : grid0.Coords) : BitVec 1 :=
  let arg0 : BitVec 32 := BitVec.ofNat 32 (i 0).val
  let c0_i32_140 : BitVec 32 := 0#32
  let v411 : BitVec 1 := Scalar.cmpi .sgt arg0 c0_i32_140
  let v412 : BitVec 32 := Scalar.extui v411
  let c0_i32_141 : BitVec 32 := 0#32
  let v413 : BitVec 1 := Scalar.cmpi .ne v412 c0_i32_141
  v413

def k0_cond7 (i : grid0.Coords) : BitVec 1 :=
  let arg0 : BitVec 32 := BitVec.ofNat 32 (i 0).val
  let c0_i32_142 : BitVec 32 := 0#32
  let v414 : BitVec 1 := Scalar.cmpi .eq arg0 c0_i32_142
  let v415 : BitVec 32 := Scalar.extui v414
  let c0_i32_143 : BitVec 32 := 0#32
  let v416 : BitVec 1 := Scalar.cmpi .ne v415 c0_i32_143
  v416

def k0_cond8 (i : grid0.Coords) : BitVec 1 :=
  let arg0 : BitVec 32 := BitVec.ofNat 32 (i 0).val
  let c0_i32_144 : BitVec 32 := 0#32
  let v417 : BitVec 1 := Scalar.cmpi .sgt arg0 c0_i32_144
  let v418 : BitVec 32 := Scalar.extui v417
  let c0_i32_145 : BitVec 32 := 0#32
  let v419 : BitVec 1 := Scalar.cmpi .ne v418 c0_i32_145
  v419

def k0_cond9 (i : grid0.Coords) : BitVec 1 :=
  let arg0 : BitVec 32 := BitVec.ofNat 32 (i 0).val
  let c0_i32_146 : BitVec 32 := 0#32
  let v420 : BitVec 1 := Scalar.cmpi .eq arg0 c0_i32_146
  let v421 : BitVec 32 := Scalar.extui v420
  let c0_i32_147 : BitVec 32 := 0#32
  let v422 : BitVec 1 := Scalar.cmpi .ne v421 c0_i32_147
  v422

def k0_cond10 (i : grid0.Coords) : BitVec 1 :=
  let arg0 : BitVec 32 := BitVec.ofNat 32 (i 0).val
  let c0_i32_148 : BitVec 32 := 0#32
  let v423 : BitVec 1 := Scalar.cmpi .sgt arg0 c0_i32_148
  let v424 : BitVec 32 := Scalar.extui v423
  let c0_i32_149 : BitVec 32 := 0#32
  let v425 : BitVec 1 := Scalar.cmpi .ne v424 c0_i32_149
  v425

def k0_cond11 (i : grid0.Coords) : BitVec 1 :=
  let arg0 : BitVec 32 := BitVec.ofNat 32 (i 0).val
  let c0_i32_150 : BitVec 32 := 0#32
  let v426 : BitVec 1 := Scalar.cmpi .eq arg0 c0_i32_150
  let v427 : BitVec 32 := Scalar.extui v426
  let c0_i32_151 : BitVec 32 := 0#32
  let v428 : BitVec 1 := Scalar.cmpi .ne v427 c0_i32_151
  v428

def k0_cond12 (i : grid0.Coords) : BitVec 1 :=
  let arg0 : BitVec 32 := BitVec.ofNat 32 (i 0).val
  let c0_i32_152 : BitVec 32 := 0#32
  let v429 : BitVec 1 := Scalar.cmpi .sgt arg0 c0_i32_152
  let v430 : BitVec 32 := Scalar.extui v429
  let c0_i32_153 : BitVec 32 := 0#32
  let v431 : BitVec 1 := Scalar.cmpi .ne v430 c0_i32_153
  v431

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S2048x1024 : Shape := ⟨2, ![2048, 1024]⟩
abbrev S1024x6144 : Shape := ⟨2, ![1024, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x6144 : Shape := ⟨2, ![2048, 6144]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S1024 : Shape := ⟨1, ![1024]⟩
abbrev S2048x4096 : Shape := ⟨2, ![2048, 4096]⟩

abbrev nBuf : Space → Nat
  | .hbm => 234
  | .vmem => 0
  | .smem => 0
  | _ => 0

abbrev hbmTy0_0 (i : Nat) : BufTy := match i % 128 with
  | 0 => ⟨S2048x1024, .f32⟩
  | 1 => ⟨S1024x6144, .f32⟩
  | 2 => ⟨S1x6144, .f32⟩
  | 3 => ⟨S1x1024, .f32⟩
  | 4 => ⟨S1x1024, .f32⟩
  | 5 => ⟨S1x8x128x128, .f32⟩
  | 6 => ⟨S1x8x128, .f32⟩
  | 7 => ⟨S2048x1024, .f32⟩
  | 8 => ⟨S2048x6144, .bf16⟩
  | 9 => ⟨S2048x6144, .f32⟩
  | 10 => ⟨S2048x1024, .f32⟩
  | 11 => ⟨S2048x1024, .f32⟩
  | 12 => ⟨S1x1024, .f32⟩
  | 13 => ⟨S1x1024, .f32⟩
  | 14 => ⟨S8x128x128, .f32⟩
  | 15 => ⟨S8x128, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S2048x1024, .f32⟩
  | 62 => ⟨S_, .f32⟩
  | 63 => ⟨S2048x1024, .f32⟩
  | 64 => ⟨S2048x1024, .f32⟩
  | 65 => ⟨S_, .f32⟩
  | 66 => ⟨S2048x1024, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S_, .f32⟩
  | 73 => ⟨S2048x1024, .f32⟩
  | 74 => ⟨S2048x1024, .f32⟩
  | 75 => ⟨S2048x1024, .f32⟩
  | 76 => ⟨S_, .f32⟩
  | 77 => ⟨S2048, .f32⟩
  | 78 => ⟨S2048x1, .f32⟩
  | 79 => ⟨S_, .f32⟩
  | 80 => ⟨S2048x1, .f32⟩
  | 81 => ⟨S2048x1, .f32⟩
  | 82 => ⟨S2048x1024, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S2048x1024, .f32⟩
  | 95 => ⟨S2048x1024, .f32⟩
  | 96 => ⟨S_, .f32⟩
  | 97 => ⟨S2048x1, .f32⟩
  | 98 => ⟨S2048x1, .f32⟩
  | 99 => ⟨S2048x1, .f32⟩
  | 100 => ⟨S2048x1, .f32⟩
  | 101 => ⟨S_, .f32⟩
  | 102 => ⟨S2048x1, .f32⟩
  | 103 => ⟨S2048x1, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S16x128x8x128, .f32⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S1x128x128, .i1⟩
  | 123 => ⟨S_, .f32⟩
  | 124 => ⟨S8x128x128, .f32⟩
  | 125 => ⟨S8x128x128, .i1⟩
  | 126 => ⟨S8x128x128, .f32⟩
  | 127 => ⟨S_, .f32⟩
  | _ => ⟨S2048x1024, .f32⟩

abbrev hbmTy0_1 (i : Nat) : BufTy := match i % 128 with
  | 0 => ⟨S8x128x128, .f32⟩
  | 1 => ⟨S8x16x128x128, .f32⟩
  | 2 => ⟨S16x128x8x128, .f32⟩
  | 3 => ⟨S128x8, .f32⟩
  | 4 => ⟨S1x128x8x1, .f32⟩
  | 5 => ⟨S16x128x8x128, .f32⟩
  | 6 => ⟨S16x128x8x128, .f32⟩
  | 7 => ⟨S2048x1024, .f32⟩
  | 8 => ⟨S2048x1024, .f32⟩
  | 9 => ⟨S2048x1024, .f32⟩
  | 10 => ⟨S2048x1024, .f32⟩
  | 11 => ⟨S16x128x8x128, .f32⟩
  | 12 => ⟨S_, .f32⟩
  | 13 => ⟨S128x8, .f32⟩
  | 14 => ⟨S1x128x8x1, .f32⟩
  | 15 => ⟨S_, .f32⟩
  | 16 => ⟨S128x8, .f32⟩
  | 17 => ⟨S8x128, .f32⟩
  | 18 => ⟨S8x16x128x128, .f32⟩
  | 19 => ⟨S8x128x128, .f32⟩
  | 20 => ⟨S8x16x128x128, .f32⟩
  | 21 => ⟨S16x128x8x128, .f32⟩
  | 22 => ⟨S_, .f32⟩
  | 23 => ⟨S8x128x128, .f32⟩
  | 24 => ⟨S8x128x128, .f32⟩
  | 25 => ⟨S2048x1024, .f32⟩
  | 26 => ⟨S_, .f32⟩
  | 27 => ⟨S1024, .f32⟩
  | 28 => ⟨S1x1024, .f32⟩
  | 29 => ⟨S2048x1024, .f32⟩
  | 30 => ⟨S_, .f32⟩
  | 31 => ⟨S1024, .f32⟩
  | 32 => ⟨S1x1024, .f32⟩
  | 33 => ⟨S2048x1024, .f32⟩
  | 34 => ⟨S2048x1024, .f32⟩
  | 35 => ⟨S2048x1024, .f32⟩
  | 36 => ⟨S_, .f32⟩
  | 37 => ⟨S2048, .f32⟩
  | 38 => ⟨S2048x1, .f32⟩
  | 39 => ⟨S2048x1024, .f32⟩
  | 40 => ⟨S2048x1024, .f32⟩
  | 41 => ⟨S2048x1, .f32⟩
  | 42 => ⟨S2048x1024, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S_, .f32⟩
  | 50 => ⟨S2048, .f32⟩
  | 51 => ⟨S2048x1024, .f32⟩
  | 52 => ⟨S2048x1024, .f32⟩
  | 53 => ⟨S2048x1024, .f32⟩
  | 54 => ⟨S_, .f32⟩
  | 55 => ⟨S2048, .f32⟩
  | 56 => ⟨S2048x1, .f32⟩
  | 57 => ⟨S2048x1024, .f32⟩
  | 58 => ⟨S2048x1, .f32⟩
  | 59 => ⟨S_, .f32⟩
  | 60 => ⟨S2048x1, .f32⟩
  | 61 => ⟨S2048x1, .f32⟩
  | 62 => ⟨S_, .f32⟩
  | 63 => ⟨S2048, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S2048x1024, .f32⟩
  | 72 => ⟨S_, .f32⟩
  | 73 => ⟨S2048x1024, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S1024, .f32⟩
  | 83 => ⟨S1x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S2048x1024, .f32⟩
  | 98 => ⟨S2048x1024, .f32⟩
  | 99 => ⟨S_, .f32⟩
  | 100 => ⟨S1024, .f32⟩
  | 101 => ⟨S1x1024, .f32⟩
  | 102 => ⟨S2048x1024, .bf16⟩
  | 103 => ⟨S2048x1024, .bf16⟩
  | 104 => ⟨S2048x4096, .bf16⟩
  | 105 => ⟨S2048x6144, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c : Ref sig .tc := ⟨.hbm, 111, rfl⟩
abbrev main_v81 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v82 : Ref sig .tc := ⟨.hbm, 121, rfl⟩
abbrev main_v83 : Ref sig .tc := ⟨.hbm, 122, rfl⟩
abbrev main_cst_20 : Ref sig .tc := ⟨.hbm, 123, rfl⟩
abbrev main_v84 : Ref sig .tc := ⟨.hbm, 124, rfl⟩
abbrev main_v85_1 : Ref sig .tc := ⟨.hbm, 125, rfl⟩
abbrev main_v85_0 : Ref sig .tc := ⟨.hbm, 126, rfl⟩
abbrev main_call1_cst : Ref sig .tc := ⟨.hbm, 127, rfl⟩
abbrev main_v85_2 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_cst_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call2_cst : Ref sig .tc := ⟨.hbm, 150, rfl⟩
abbrev main_call2_v0 : Ref sig .tc := ⟨.hbm, 151, rfl⟩
abbrev main_v105 : Ref sig .tc := ⟨.hbm, 152, rfl⟩
abbrev main_v106 : Ref sig .tc := ⟨.hbm, 153, rfl⟩
abbrev main_cst_23 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_26 : Ref sig .tc := ⟨.hbm, 171, rfl⟩
abbrev main_v121 : Ref sig .tc := ⟨.hbm, 172, rfl⟩
abbrev main_v122 : Ref sig .tc := ⟨.hbm, 173, rfl⟩
abbrev main_cst_27 : Ref sig .tc := ⟨.hbm, 174, rfl⟩
abbrev main_v123 : Ref sig .tc := ⟨.hbm, 175, rfl⟩
abbrev main_v124 : Ref sig .tc := ⟨.hbm, 176, rfl⟩
abbrev main_cst_28 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_30 : Ref sig .tc := ⟨.hbm, 187, rfl⟩
abbrev main_v133 : Ref sig .tc := ⟨.hbm, 188, rfl⟩
abbrev main_v134 : Ref sig .tc := ⟨.hbm, 189, rfl⟩
abbrev main_cst_31 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_32 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_33 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_34 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_35 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_36 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_37 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_38 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_cst_39 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩

abbrev nD : Nat := 1
abbrev τ : Topo := Topo.v7x

variable {F : FTy → Type} [FloatOps F]
-- ==== Kernel4.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S512x1024 : Shape := ⟨2, ![512, 1024]⟩
abbrev S2048x512 : Shape := ⟨2, ![2048, 512]⟩

abbrev nBuf : Space → Nat
  | .hbm => 13
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S2048x1024, .bf16⟩
  | .hbm, ⟨10, _⟩ => ⟨S4096x1024, .bf16⟩
  | .hbm, ⟨11, _⟩ => ⟨S2048x4096, .bf16⟩
  | .hbm, ⟨12, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x4096, .f32⟩
  | .hbm, ⟨28, _⟩ => ⟨S2048x4096, .f32⟩
  | .hbm, ⟨29, _⟩ => ⟨S2048x4096, .bf16⟩
  | .hbm, ⟨30, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel5.lean ====
abbrev S2048x1024 : Shape := ⟨2, ![2048, 1024]⟩
abbrev S1024x6144 : Shape := ⟨2, ![1024, 6144]⟩
abbrev S1x6144 : Shape := ⟨2, ![1, 6144]⟩
abbrev S1024x1024 : Shape := ⟨2, ![1024, 1024]⟩
abbrev S2048x6144 : Shape := ⟨2, ![2048, 6144]⟩
abbrev S1x1024 : Shape := ⟨2, ![1, 1024]⟩
abbrev S256x1024 : Shape := ⟨2, ![256, 1024]⟩
abbrev S256x2048 : Shape := ⟨2, ![256, 2048]⟩
abbrev S1024 : Shape := ⟨1, ![1024]⟩
abbrev S2048x2048 : Shape := ⟨2, ![2048, 2048]⟩

abbrev nBuf : Space → Nat
  | .hbm => 27
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S1x6144, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x6144, .f32⟩
  | .hbm, ⟨10, _⟩ => ⟨S2048x6144, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S2048x6144, .bf16⟩
  | .hbm, ⟨20, _⟩ => ⟨S2048x1024, .bf16⟩
  | .hbm, ⟨21, _⟩ => ⟨S2048x1024, .bf16⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1x1024, .f32⟩
  | .hbm, ⟨26, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_35 : BitVec 32 := 0#32
  let v59 : BitVec 1 := Scalar.cmpi .ne v58 c0_i32_35
  v59

def k0_cond2 (i : grid0.Coords) : BitVec 1 :=
  let arg0 : BitVec 32 := BitVec.ofNat 32 (i 0).val
  let c0_i32_36 : BitVec 32 := 0#32
  let v60 : BitVec 1 := Scalar.cmpi .sgt arg0 c0_i32_36
  let v61 : BitVec 32 := Scalar.extui v60
  let c0_i32_37 : BitVec 32 := 0#32
  let v62 : BitVec 1 := Scalar.cmpi .ne v61 c0_i32_37
  v62

def k0_cond3 (i : grid0.Coords) : BitVec 1 :=
  let arg0 : BitVec 32 := BitVec.ofNat 32 (i 0).val
  let c0_i32_38 : BitVec 32 := 0#32
  let v63 : BitVec 1 := Scalar.cmpi .eq arg0 c0_i32_38
  let v64 : BitVec 32 := Scalar.extui v63
  let c0_i32_39 : BitVec 32 := 0#32
  let v65 : BitVec 1 := Scalar.cmpi .ne v64 c0_i32_39
  v65

def k0_cond4 (i : grid0.Coords) : BitVec 1 :=
  let arg0 : BitVec 32 := BitVec.ofNat 32 (i 0).val
  let c0_i32_40 : BitVec 32 := 0#32
  let v66 : BitVec 1 := Scalar.cmpi .sgt arg0 c0_i32_40
  let v67 : BitVec 32 := Scalar.extui v66
  let c0_i32_41 : BitVec 32 := 0#32
  let v68 : BitVec 1 := Scalar.cmpi .ne v67 c0_i32_41
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S2048x1024 : Shape := ⟨2, ![2048, 1024]⟩
abbrev S1024x6144 : Shape := ⟨2, ![1024, 6144]⟩
abbrev S1x6144 : Shape := ⟨2, ![1, 6144]⟩
abbrev S1024x1024 : Shape := ⟨2, ![1024, 1024]⟩
abbrev S2048x6144 : Shape := ⟨2, ![2048, 6144]⟩
abbrev S1x1024 : Shape := ⟨2, ![1, 1024]⟩
abbrev S_ : Shape := ⟨0, ![]⟩
abbrev S1024 : Shape := ⟨1, ![1024]⟩
abbrev S2048x2048 : Shape := ⟨2, ![2048, 2048]⟩

abbrev nBuf : Space → Nat
  | .hbm => 114
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S1x6144, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x6144, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S2048x1024, .f32⟩
  | .hbm, ⟨109, _⟩ => ⟨S2048x1024, .f32⟩
  | .hbm, ⟨110, _⟩ => ⟨S2048x2048, .f32⟩
  | .hbm, ⟨111, _⟩ => ⟨S2048x2048, .bf16⟩
  | .hbm, ⟨112, _⟩ => ⟨S2048x1024, .bf16⟩
  | .hbm, ⟨113, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_30 : BitVec 32 := 0#32
  let v69 : BitVec 1 := Scalar.cmpi .ne v68 c0_i32_30
  v69

def k0_cond2 (i : grid0.Coords) : BitVec 1 :=
  let arg0 : BitVec 32 := BitVec.ofNat 32 (i 0).val
  let c0_i32_31 : BitVec 32 := 0#32
  let v70 : BitVec 1 := Scalar.cmpi .sgt arg0 c0_i32_31
  let v71 : BitVec 32 := Scalar.extui v70
  let c0_i32_32 : BitVec 32 := 0#32
  let v72 : BitVec 1 := Scalar.cmpi .ne v71 c0_i32_32
  v72

def k0_cond3 (i : grid0.Coords) : BitVec 1 :=
  let arg0 : BitVec 32 := BitVec.ofNat 32 (i 0).val
  let c0_i32_33 : BitVec 32 := 0#32
  let v73 : BitVec 1 := Scalar.cmpi .eq arg0 c0_i32_33
  let v74 : BitVec 32 := Scalar.extui v73
  let c0_i32_34 : BitVec 32 := 0#32
  let v75 : BitVec 1 := Scalar.cmpi .ne v74 c0_i32_34
  v75

def k0_cond4 (i : grid0.Coords) : BitVec 1 :=
  let arg0 : BitVec 32 := BitVec.ofNat 32 (i 0).val
  let c0_i32_35 : BitVec 32 := 0#32
  let v76 : BitVec 1 := Scalar.cmpi .sgt arg0 c0_i32_35
  let v77 : BitVec 32 := Scalar.extui v76
  let c0_i32_36 : BitVec 32 := 0#32
  let v78 : BitVec 1 := Scalar.cmpi .ne v77 c0_i32_36
  v78

def k0_cond5 (i : grid0.Coords) : BitVec 1 :=
  let arg0 : BitVec 32 := BitVec.ofNat 32 (i 0).val
  let c0_i32_37 : BitVec 32 := 0#32
  let v79 : BitVec 1 := Scalar.cmpi .eq arg0 c0_i32_37
  let v80 : BitVec 32 := Scalar.extui v79
  let c0_i32_38 : BitVec 32 := 0#32
  let v81 : BitVec 1 := Scalar.cmpi .ne v80 c0_i32_38
  v81

def k0_cond6 (i : grid0.Coords) : BitVec 1 :=
  let arg0 : BitVec 32 := BitVec.ofNat 32 (i 0).val
  let c0_i32_39 : BitVec 32 := 0#32
  let v82 : BitVec 1 := Scalar.cmpi .sgt arg0 c0_i32_39
  let v83 : BitVec 32 := Scalar.extui v82
  let c0_i32_40 : BitVec 32 := 0#32
  let v84 : BitVec 1 := Scalar.cmpi .ne v83 c0_i32_40
  v84

def k0_cond7 (i : grid0.Coords) : BitVec 1 :=
  let arg0 : BitVec 32 := BitVec.ofNat 32 (i 0).val
  let c0_i32_41 : BitVec 32 := 0#32
  let v85 : BitVec 1 := Scalar.cmpi .eq arg0 c0_i32_41
  let v86 : BitVec 32 := Scalar.extui v85
  let c0_i32_42 : BitVec 32 := 0#32
  let v87 : BitVec 1 := Scalar.cmpi .ne v86 c0_i32_42
  v87

def k0_cond8 (i : grid0.Coords) : BitVec 1 :=
  let arg0 : BitVec 32 := BitVec.ofNat 32 (i 0).val
  let c0_i32_43 : BitVec 32 := 0#32
  let v88 : BitVec 1 := Scalar.cmpi .sgt arg0 c0_i32_43
  let v89 : BitVec 32 := Scalar.extui v88
  let c0_i32_44 : BitVec 32 := 0#32
  let v90 : BitVec 1 := Scalar.cmpi .ne v89 c0_i32_44
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel7.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 15
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1, .f32⟩
  | .hbm, ⟨14, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_32 : BitVec 32 := 0#32
  let v79 : BitVec 1 := Scalar.cmpi .ne v78 c0_i32_32
  v79

def k0_cond2 (i : grid0.Coords) : BitVec 1 :=
  let arg0 : BitVec 32 := BitVec.ofNat 32 (i 0).val
  let c0_i32_33 : BitVec 32 := 0#32
  let v80 : BitVec 1 := Scalar.cmpi .sgt arg0 c0_i32_33
  let v81 : BitVec 32 := Scalar.extui v80
  let c0_i32_34 : BitVec 32 := 0#32
  let v82 : BitVec 1 := Scalar.cmpi .ne v81 c0_i32_34
  v82

def k0_cond3 (i : grid0.Coords) : BitVec 1 :=
  let arg0 : BitVec 32 := BitVec.ofNat 32 (i 0).val
  let c0_i32_35 : BitVec 32 := 0#32
  let v83 : BitVec 1 := Scalar.cmpi .eq arg0 c0_i32_35
  let v84 : BitVec 32 := Scalar.extui v83
  let c0_i32_36 : BitVec 32 := 0#32
  let v85 : BitVec 1 := Scalar.cmpi .ne v84 c0_i32_36
  v85

def k0_cond4 (i : grid0.Coords) : BitVec 1 :=
  let arg0 : BitVec 32 := BitVec.ofNat 32 (i 0).val
  let c0_i32_37 : BitVec 32 := 0#32
  let v86 : BitVec 1 := Scalar.cmpi .sgt arg0 c0_i32_37
  let v87 : BitVec 32 := Scalar.extui v86
  let c0_i32_38 : BitVec 32 := 0#32
  let v88 : BitVec 1 := Scalar.cmpi .ne v87 c0_i32_38
  v88

def k0_cond5 (i : grid0.Coords) : BitVec 1 :=
  let arg0 : BitVec 32 := BitVec.ofNat 32 (i 0).val
  let c0_i32_39 : BitVec 32 := 0#32
  let v89 : BitVec 1 := Scalar.cmpi .eq arg0 c0_i32_39
  let v90 : BitVec 32 := Scalar.extui v89
  let c0_i32_40 : BitVec 32 := 0#32
  let v91 : BitVec 1 := Scalar.cmpi .ne v90 c0_i32_40
  v91

def k0_cond6 (i : grid0.Coords) : BitVec 1 :=
  let arg0 : BitVec 32 := BitVec.ofNat 32 (i 0).val
  let c0_i32_41 : BitVec 32 := 0#32
  let v92 : BitVec 1 := Scalar.cmpi .sgt arg0 c0_i32_41
  let v93 : BitVec 32 := Scalar.extui v92
  let c0_i32_42 : BitVec 32 := 0#32
  let v94 : BitVec 1 := Scalar.cmpi .ne v93 c0_i32_42
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S2048x1024 : Shape := ⟨2, ![2048, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32_22 : BitVec 32 := 0#32
  let v55 : BitVec 1 := Scalar.cmpi .sgt arg0 c0_i32_22
  let v56 : BitVec 32 := Scalar.extui v55
  let c0_i32_23 : BitVec 32 := 0#32
  let v57 : BitVec 1 := Scalar.cmpi .ne v56 c0_i32_23
  v57

def k0_cond3 (i : grid0.Coords) : BitVec 1 :=
  let arg0 : BitVec 32 := BitVec.ofNat 32 (i 0).val
  let c0_i32_24 : BitVec 32 := 0#32
  let v58 : BitVec 1 := Scalar.cmpi .eq arg0 c0_i32_24
  let v59 : BitVec 32 := Scalar.extui v58
  let c0_i32_25 : BitVec 32 := 0#32
  let v60 : BitVec 1 := Scalar.cmpi .ne v59 c0_i32_25
  v60

def k0_cond4 (i : grid0.Coords) : BitVec 1 :=
  let arg0 : BitVec 32 := BitVec.ofNat 32 (i 0).val
  let c0_i32_26 : BitVec 32 := 0#32
  let v61 : BitVec 1 := Scalar.cmpi .sgt arg0 c0_i32_26
  let v62 : BitVec 32 := Scalar.extui v61
  let c0_i32_27 : BitVec 32 := 0#32
  let v63 : BitVec 1 := Scalar.cmpi .ne v62 c0_i32_27
  v63

def k0_cond5 (i : grid0.Coords) : BitVec 1 :=
  let arg0 : BitVec 32 := BitVec.ofNat 32 (i 0).val
  let c0_i32_28 : BitVec 32 := 0#32
  let v64 : BitVec 1 := Scalar.cmpi .eq arg0 c0_i32_28
  let v65 : BitVec 32 := Scalar.extui v64
  let c0_i32_29 : BitVec 32 := 0#32
  let v66 : BitVec 1 := Scalar.cmpi .ne v65 c0_i32_29
  v66

def k0_cond6 (i : grid0.Coords) : BitVec 1 :=
  let arg0 : BitVec 32 := BitVec.ofNat 32 (i 0).val
  let c0_i32_30 : BitVec 32 := 0#32
  let v67 : BitVec 1 := Scalar.cmpi .sgt arg0 c0_i32_30
  let v68 : BitVec 32 := Scalar.extui v67
  let c0_i32_31 : BitVec 32 := 0#32
  let v69 : BitVec 1 := Scalar.cmpi .ne v68 c0_i32_31
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel9.lean ====
abbrev S8x1024 : Shape := ⟨2, ![8, 1024]⟩
abbrev S8x1152 : Shape := ⟨2, ![8, 1152]⟩
abbrev S1x1024x1152 : Shape := ⟨3, ![1, 1024, 1152]⟩
abbrev S1024x8 : Shape := ⟨2, ![1024, 8]⟩
abbrev S1024x1152 : Shape := ⟨2, ![1024, 1152]⟩
abbrev S256x8 : Shape := ⟨2, ![256, 8]⟩
abbrev S256x1152 : Shape := ⟨2, ![256, 1152]⟩
abbrev S256x1 : Shape := ⟨2, ![256, 1]⟩
abbrev S1x1152 : Shape := ⟨2, ![1, 1152]⟩

abbrev nBuf : Space → Nat
  | .hbm => 14
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S8x1152, .f32⟩
  | .hbm, ⟨3, _⟩ => ⟨S1x1024x1152, .f32⟩
  | .hbm, ⟨4, _⟩ => ⟨S1x1024x1152, .f32⟩
  | .hbm, ⟨5, _⟩ => ⟨S1x1024x1152, .f32⟩
  | .hbm, ⟨6, _⟩ => ⟨S1024x8, .f32⟩
  | .hbm, ⟨7, _⟩ => ⟨S1024x1152, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S1024x1152, .f32⟩
  | .hbm, ⟨12, _⟩ => ⟨S1024x1152, .f32⟩
  | .hbm, ⟨13, _⟩ => ⟨S1024x1152, .f32⟩
  | .local _ .vmem, ⟨0, _⟩ => ⟨S256x8, .f32⟩
  | .local _ .vmem, ⟨1, _⟩ => ⟨S256x8, .f32⟩
  | .local _ .vmem, ⟨2, _⟩ => ⟨S8x1152, .f32⟩
  | .local _ .vmem, ⟨3, _⟩ => ⟨S8x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8x1024 : Shape := ⟨2, ![8, 1024]⟩
abbrev S8x1152 : Shape := ⟨2, ![8, 1152]⟩
abbrev S1x1024x1152 : Shape := ⟨3, ![1, 1024, 1152]⟩
abbrev S1024x1152 : Shape := ⟨2, ![1024, 1152]⟩
abbrev S_ : Shape := ⟨0, ![]⟩
abbrev S1152x1024 : Shape := ⟨2, ![1152, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S8x1152, .f32⟩
  | .hbm, ⟨3, _⟩ => ⟨S1x1024x1152, .f32⟩
  | .hbm, ⟨4, _⟩ => ⟨S1x1024x1152, .f32⟩
  | .hbm, ⟨5, _⟩ => ⟨S1x1024x1152, .f32⟩
  | .hbm, ⟨6, _⟩ => ⟨S1024x1152, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1152, .f32⟩
  | .hbm, ⟨17, _⟩ => ⟨S8x1152, .f32⟩
  | .hbm, ⟨18, _⟩ => ⟨S1152x1024, .f32⟩
  | .hbm, ⟨19, _⟩ => ⟨S1024x1152, .f32⟩
  | .hbm, ⟨20, _⟩ => ⟨S1024x1152, .f32⟩
  | .hbm, ⟨21, _⟩ => ⟨S1024x1152, .f32⟩
  | .hbm, ⟨22, _⟩ => ⟨S1024x1152, .f32⟩
  | .hbm, ⟨23, _⟩ => ⟨S_, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | .hbm, ⟨37, _⟩ => ⟨S1024x1152, .f32⟩
  | .hbm, ⟨38, _⟩ => ⟨S_, .f32⟩
  | .hbm, ⟨39, _⟩ => ⟨S1024x1152, .f32⟩
  | .hbm, ⟨40, _⟩ => ⟨S1024x1152, .f32⟩
  | .hbm, ⟨41, _⟩ => ⟨S_, .f32⟩
  | .hbm, ⟨42, _⟩ => ⟨S1024x1152, .f32⟩
  | .hbm, ⟨43, _⟩ => ⟨S1024x1152, .f32⟩
  | .hbm, ⟨44, _⟩ => ⟨S1024x1152, .f32⟩
  | .hbm, ⟨45, _⟩ => ⟨S_, .f32⟩
  | .hbm, ⟨46, _⟩ => ⟨S1024x1152, .f32⟩
  | .hbm, ⟨47, _⟩ => ⟨S1024x1152, .f32⟩
  | .hbm, ⟨48, _⟩ => ⟨S1024x1152, .f32⟩
  | .hbm, ⟨49, _⟩ => ⟨S_, .f32⟩
  | .hbm, ⟨50, _⟩ => ⟨S1024x1152, .f32⟩
  | .hbm, ⟨51, _⟩ => ⟨S1024x1152, .f32⟩
  | .hbm, ⟨52, _⟩ => ⟨S1024x1152, .f32⟩
  | .hbm, ⟨53, _⟩ => ⟨S_, .f32⟩
  | .hbm, ⟨54, _⟩ => ⟨S1024x1152, .f32⟩
  | .hbm, ⟨55, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel10.lean ====
abbrev S2048x1024 : Shape := ⟨2, ![2048, 1024]⟩
abbrev S1024x6144 : Shape := ⟨2, ![1024, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x6144 : Shape := ⟨2, ![2048, 6144]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x128x128 : Shape := ⟨3, ![8, 128, 128]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 15
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S2048x6144, .f32⟩
  | .hbm, ⟨8, _⟩ => ⟨S2048x6144, .bf16⟩
  | .hbm, ⟨9, _⟩ => ⟨S8x128, .f32⟩
  | .hbm, ⟨10, _⟩ => ⟨S128x8, .f32⟩
  | .hbm, ⟨11, _⟩ => ⟨S128x8x128, .f32⟩
  | .hbm, ⟨12, _⟩ => ⟨S128x1024, .f32⟩
  | .hbm, ⟨13, _⟩ => ⟨S8x128x128, .f32⟩
  | .hbm, ⟨14, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S2048x1024 : Shape := ⟨2, ![2048, 1024]⟩
abbrev S1024x6144 : Shape := ⟨2, ![1024, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x128x128 : Shape := ⟨3, ![8, 128, 128]⟩
abbrev S8x16x128x128 : Shape := ⟨4, ![8, 16, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1024x2048, .f32⟩
  | .hbm, ⟨8, _⟩ => ⟨S2048x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S16x128x8x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S1x128x128, .i1⟩
  | .hbm, ⟨88, _⟩ => ⟨S8x128x128, .f32⟩
  | .hbm, ⟨89, _⟩ => ⟨S8x128x128, .f32⟩
  | .hbm, ⟨90, _⟩ => ⟨S_, .f32⟩
  | .hbm, ⟨91, _⟩ => ⟨S8x128x128, .f32⟩
  | .hbm, ⟨92, _⟩ => ⟨S8x128x128, .i1⟩
  | .hbm, ⟨93, _⟩ => ⟨S8x128x128, .f32⟩
  | .hbm, ⟨94, _⟩ => ⟨S8x16x128x128, .f32⟩
  | .hbm, ⟨95, _⟩ => ⟨S16x128x8x128, .f32⟩
  | .hbm, ⟨96, _⟩ => ⟨S8x128, .f32⟩
  | .hbm, ⟨97, _⟩ => ⟨S128x8, .f32⟩
  | .hbm, ⟨98, _⟩ => ⟨S1x128x8x1, .f32⟩
  | .hbm, ⟨99, _⟩ => ⟨S16x128x8x128, .f32⟩
  | .hbm, ⟨100, _⟩ => ⟨S16x128x8x128, .f32⟩
  | .hbm, ⟨101, _⟩ => ⟨S2048x1024, .f32⟩
  | .hbm, ⟨102, _⟩ => ⟨S2048x1024, .f32⟩
  | .hbm, ⟨103, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_v56 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_call1_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel12.lean ====
abbrev S2048x1024 : Shape := ⟨2, ![2048, 1024]⟩
abbrev S1024x6144 : Shape := ⟨2, ![1024, 6144]⟩
abbrev S1x6144 : Shape := ⟨2, ![1, 6144]⟩
abbrev S1024x1024 : Shape := ⟨2, ![1024, 1024]⟩
abbrev S1x1024 : Shape := ⟨2, ![1, 1024]⟩
abbrev S2048x6144 : Shape := ⟨2, ![2048, 6144]⟩
abbrev S256x1024 : Shape := ⟨2, ![256, 1024]⟩
abbrev S256 : Shape := ⟨1, ![256]⟩
abbrev S256x1 : Shape := ⟨2, ![256, 1]⟩

abbrev nBuf : Space → Nat
  | .hbm => 26
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x6144, .f32⟩
  | .hbm, ⟨4, _⟩ => ⟨S1x6144, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2048x6144, .f32⟩
  | .hbm, ⟨14, _⟩ => ⟨S2048x6144, .bf16⟩
  | .hbm, ⟨15, _⟩ => ⟨S2048x1024, .bf16⟩
  | .hbm, ⟨16, _⟩ => ⟨S2048x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference12Ideal.lean ====
abbrev S2048x1024 : Shape := ⟨2, ![2048, 1024]⟩
abbrev S1024x6144 : Shape := ⟨2, ![1024, 6144]⟩
abbrev S1x6144 : Shape := ⟨2, ![1, 6144]⟩
abbrev S1024x1024 : Shape := ⟨2, ![1024, 1024]⟩
abbrev S1x1024 : Shape := ⟨2, ![1, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x6144, .f32⟩
  | .hbm, ⟨4, _⟩ => ⟨S1x6144, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .bf16⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel13.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S2048x1024, .bf16⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S2048x4096, .bf16⟩
  | .hbm, ⟨11, _⟩ => ⟨S2048x4096, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S2048x4096, .f32⟩
  | .hbm, ⟨4, _⟩ => ⟨S2048x4096, .f32⟩
  | .hbm, ⟨5, _⟩ => ⟨S2048x4096, .bf16⟩
  | .hbm, ⟨6, _⟩ => ⟨S2048x4096, .bf16⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel14.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x4096, .bf16⟩
  | .hbm, ⟨8, _⟩ => ⟨S4096x1024, .bf16⟩
  | .hbm, ⟨9, _⟩ => ⟨S2048x1024, .f32⟩
  | .hbm, ⟨10, _⟩ => ⟨S2048x1024, .bf16⟩
  | .hbm, ⟨11, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference14Ideal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel15.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_30 : BitVec 32 := 0#32
  let v69 : BitVec 1 := Scalar.cmpi .ne v68 c0_i32_30
  v69

def k0_cond2 (i : grid0.Coords) : BitVec 1 :=
  let arg0 : BitVec 32 := BitVec.ofNat 32 (i 0).val
  let c0_i32_31 : BitVec 32 := 0#32
  let v70 : BitVec 1 := Scalar.cmpi .sgt arg0 c0_i32_31
  let v71 : BitVec 32 := Scalar.extui v70
  let c0_i32_32 : BitVec 32 := 0#32
  let v72 : BitVec 1 := Scalar.cmpi .ne v71 c0_i32_32
  v72

def k0_cond3 (i : grid0.Coords) : BitVec 1 :=
  let arg0 : BitVec 32 := BitVec.ofNat 32 (i 0).val
  let c0_i32_33 : BitVec 32 := 0#32
  let v73 : BitVec 1 := Scalar.cmpi .eq arg0 c0_i32_33
  let v74 : BitVec 32 := Scalar.extui v73
  let c0_i32_34 : BitVec 32 := 0#32
  let v75 : BitVec 1 := Scalar.cmpi .ne v74 c0_i32_34
  v75

def k0_cond4 (i : grid0.Coords) : BitVec 1 :=
  let arg0 : BitVec 32 := BitVec.ofNat 32 (i 0).val
  let c0_i32_35 : BitVec 32 := 0#32
  let v76 : BitVec 1 := Scalar.cmpi .sgt arg0 c0_i32_35
  let v77 : BitVec 32 := Scalar.extui v76
  let c0_i32_36 : BitVec 32 := 0#32
  let v78 : BitVec 1 := Scalar.cmpi .ne v77 c0_i32_36
  v78

def k0_cond5 (i : grid0.Coords) : BitVec 1 :=
  let arg0 : BitVec 32 := BitVec.ofNat 32 (i 0).val
  let c0_i32_37 : BitVec 32 := 0#32
  let v79 : BitVec 1 := Scalar.cmpi .eq arg0 c0_i32_37
  let v80 : BitVec 32 := Scalar.extui v79
  let c0_i32_38 : BitVec 32 := 0#32
  let v81 : BitVec 1 := Scalar.cmpi .ne v80 c0_i32_38
  v81

def k0_cond6 (i : grid0.Coords) : BitVec 1 :=
  let arg0 : BitVec 32 := BitVec.ofNat 32 (i 0).val
  let c0_i32_39 : BitVec 32 := 0#32
  let v82 : BitVec 1 := Scalar.cmpi .sgt arg0 c0_i32_39
  let v83 : BitVec 32 := Scalar.extui v82
  let c0_i32_40 : BitVec 32 := 0#32
  let v84 : BitVec 1 := Scalar.cmpi .ne v83 c0_i32_40
  v84

def k0_cond7 (i : grid0.Coords) : BitVec 1 :=
  let arg0 : BitVec 32 := BitVec.ofNat 32 (i 0).val
  let c0_i32_41 : BitVec 32 := 0#32
  let v85 : BitVec 1 := Scalar.cmpi .eq arg0 c0_i32_41
  let v86 : BitVec 32 := Scalar.extui v85
  let c0_i32_42 : BitVec 32 := 0#32
  let v87 : BitVec 1 := Scalar.cmpi .ne v86 c0_i32_42
  v87

def k0_cond8 (i : grid0.Coords) : BitVec 1 :=
  let arg0 : BitVec 32 := BitVec.ofNat 32 (i 0).val
  let c0_i32_43 : BitVec 32 := 0#32
  let v88 : BitVec 1 := Scalar.cmpi .sgt arg0 c0_i32_43
  let v89 : BitVec 32 := Scalar.extui v88
  let c0_i32_44 : BitVec 32 := 0#32
  let v90 : BitVec 1 := Scalar.cmpi .ne v89 c0_i32_44
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel17.lean ====
abbrev S2048x1024 : Shape := ⟨2, ![2048, 1024]⟩
abbrev S2048x6144 : Shape := ⟨2, ![2048, 6144]⟩
abbrev S8x1024x768 : Shape := ⟨3, ![8, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S2048x1024, .bf16⟩
  | .hbm, ⟨3, _⟩ => ⟨S2048x6144, .bf16⟩
  | .hbm, ⟨4, _⟩ => ⟨S8x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference17Ideal.lean ====
abbrev S2048x1024 : Shape := ⟨2, ![2048, 1024]⟩
abbrev S2048x6144 : Shape := ⟨2, ![2048, 6144]⟩
abbrev S1024x2048 : Shape := ⟨2, ![1024, 2048]⟩
abbrev S1024x6144 : Shape := ⟨2, ![1024, 6144]⟩
abbrev S1024x8x768 : Shape := ⟨3, ![1024, 8, 768]⟩
abbrev S8x1024x768 : Shape := ⟨3, ![8, 1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S1024x2048, .f32⟩
  | .hbm, ⟨3, _⟩ => ⟨S1024x6144, .f32⟩
  | .hbm, ⟨4, _⟩ => ⟨S1024x8x768, .f32⟩
  | .hbm, ⟨5, _⟩ => ⟨S8x1024x768, .f32⟩
  | .hbm, ⟨6, _⟩ => ⟨S8x1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x1024, .bf16⟩
  | .hbm, ⟨4, _⟩ => ⟨S2048x4096, .bf16⟩
  | .hbm, ⟨5, _⟩ => ⟨S2048x4096, .bf16⟩
  | .hbm, ⟨6, _⟩ => ⟨S8x1024x512, .bf16⟩
  | .hbm, ⟨7, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S1024x2048, .f32⟩
  | .hbm, ⟨4, _⟩ => ⟨S1024x4096, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S1024x2048, .f32⟩
  | .hbm, ⟨9, _⟩ => ⟨S1024x4096, .f32⟩
  | .hbm, ⟨10, _⟩ => ⟨S1024x8x512, .f32⟩
  | .hbm, ⟨11, _⟩ => ⟨S8x1024x512, .f32⟩
  | .hbm, ⟨12, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel19.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x4096 : Shape := ⟨2, ![2048, 4096]⟩
abbrev S2048x1024 : Shape := ⟨2, ![2048, 1024]⟩
abbrev S4096x2048 : Shape := ⟨2, ![4096, 2048]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x2048, .f32⟩
  | .hbm, ⟨3, _⟩ => ⟨S4096x1024, .f32⟩
  | .hbm, ⟨4, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 15
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1024x2048, .f32⟩
  | .hbm, ⟨7, _⟩ => ⟨S1024x1024, .f32⟩
  | .hbm, ⟨8, _⟩ => ⟨S1024x1024, .bf16⟩
  | .hbm, ⟨9, _⟩ => ⟨S1024x2048, .f32⟩
  | .hbm, ⟨10, _⟩ => ⟨S1024x1024, .f32⟩
  | .hbm, ⟨11, _⟩ => ⟨S1024x1024, .bf16⟩
  | .hbm, ⟨12, _⟩ => ⟨S1024x2048, .f32⟩
  | .hbm, ⟨13, _⟩ => ⟨S1024x1024, .f32⟩
  | .hbm, ⟨14, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel21.lean ====
abbrev S2048x1024 : Shape := ⟨2, ![2048, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S2048x6144 : Shape := ⟨2, ![2048, 6144]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x1024, .bf16⟩
  | .hbm, ⟨3, _⟩ => ⟨S1024x6144, .bf16⟩
  | .hbm, ⟨4, _⟩ => ⟨S1024x8x768, .bf16⟩
  | .hbm, ⟨5, _⟩ => ⟨S8x1024x768, .bf16⟩
  | .hbm, ⟨6, _⟩ => ⟨S2048x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S1024x6144 : Shape := ⟨2, ![1024, 6144]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x6144, .f32⟩
  | .hbm, ⟨3, _⟩ => ⟨S2048x6144, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S2048x4096 : Shape := ⟨2, ![2048, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1024x4096, .f32⟩
  | .hbm, ⟨3, _⟩ => ⟨S1024x4096, .f32⟩
  | .hbm, ⟨4, _⟩ => ⟨S2048x4096, .bf16⟩
  | .hbm, ⟨5, _⟩ => ⟨S2048x4096, .bf16⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S1024x4096, .bf16⟩
  | .hbm, ⟨10, _⟩ => ⟨S1024x8x512, .bf16⟩
  | .hbm, ⟨11, _⟩ => ⟨S8x1024x512, .bf16⟩
  | .hbm, ⟨12, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference22Ideal.lean ====
abbrev S2048x4096 : Shape := ⟨2, ![2048, 4096]⟩
abbrev S1024x4096 : Shape := ⟨2, ![1024, 4096]⟩
abbrev S4096x1024 : Shape := ⟨2, ![4096, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S2048x1024, .f32⟩
  | .hbm, ⟨6, _⟩ => ⟨S4096x1024, .f32⟩
  | .hbm, ⟨7, _⟩ => ⟨S2048x1024, .f32⟩
  | .hbm, ⟨8, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel24.lean ====
abbrev S31x128 : Shape := ⟨2, ![31, 128]⟩
abbrev S1x31x128 : Shape := ⟨3, ![1, 31, 128]⟩

abbrev nBuf : Space → Nat
  | .hbm => 10
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .hbm, ⟨9, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S31x128 : Shape := ⟨2, ![31, 128]⟩
abbrev S1x31x128 : Shape := ⟨3, ![1, 31, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S_, .f32⟩
  | .hbm, ⟨11, _⟩ => ⟨S31x128, .f32⟩
  | .hbm, ⟨12, _⟩ => ⟨S31x128, .f32⟩
  | .hbm, ⟨13, _⟩ => ⟨S31x128, .f32⟩
  | .hbm, ⟨14, _⟩ => ⟨S_, .f32⟩
  | .hbm, ⟨15, _⟩ => ⟨S31x128, .f32⟩
  | .hbm, ⟨16, _⟩ => ⟨S31x128, .f32⟩
  | .hbm, ⟨17, _⟩ => ⟨S31x128, .f32⟩
  | .hbm, ⟨18, _⟩ => ⟨S_, .f32⟩
  | .hbm, ⟨19, _⟩ => ⟨S31x128, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S_, .f32⟩
  | .hbm, ⟨26, _⟩ => ⟨S31x128, .f32⟩
  | .hbm, ⟨27, _⟩ => ⟨S31x128, .f32⟩
  | .hbm, ⟨28, _⟩ => ⟨S31x128, .f32⟩
  | .hbm, ⟨29, _⟩ => ⟨S_, .f32⟩
  | .hbm, ⟨30, _⟩ => ⟨S31x128, .f32⟩
  | .hbm, ⟨31, _⟩ => ⟨S31x128, .f32⟩
  | .hbm, ⟨32, _⟩ => ⟨S31x128, .f32⟩
  | .hbm, ⟨33, _⟩ => ⟨S_, .f32⟩
  | .hbm, ⟨34, _⟩ => ⟨S31x128, .f32⟩
  | .hbm, ⟨35, _⟩ => ⟨S31x128, .f32⟩
  | .hbm, ⟨36, _⟩ => ⟨S31x128, .f32⟩
  | .hbm, ⟨37, _⟩ => ⟨S_, .f32⟩
  | .hbm, ⟨38, _⟩ => ⟨S31x128, .f32⟩
  | .hbm, ⟨39, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4 : Shape := ⟨1, ![4]⟩
abbrev S8x1024x512 : Shape := ⟨3, ![8, 1024, 512]⟩
abbrev S4x1024x512 : Shape := ⟨3, ![4, 1024, 512]⟩
abbrev S1x1024x512 : Shape := ⟨3, ![1, 1024, 512]⟩
abbrev S1 : Shape := ⟨1, ![1]⟩
abbrev S1024x512 : Shape := ⟨2, ![1024, 512]⟩

abbrev nBuf : Space → Nat
  | .hbm => 6
  | .vmem => 12
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S4x1024x512, .bf16⟩
  | .hbm, ⟨3, _⟩ => ⟨S4x1024x512, .bf16⟩
  | .hbm, ⟨4, _⟩ => ⟨S4x1024x512, .bf16⟩
  | .hbm, ⟨5, _⟩ => ⟨S4x1024x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .smem, ⟨0, _⟩ => ⟨S4, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference25.lean ====
abbrev S4 : Shape := ⟨1, ![4]⟩
abbrev S8x1024x512 : Shape := ⟨3, ![8, 1024, 512]⟩
abbrev S4x1024x512 : Shape := ⟨3, ![4, 1024, 512]⟩
abbrev S4x1 : Shape := ⟨2, ![4, 1]⟩

abbrev nBuf : Space → Nat
  | .hbm => 17
  | .vmem => 0
  | .smem => 0
  | _ => 0

abbrev bufTy : (tb : Table) → Fin (tcTables nBuf tb) → BufTy
  | .hbm, ⟨0, _⟩ => ⟨S4, .i32⟩
  | .hbm, ⟨1, _⟩ => ⟨S8x1024x512, .bf16⟩
  | .hbm, ⟨2, _⟩ => ⟨S8x1024x512, .bf16⟩
  | .hbm, ⟨3, _⟩ => ⟨S4x1024x512, .bf16⟩
  | .hbm, ⟨4, _⟩ => ⟨S4x1024x512, .bf16⟩
  | .hbm, ⟨5, _⟩ => ⟨S4x1, .i32⟩
  | .hbm, ⟨6, _⟩ => ⟨S4x1024x512, .bf16⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .bf16⟩
  | .hbm, ⟨11, _⟩ => ⟨S4x1, .i32⟩
  | .hbm, ⟨12, _⟩ => ⟨S4x1024x512, .bf16⟩
  | .hbm, ⟨13, _⟩ => ⟨S4x1024x512, .f32⟩
  | .hbm, ⟨14, _⟩ => ⟨S4x1024x512, .f32⟩
  | .hbm, ⟨15, _⟩ => ⟨S4x1024x512, .f32⟩
  | .hbm, ⟨16, _⟩ => ⟨S4x1024x512, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.Scalars.lean ====
/- Facts about single extended reals: the logistic function as the host spells it, the two spellings of the
   derivative of `silu(gate) * up`, and sums of real products. -/
module

public import Idealize.ShloMosaic.Lib.Pipeline.ValueKit
public import Idealize.ShloMosaic.Lib.Claim

@[expose] public section

noncomputable section

open Idealize.ShloMosaic

namespace Cert.Scalars

/-- An extended real that is a real number. -/
def Real' (x : EReal) : Prop := ∃ r : ℝ, x = (r : EReal)

/-- A product of reals is real. -/
theorem Real'.mul {x y : EReal} (hx : Real' x) (hy : Real' y) : Real' (x * y) := by
  obtain ⟨a, rfl⟩ := hx
  obtain ⟨b, rfl⟩ := hy
  exact ⟨a * b, (EReal.coe_mul a b).symm⟩

/-- A finite sum of reals is real. -/
theorem Real'.sum {ι : Type*} (s : Finset ι) (f : ι → EReal) (hf : ∀ i ∈ s, Real' (f i)) : Real' (∑ i ∈ s, f i) := by
  classical
  induction s using Finset.induction_on with
  | empty => exact ⟨0, by simp⟩
  | insert a s ha ih =>
    obtain ⟨x, hx⟩ := hf a (Finset.mem_insert_self _ _)
    obtain ⟨y, hy⟩ := ih fun i hi => hf i (Finset.mem_insert_of_mem hi)
    exact ⟨x + y, by rw [Finset.sum_insert ha, hx, hy, EReal.coe_add]⟩

/-- An extended real whose absolute value is below the top is real. -/
theorem real_of_abs_lt {x : EReal} (h : max x (-x) < ⊤) : Real' x := by
  induction x using EReal.rec with
  | bot => simp at h
  | coe r => exact ⟨r, rfl⟩
  | top => simp at h

/-- The host's `1 / (1 + exp (-x))` is the logistic function. -/
theorem div_one_add_exp (x : EReal) : Ideal.div 1 (1 + Ideal.exp (-x)) = Ideal.logistic x := rfl

/-- The derivative of `silu` by the product rule, times a real factor, in its two spellings. -/
theorem silu_grad {x g : EReal} (hx : Real' x) :
    x * (Ideal.logistic g * (1 + g * (1 - Ideal.logistic g)))
      = x * Ideal.logistic g + g * x * (Ideal.logistic g * (1 - Ideal.logistic g)) := by
  obtain ⟨r, rfl⟩ := hx
  induction g using EReal.rec with
  | bot => simp
  | coe a =>
    rw [Ideal.logistic_coe]
    generalize (1 + Real.exp (-a))⁻¹ = s
    norm_cast
    ring
  | top =>
    have h : (1 : EReal) - 1 = 0 := by rw [← EReal.coe_one, ← EReal.coe_sub, sub_self, EReal.coe_zero]
    simp [h]

/-- The gradient of the gate from the cotangent `a` of the hidden product, the gate `g` and the up value `u`. -/
def dgate (a g u : EReal) : EReal := a * u * (Ideal.logistic g * (1 + g * (1 - Ideal.logistic g)))

/-- The gradient of the up value. -/
def dup (a g : EReal) : EReal := a * (g * Ideal.logistic g)

/-- The gate's gradient as the product rule spells it. -/
theorem dgate_rule {a g u : EReal} (hx : Real' (a * u)) :
    a * u * Ideal.logistic g + g * (a * u) * (Ideal.logistic g * (1 - Ideal.logistic g)) = dgate a g u := (silu_grad hx).symm

end Cert.Scalars

end
-- ==== Proof.FfnPay.lean ====
/- What one block of the gated unit's backward kernel computes, entry by entry. -/
module

public import proofs.«01_k».proof.Proof.Gen.KernelIdeal.Skeleton
public import proofs.«01_k».proof.Proof.Scalars

@[expose] public section

set_option maxRecDepth 16384

noncomputable section

open Idealize.ShloMosaic Idealize.ShloMosaic.TcCoe Idealize.SL.Sem

namespace Cert.KernelIdeal.Pay

open Cert.KernelIdeal Cert.KernelIdeal.Gen Cert.Scalars

variable (v0 : Vec Ideal S1024x1024 .bf16) (v2 : Vec Ideal S512x1024 .bf16) (v5 v7 : Vec Ideal S1024x512 .bf16)

/-- The block of the hidden cotangent: a product with a block of rows of `w_down`. -/
theorem pay3 (r : Fin 1024) (j : Fin 512) :
    k0_pay3 (F := Ideal) v0 v2 (ix2 r j) = ∑ k : Fin 1024, v0 (ix2 r k) * v2 (ix2 j k) := by
  pointwise [k0_pay3]

/-- The block of the gate's gradient. -/
theorem pay6 (r : Fin 1024) (j : Fin 512) :
    k0_pay6 (F := Ideal) v0 v2 v5 v7 (ix2 r j)
      = dgate (∑ k : Fin 1024, v0 (ix2 r k) * v2 (ix2 j k)) (v5 (ix2 r j)) (v7 (ix2 r j)) := by
  pointwise [k0_pay6, k0_pay5, k0_pay4, k0_pay3, dgate]

/-- The block of the up value's gradient. -/
theorem pay7 (r : Fin 1024) (j : Fin 512) :
    k0_pay7 (F := Ideal) v0 v2 v5 (ix2 r j)
      = dup (∑ k : Fin 1024, v0 (ix2 r k) * v2 (ix2 j k)) (v5 (ix2 r j)) := by
  pointwise [k0_pay7, k0_pay5, k0_pay4, k0_pay3, dup]

/-- The block's part of the gradient of the normed input. -/
theorem pay8 (w4 w5 : Vec Ideal S1x1024x512 .bf16) (r q : Fin 1024) :
    k0_pay8 (F := Ideal) v0 v2 v5 v7 w4 w5 (ix2 r q)
      = (∑ j : Fin 512, k0_pay6 (F := Ideal) v0 v2 v5 v7 (ix2 r j) * w4 (ix3 0 q j))
        + ∑ j : Fin 512, k0_pay7 (F := Ideal) v0 v2 v5 (ix2 r j) * w5 (ix3 0 q j) := by
  pointwise [k0_pay8]

end Cert.KernelIdeal.Pay

end
-- ==== Proof.FfnBlocks.lean ====
/- What the blocks the gated unit's backward kernel reads hold, as entries of @main's arguments. -/
module

public import proofs.«01_k».proof.Proof.Gen.KernelIdeal.Frame
public import proofs.«01_k».proof.Proof.FfnPay

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (c : Dev nD)

/-- The normed input. -/
abbrev aH : Vec Ideal S2048x1024 .f32 := m ((c : Thread nD τ).loc main_arg0)
/-- `w_gate`. -/
abbrev aWg : Vec Ideal S1024x4096 .f32 := m ((c : Thread nD τ).loc main_arg1)
/-- `w_up`. -/
abbrev aWu : Vec Ideal S1024x4096 .f32 := m ((c : Thread nD τ).loc main_arg2)
/-- `w_down`. -/
abbrev aWd : Vec Ideal S4096x1024 .f32 := m ((c : Thread nD τ).loc main_arg3)
/-- The cotangent of the unit's result. -/
abbrev aDf : Vec Ideal S2048x1024 .f32 := m ((c : Thread nD τ).loc main_arg4)

/-- Every window's block index in the point's number. -/
theorem idx : ∀ t : Fin cfg0.N, win0_0.index t = ![t.val / 8, 0]
    ∧ win0_1.index t = ![t.val % 8, 0]
    ∧ win0_2.index t = ![t.val / 8, t.val % 8]
    ∧ win0_3.index t = ![t.val / 8, t.val % 8]
    ∧ win0_4.index t = ![t.val % 8, 0, 0]
    ∧ win0_5.index t = ![t.val % 8, 0, 0]
    ∧ win0_6.index t = ![t.val / 8, t.val % 8]
    ∧ win0_7.index t = ![t.val / 8, t.val % 8]
    ∧ win0_8.index t = ![t.val / 8, 0] :=
  (by decide +kernel : ∀ t : Fin grid0.N, _)

variable (t : Fin cfg0.N)

/-- Row `r` of the point's row tile. -/
abbrev row (r : Fin 1024) : Fin 2048 := ⟨t.val / 8 * 1024 + r.val, by have h : t.val < 16 := lt_of_lt_of_eq t.isLt N_0; omega⟩
/-- Column `j` of the point's shard of hidden columns. -/
abbrev col (j : Fin 512) : Fin 4096 := ⟨t.val % 8 * 512 + j.val, by omega⟩

/-- The gate as the host leaves it. -/
theorem V_gate (r : Fin 2048) (j : Fin 4096) :
    V m c main_v1 (ix2 r j) = ∑ k : Fin 1024, aH m c (ix2 r k) * aWg m c (ix2 k j) := by
  entry_read
  pointwise

/-- The up value as the host leaves it. -/
theorem V_up (r : Fin 2048) (j : Fin 4096) :
    V m c main_v3 (ix2 r j) = ∑ k : Fin 1024, aH m c (ix2 r k) * aWu m c (ix2 k j) := by
  entry_read
  pointwise

/-- Shard `d` of `w_gate` holds that shard's columns. -/
theorem V_wg (d : Fin 8) (q : Fin 1024) (j : Fin 512) :
    V m c main_v8 (ix3 d q j) = aWg m c (ix2 q ⟨d.val * 512 + j.val, by omega⟩) := by
  entry_read
  pointwise

/-- Shard `d` of `w_up`. -/
theorem V_wu (d : Fin 8) (q : Fin 1024) (j : Fin 512) :
    V m c main_v11 (ix3 d q j) = aWu m c (ix2 q ⟨d.val * 512 + j.val, by omega⟩) := by
  entry_read
  pointwise

theorem blk_df (r k : Fin 1024) : iblk m c 0 t (ix2 r k) = aDf m c (ix2 (row t r) k) := by
  blk_point [iblk, V, idx t]

theorem blk_wd (j : Fin 512) (k : Fin 1024) : iblk m c 1 t (ix2 j k) = aWd m c (ix2 (col t j) k) := by
  blk_point [iblk, V, idx t]

theorem blk_gate (r : Fin 1024) (j : Fin 512) :
    iblk m c 2 t (ix2 r j) = ∑ k : Fin 1024, aH m c (ix2 (row t r) k) * aWg m c (ix2 k (col t j)) := by
  refine Eq.trans ?_ (V_gate m c (row t r) (col t j))
  unfold iblk
  blk_ext [idx t]

theorem blk_up (r : Fin 1024) (j : Fin 512) :
    iblk m c 3 t (ix2 r j) = ∑ k : Fin 1024, aH m c (ix2 (row t r) k) * aWu m c (ix2 k (col t j)) := by
  refine Eq.trans ?_ (V_up m c (row t r) (col t j))
  unfold iblk
  blk_ext [idx t]

theorem blk_wg (q : Fin 1024) (j : Fin 512) : iblk m c 4 t (ix3 0 q j) = aWg m c (ix2 q (col t j)) := by
  refine Eq.trans ?_ (V_wg m c ⟨t.val % 8, by omega⟩ q j)
  unfold iblk
  blk_ext [idx t]

theorem blk_wu (q : Fin 1024) (j : Fin 512) : iblk m c 5 t (ix3 0 q j) = aWu m c (ix2 q (col t j)) := by
  refine Eq.trans ?_ (V_wu m c ⟨t.val % 8, by omega⟩ q j)
  unfold iblk
  blk_ext [idx t]

end Cert.KernelIdeal.Value

end
-- ==== Proof.FfnFinal.lean ====
/- What the gated unit's backward kernel leaves in its three result arrays. -/
module

public import proofs.«01_k».proof.Proof.FfnBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Pay Cert.Scalars

variable (m : (ℓ : Loc nD τ sig) → Buf (Elt Ideal) ℓ) (c : Dev nD)

/-- The cotangent of the hidden product, the gate and the up value at an entry. -/
def hid (r : Fin 2048) (j : Fin 4096) : EReal := ∑ k : Fin 1024, aDf m c (ix2 r k) * aWd m c (ix2 j k)
@[inherit_doc hid] def gate (r : Fin 2048) (j : Fin 4096) : EReal := ∑ k : Fin 1024, aH m c (ix2 r k) * aWg m c (ix2 k j)
@[inherit_doc hid] def up (r : Fin 2048) (j : Fin 4096) : EReal := ∑ k : Fin 1024, aH m c (ix2 r k) * aWu m c (ix2 k j)

/-- The gate's gradient at an entry. -/
def gGate (r : Fin 2048) (j : Fin 4096) : EReal := dgate (hid m c r j) (gate m c r j) (up m c r j)
/-- The up value's gradient at an entry. -/
def gUp (r : Fin 2048) (j : Fin 4096) : EReal := dup (hid m c r j) (gate m c r j)

variable (t : Fin cfg0.N)

theorem point6 (r : Fin 1024) (j : Fin 512) :
    k0_pay6 (F := Ideal) (iblk m c 0 t) (iblk m c 1 t) (iblk m c 2 t) (iblk m c 3 t) (ix2 r j) = gGate m c (row t r) (col t j) := by
  rw [pay6, gGate, hid, gate, up, blk_gate, blk_up]
  simp only [blk_df, blk_wd]

theorem point7 (r : Fin 1024) (j : Fin 512) :
    k0_pay7 (F := Ideal) (iblk m c 0 t) (iblk m c 1 t) (iblk m c 2 t) (ix2 r j) = gUp m c (row t r) (col t j) := by
  rw [pay7, gUp, hid, gate, blk_gate]
  simp only [blk_df, blk_wd]

/-- The point's part of the normed input's gradient. -/
theorem point8 (r q : Fin 1024) :
    k0_pay8 (F := Ideal) (iblk m c 0 t) (iblk m c 1 t) (iblk m c 2 t) (iblk m c 3 t) (iblk m c 4 t) (iblk m c 5 t) (ix2 r q)
      = (∑ j : Fin 512, gGate m c (row t r) (col t j) * aWg m c (ix2 q (col t j)))
        + ∑ j : Fin 512, gUp m c (row t r) (col t j) * aWu m c (ix2 q (col t j)) := by
  rw [pay8]
  simp only [point6, point7, blk_wg, blk_wu]

/-- What every point leaves in its blocks of the two activation gradients. -/
theorem left67 : (outsAt0 m c t.val t.isLt).1 = k0_pay6 (F := Ideal) (iblk m c 0 t) (iblk m c 1 t) (iblk m c 2 t) (iblk m c 3 t)
    ∧ (outsAt0 m c t.val t.isLt).2.1 = k0_pay7 (F := Ideal) (iblk m c 0 t) (iblk m c 1 t) (iblk m c 2 t) := by
  by_cases h0 : t.val % 8 = 0
  · rw [outsAt0_A m c t h0 (by omega) (by omega)]
    constructor <;> frame_out
  · by_cases h2 : t.val % 8 = 7
    · rw [outsAt0_C m c t h0 (by omega) h2]
      constructor <;> frame_out
    · rw [outsAt0_B m c t h0 (by omega) h2]
      constructor <;> frame_out

/-- The running part of the normed input's gradient: set at a row tile's first point, added to at the others. -/
theorem acc_first (h0 : t.val % 8 = 0) (i : S1024x1024.Idx) : (outsAt0 m c t.val t.isLt).2.2.2 i
    = 0 + k0_pay8 (F := Ideal) (iblk m c 0 t) (iblk m c 1 t) (iblk m c 2 t) (iblk m c 3 t) (iblk m c 4 t) (iblk m c 5 t) i := by
  rw [outsAt0_A m c t h0 (by omega) (by omega), zero_add]
  frame_out
  pointwise [k0_pay1]

@[inherit_doc acc_first] theorem acc_step (h0 : ¬t.val % 8 = 0) (i : S1024x1024.Idx) : (outsAt0 m c t.val t.isLt).2.2.2 i
    = (outsAt0 m c (t.val - 1) (Nat.lt_of_le_of_lt (Nat.sub_le _ _) t.isLt)).2.2.2 i
      + k0_pay8 (F := Ideal) (iblk m c 0 t) (iblk m c 1 t) (iblk m c 2 t) (iblk m c 3 t) (iblk m c 4 t) (iblk m c 5 t) i := by
  by_cases h2 : t.val % 8 = 7
  · rw [outsAt0_C m c t h0 (by omega) h2]
    frame_out
    pointwise [k0_pay2]
    rw [read_unread_whole]
  · rw [outsAt0_B m c t h0 (by omega) h2]
    frame_out
    pointwise [k0_pay2]
    rw [read_unread_whole]

/-- A row tile's last point hands the running part out. -/
theorem left8 (h2 : t.val % 8 = 7) : (outsAt0 m c t.val t.isLt).2.2.1 = (outsAt0 m c t.val t.isLt).2.2.2 := by
  rw [outsAt0_C m c t (by omega) (by omega) h2]
  frame_out

/-- The gate's gradient, whole. -/
theorem final6 : (dats m 0 c).arrAt 6 (cfgs 0).N = fun i : S2048x4096.Idx => gGate m c (i 0) (i 1) := by
  refine (dats m 0 c).arrAt_eq_of_covers 6 _ (by decide +kernel) fun t hf y => ?_
  obtain ⟨e0, e1, e2, e3, e4, e5, e6, e7, e8⟩ := idx t
  idx_vars y
  blk_simp
  rw [after0_6, (left67 m c t).1, point6]
  refine congrArg₂ (gGate m c) (Fin.ext ?_) (Fin.ext ?_) <;> blk_simp [e6]

/-- The up value's gradient, whole. -/
theorem final7 : (dats m 0 c).arrAt 7 (cfgs 0).N = fun i : S2048x4096.Idx => gUp m c (i 0) (i 1) := by
  refine (dats m 0 c).arrAt_eq_of_covers 7 _ (by decide +kernel) fun t hf y => ?_
  obtain ⟨e0, e1, e2, e3, e4, e5, e6, e7, e8⟩ := idx t
  idx_vars y
  blk_simp
  rw [after0_7, (left67 m c t).2, point7]
  refine congrArg₂ (gUp m c) (Fin.ext ?_) (Fin.ext ?_) <;> blk_simp [e7]

/-- The normed input's gradient at an entry. -/
def gH (r : Fin 2048) (q : Fin 1024) : EReal :=
  ∑ j : Fin 4096, (gGate m c r j * aWg m c (ix2 q j) + gUp m c r j * aWu m c (ix2 q j))

/-- The normed input's gradient, whole. -/
theorem final8 : (dats m 0 c).arrAt 8 (cfgs 0).N = fun i : S2048x1024.Idx => gH m c (i 0) (i 1) := by
  refine (dats m 0 c).arrAt_eq_of_covers 8 _ (by decide +kernel) fun t hf y => ?_
  obtain ⟨e0, e1, e2, e3, e4, e5, e6, e7, e8⟩ := idx t
  have h7 := (flush0_8 t).mp hf
  idx_vars y
  blk_simp
  rw [after0_8, left8 m c t h7,
    Pipeline.eq_sum_fin_of_reset_step_apply_of_flush (fun n h => (outsAt0 m c n h).2.2.2) 8 (fun _ => 0) _
      (fun t h j => acc_first m c t h j) (fun t h j => acc_step m c t h j) t h7 _, zero_add]
  simp only [point8, ← Finset.sum_add_distrib]
  refine Eq.trans (b := gH m c (row t y0) y1) (Fin.sum_mul_add_congr fun s k hl => ?_)
    (congrArg₂ (gH m c) (Fin.ext ?_) (Fin.ext ?_))
  · have er : row ⟨_, Pipeline.run_point_lt_of_flush t h7 s⟩ y0 = row t y0 := Fin.ext (by simp only [row]; omega)
    have ec : col ⟨_, Pipeline.run_point_lt_of_flush t h7 s⟩ k = ⟨s.val * 512 + k.val, hl⟩ := Fin.ext (by simp only [col]; omega)
    rw [er, ec]
  all_goals blk_simp [e8]

end Cert.KernelIdeal.Value

end
-- ==== Proof.Finite.lean ====
/- The precondition read: every entry of the arrays it names is a real number. -/
module

public import proofs.«01_k».proof.Proof.Gen.Pre_finite
public import proofs.«01_k».proof.Proof.Scalars
public import Idealize.ShloMosaic.Lib.ReduceAll

@[expose] public section

set_option maxRecDepth 16384

noncomputable section

open Idealize.ShloMosaic

namespace Cert.Pre_finite

open Cert.Scalars

/-- Two single bits whose conjunction is set are both set. -/
theorem and_one : ∀ a b : BitVec 1, IntOp.andi a b = 1#1 → a = 1#1 ∧ b = 1#1 := by decide

/-- The single-precision word of plus infinity is the top. -/
theorem inf_top : Ideal.ofBits .f32 0x7F800000#32 = (⊤ : EReal) := by
  simp [Ideal.ofBits, Ideal.ieee]

/-- Where the absolute value compares below plus infinity the entry is real. -/
theorem real_of_cmp (x : EReal) (e : Ideal.cmp .olt (max x (-x)) (Ideal.ofBits .f32 0x7F800000#32) = 1#1) : Real' x := by
  rw [inf_top] at e
  refine real_of_abs_lt (Decidable.byContradiction fun h => ?_)
  simp [Ideal.cmp, h] at e

/-- The precondition makes every entry of `h`, `w_up`, `w_down` and the cotangent real. -/
theorem reals (a0 : FVec Ideal S2048x1024 .f32) (a1 a2 : FVec Ideal S1024x4096 .f32) (a3 : FVec Ideal S4096x1024 .f32)
    (a4 : FVec Ideal S2048x1024 .f32) [Cert.Pre_finite.Facts] (h : fn (F := Ideal) a0 a1 a2 a3 a4 = fun _ => 1#1) :
    (∀ i, Real' (a0 i)) ∧ (∀ i, Real' (a2 i)) ∧ (∀ i, Real' (a3 i)) ∧ ∀ i, Real' (a4 i) := by
  have h' := congrFun h ix0
  dsimp only [fn, fn_part1] at h'
  obtain ⟨h', h4⟩ := and_one _ _ h'
  obtain ⟨h', h3⟩ := and_one _ _ h'
  obtain ⟨h1, h2⟩ := and_one _ _ h'
  refine ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i), fun i => real_of_cmp _ (Host.reduce_andi_all _ _ _ _ _ h4 i)⟩

end Cert.Pre_finite

end
-- ==== Proof.FfnClaim.lean ====
/- The gated unit's backward kernel computes the reference's three gradients. -/
module

public import proofs.«01_k».proof.Defs
public import proofs.«01_k».proof.Proof.FfnFinal
public import proofs.«01_k».proof.Proof.Finite
public import proofs.«01_k».proof.Proof.Gen.ReferenceIdeal
public import proofs.«01_k».proof.Proof.Gen.ReferenceIdeal.Run

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Pay Cert.Scalars

variable (m : (ℓ : Loc nD τ sig) → Buf (Elt Ideal) ℓ) (c : Dev nD)

/-- Under the precondition the hidden cotangent times the up value is real. -/
theorem real_hid_up (hpre : Cert.Pre_KernelIdeal_finite m) (r : Fin 2048) (j : Fin 4096) : Real' (hid m c r j * up m c r j) := by
  obtain ⟨h0, h2, h3, h4⟩ := Cert.Pre_finite.reals _ _ _ _ _ (hpre c)
  exact Real'.mul (Real'.sum _ _ fun k _ => (h4 _).mul (h3 _)) (Real'.sum _ _ fun k _ => (h0 _).mul (h2 _))

/-- The gate's gradient as the reference's product rule spells it. -/
theorem gGate_eq (hpre : Cert.Pre_KernelIdeal_finite m) (r : Fin 2048) (j : Fin 4096) :
    hid m c r j * up m c r j * Ideal.logistic (gate m c r j)
      + gate m c r j * (hid m c r j * up m c r j) * (Ideal.logistic (gate m c r j) * (1 - Ideal.logistic (gate m c r j)))
      = gGate m c r j :=
  dgate_rule (real_hid_up m c hpre r j)

/-- The up value's gradient as the reference spells it. -/
theorem gUp_eq (r : Fin 2048) (j : Fin 4096) :
    gate m c r j * Ideal.logistic (gate m c r j) * hid m c r j = gUp m c r j := mul_comm _ _

theorem algebraic : Cert.algebraic_KernelIdeal_ReferenceIdeal_pre_finite := by
  pair_intro
  · run_from Cert.KernelIdeal.Gen.run_main m g
  · run_from Cert.ReferenceIdeal.Value.run m' g'
    · rw [final6]
      funext i
      idx_vars i
      pointwise
      exact gGate_eq m c hpre _ _
    · rw [final7]
      funext i
      idx_vars i
      pointwise
      exact gUp_eq m c _ _
    · rw [final8]
      funext i
      idx_vars i
      pointwise
      rw [add_comm]
      refine (congrArg₂ (· + ·) (Finset.sum_congr rfl fun j _ => congrArg (· * _) (gGate_eq m c hpre _ j))
        (Finset.sum_congr rfl fun j _ => congrArg (· * _) (gUp_eq m c _ j))).trans Finset.sum_add_distrib.symm

end Cert.KernelIdeal.Value

end
-- ==== Proof.NormMath.lean ====
/- The tanh form of GELU, the layer norm of a row, and their derivatives, over the extended reals: the operations of the
   problem's forward lines and of their derivative, one after the other. -/
module

public import proofs.«01_k».proof.Proof.Scalars

@[expose] public section

noncomputable section

open Idealize.ShloMosaic

namespace Cert.Norm

/-- The hyperbolic tangent GELU is made of. -/
def th (x : EReal) : EReal := Ideal.tanh (Ideal.ofBits .f32 0x3F4C422A#32 * (x + Ideal.ofBits .f32 0x3D372713#32 * (x * x * x)))
/-- The factor GELU multiplies its argument by. -/
def half (x : EReal) : EReal := Ideal.ofBits .f32 0x3F000000#32 * (1 + th x)
/-- GELU and its gradient from the cotangent `d`. -/
def gelu (x : EReal) : EReal := x * half x
@[inherit_doc gelu] def dinner (x d : EReal) : EReal :=
  Ideal.ofBits .f32 0x3F4C422A#32 * (Ideal.ofBits .f32 0x3F000000#32 * (x * d) * ((1 + th x) * (1 - th x)))
@[inherit_doc gelu] def dgelu (x d : EReal) : EReal :=
  d * half x + dinner x d + Ideal.ofBits .f32 0x3D372713#32 * dinner x d * (Ideal.ofBits .f32 0x40400000#32 * (x * x))

variable (x g b dy : Fin 1024 → EReal)

/-- A row's mean, its distance from the mean, its variance with the small constant added, the reciprocal root of that. -/
def mean : EReal := Ideal.div (∑ k, x k) (Ideal.ofBits .f32 0x44800000#32)
@[inherit_doc mean] def centred (j : Fin 1024) : EReal := x j - mean x
@[inherit_doc mean] def spread : EReal :=
  Ideal.div (∑ k, centred x k * centred x k) (Ideal.ofBits .f32 0x44800000#32) + Ideal.ofBits .f32 0x358637BD#32
@[inherit_doc mean] def rinv : EReal := Ideal.rsqrt (spread x)
/-- The row normed, and with its weights. -/
def normed (j : Fin 1024) : EReal := centred x j * rinv x
@[inherit_doc normed] def layerNorm (j : Fin 1024) : EReal := normed x j * g j + b j

/-- The gradient's three parts: through the product, through the variance, through the mean. -/
def part1 (j : Fin 1024) : EReal := dy j * g j * rinv x
@[inherit_doc part1] def part2 (j : Fin 1024) : EReal :=
  Ideal.div ((∑ k, centred x k * (dy k * g k)) * (Ideal.ofBits .f32 0xBF000000#32 * Ideal.div (rinv x) (spread x)))
    (Ideal.ofBits .f32 0x44800000#32) * (Ideal.ofBits .f32 0x40000000#32 * centred x j)
@[inherit_doc part1] def part3 : EReal :=
  Ideal.div ((∑ k, -part1 x g dy k) + ∑ k, -part2 x g dy k) (Ideal.ofBits .f32 0x44800000#32)
/-- The gradient of the row. -/
def dnorm (j : Fin 1024) : EReal := part1 x g dy j + part2 x g dy j + part3 x g dy

end Cert.Norm

end
-- ==== Proof.SguMath.lean ====
/- The spatial gating unit and its gradient on one chunk of 128 rows, over the extended reals: the operations of the
   problem's forward lines and of their derivative, one after the other. -/
module

public import proofs.«01_k».proof.Proof.Scalars
public import proofs.«01_k».proof.Proof.NormMath

@[expose] public section

noncomputable section

open Idealize.ShloMosaic

namespace Cert.Sgu

open Cert.Norm

/-- One chunk: the two activations before the unit, the norm's weights, the mixing matrix and bias, the cotangent. -/
structure Chunk where
  U : Fin 128 → Fin 1024 → EReal
  V : Fin 128 → Fin 1024 → EReal
  g : Fin 1024 → EReal
  b : Fin 1024 → EReal
  W : Fin 8 → Fin 128 → Fin 128 → EReal
  B : Fin 128 → Fin 1024 → EReal
  D : Fin 128 → Fin 1024 → EReal

/-- The head a column belongs to. -/
def head (j : Fin 1024) : Fin 8 := ⟨j.val / 128, by omega⟩
/-- Column `e` of a head. -/
def at' (h : Fin 8) (e : Fin 128) : Fin 1024 := ⟨h.val * 128 + e.val, by omega⟩

variable (C : Chunk)

/-- The gate, the rectified value, the mixed value. -/
def u (t : Fin 128) (j : Fin 1024) : EReal := gelu (C.U t j)
@[inherit_doc u] def gv (t : Fin 128) (j : Fin 1024) : EReal := gelu (C.V t j)
@[inherit_doc u] def v (t : Fin 128) (j : Fin 1024) : EReal := layerNorm (gv C t) C.g C.b j
/-- The causal mixing matrix. -/
def mask (h : Fin 8) (t s : Fin 128) : EReal := if s.val ≤ t.val then C.W h t s else 0
def mix (t : Fin 128) (j : Fin 1024) : EReal := (∑ s : Fin 128, mask C (head j) t s * v C s j) + C.B t j

/-- The gradients, in the order the derivative is taken. -/
def dmix (t : Fin 128) (j : Fin 1024) : EReal := C.D t j * u C t j
@[inherit_doc dmix] def dv (s : Fin 128) (j : Fin 1024) : EReal := ∑ t : Fin 128, mask C (head j) t s * dmix C t j
@[inherit_doc dmix] def dws (h : Fin 8) (t s : Fin 128) : EReal :=
  if s.val ≤ t.val then ∑ e : Fin 128, dmix C t (at' h e) * v C s (at' h e) else 0
@[inherit_doc dmix] def dbs (t : Fin 128) (h : Fin 8) : EReal := ∑ e : Fin 128, dmix C t (at' h e)
@[inherit_doc dmix] def dU (t : Fin 128) (j : Fin 1024) : EReal := dgelu (C.U t j) (C.D t j * mix C t j)
@[inherit_doc dmix] def dV (t : Fin 128) (j : Fin 1024) : EReal := dgelu (C.V t j) (dnorm (gv C t) C.g (dv C t) j)
@[inherit_doc dmix] def dg (j : Fin 1024) : EReal := ∑ t : Fin 128, normed (gv C t) j * dv C t j
@[inherit_doc dmix] def db (j : Fin 1024) : EReal := ∑ t : Fin 128, dv C t j

end Cert.Sgu

end
-- ==== Proof.SguPay.lean ====
/- What one point of the spatial gating unit's backward kernel computes of its blocks, entry by entry. -/
module

public import proofs.«01_k».proof.Proof.Gen.Kernel2Ideal.Skeleton
public import proofs.«01_k».proof.Proof.SguMath
public import Idealize.ShloMosaic.Lib.WordCmp

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen Cert.Norm Cert.Sgu

variable (x0 x1 : Vec Ideal S128x1024 .bf16) (x2 x3 x4 x5 : Vec Ideal S1x1024 .f32) (x7 x8 : Vec Ideal S128x1024 .f32)
variable (w0 w1 w2 w3 w4 w5 w6 w7 : Vec Ideal S1x128x128 .f32)
variable (t s : Fin 128) (j : Fin 1024)

/-- The activations with their biases. -/
def pu : EReal := x0 (ix2 t j) + x2 (ix2 0 j)

theorem pay3 : k0_pay3 (F := Ideal) x0 x2 (ix2 t j) = pu x0 x2 t j := by
  pointwise [k0_pay3, pu]

theorem pay5 : k0_pay5 (F := Ideal) x0 x2 (ix2 t j) = th (pu x0 x2 t j) := by
  pointwise [k0_pay5, pay3, th]
  rw [mul_comm (pu x0 x2 t j) (pu x0 x2 t j * pu x0 x2 t j)]

theorem pay4 : k0_pay4 (F := Ideal) x0 x2 (ix2 t j) = Ideal.ofBits .f32 0x40400000#32 * (pu x0 x2 t j * pu x0 x2 t j) := by
  pointwise [k0_pay4, pay3]

theorem pay6 : k0_pay6 (F := Ideal) x0 x2 (ix2 t j) = (1 + th (pu x0 x2 t j)) * (1 - th (pu x0 x2 t j)) := by
  pointwise [k0_pay6, pay5]

theorem pay7 : k0_pay7 (F := Ideal) x0 x2 (ix2 t j) = half (pu x0 x2 t j) := by
  pointwise [k0_pay7, pay5, half]

theorem pay8 : k0_pay8 (F := Ideal) x0 x2 (ix2 t j) = gelu (pu x0 x2 t j) := by
  pointwise [k0_pay8, pay3, pay7, gelu]

/-- The causal mask, read off the printed word comparison. -/
theorem causal (a : EReal) : Scalar.select (IntOp.cmpi .sle (BitVec.ofNat 32 s.val) (BitVec.ofNat 32 t.val)) a 0
    = if s.val ≤ t.val then a else 0 := by
  word_cmp

theorem mask27 : k0_pay27 (F := Ideal) w0 (ix2 t s) = if s.val ≤ t.val then w0 (ix3 0 t s) else 0 := by
  pointwise [k0_pay27]
  exact causal t s _

/-- The rectified value, its norm. -/
theorem pay9 : k0_pay9 (F := Ideal) x1 x3 (ix2 t j) = pu x1 x3 t j := pay3 x1 x3 t j

theorem pay10 : k0_pay10 (F := Ideal) x1 x3 (ix2 t j) = pu x1 x3 t j * pu x1 x3 t j * pu x1 x3 t j := by
  pointwise [k0_pay10, pay9]
  rw [mul_comm]

theorem pay13 : k0_pay13 (F := Ideal) (k0_pay11 (F := Ideal) x1 x3) (k0_pay12 (F := Ideal)) (ix2 t j)
    = Ideal.ofBits .f32 0x40400000#32 * (pu x1 x3 t j * pu x1 x3 t j) := by
  pointwise [k0_pay13, k0_pay11, k0_pay12, pay9]

theorem pay14 : k0_pay14 (F := Ideal) (k0_pay9 (F := Ideal) x1 x3) (k0_pay10 (F := Ideal) x1 x3) (ix2 t j) = th (pu x1 x3 t j) := by
  pointwise [k0_pay14, pay9, pay10, th]

theorem pay15 : k0_pay15 (F := Ideal) (k0_pay9 (F := Ideal) x1 x3) (k0_pay10 (F := Ideal) x1 x3) (ix2 t j)
    = (1 + th (pu x1 x3 t j)) * (1 - th (pu x1 x3 t j)) := by
  pointwise [k0_pay15, pay14]

theorem pay16 : k0_pay16 (F := Ideal) (k0_pay9 (F := Ideal) x1 x3) (k0_pay10 (F := Ideal) x1 x3) (ix2 t j) = half (pu x1 x3 t j) := by
  pointwise [k0_pay16, pay14, half]

/-- The rectified row the norm is taken of. -/
abbrev grow : Fin 1024 → EReal := fun k => gelu (pu x1 x3 t k)

theorem pay17 : k0_pay17 (F := Ideal) (k0_pay9 (F := Ideal) x1 x3) (k0_pay10 (F := Ideal) x1 x3) (ix2 t j) = gelu (pu x1 x3 t j) := by
  pointwise [k0_pay17, pay9, pay16, gelu]

theorem pay18 : k0_pay18 (F := Ideal) (k0_pay9 (F := Ideal) x1 x3) (k0_pay10 (F := Ideal) x1 x3) (ix2 t 0) = mean (grow x1 x3 t) := by
  pointwise [k0_pay18, pay17, mean]

theorem pay19 : k0_pay19 (F := Ideal) (k0_pay9 (F := Ideal) x1 x3) (k0_pay10 (F := Ideal) x1 x3) (ix2 t j) = centred (grow x1 x3 t) j := by
  pointwise [k0_pay19, pay17, pay18, centred]

theorem pay20 : k0_pay20 (F := Ideal) (k0_pay9 (F := Ideal) x1 x3) (k0_pay10 (F := Ideal) x1 x3) (ix2 t j)
    = Ideal.ofBits .f32 0x40000000#32 * centred (grow x1 x3 t) j := by
  pointwise [k0_pay20, pay19]

theorem pay21 : k0_pay21 (F := Ideal) (k0_pay9 (F := Ideal) x1 x3) (k0_pay10 (F := Ideal) x1 x3) (ix2 t j) = centred (grow x1 x3 t) j := by
  pointwise [k0_pay21, pay17, pay18, centred]

theorem pay22 : k0_pay22 (F := Ideal) (k0_pay9 (F := Ideal) x1 x3) (k0_pay10 (F := Ideal) x1 x3) (ix2 t 0) = spread (grow x1 x3 t) := by
  pointwise [k0_pay22, pay19, spread]

theorem pay23 : k0_pay23 (F := Ideal) (k0_pay9 (F := Ideal) x1 x3) (k0_pay10 (F := Ideal) x1 x3) (ix2 t 0) = rinv (grow x1 x3 t) := by
  pointwise [k0_pay23, pay22, rinv]

theorem pay24 : k0_pay24 (F := Ideal) (k0_pay9 (F := Ideal) x1 x3) (k0_pay10 (F := Ideal) x1 x3) (ix2 t 0)
    = Ideal.ofBits .f32 0xBF000000#32 * Ideal.div (rinv (grow x1 x3 t)) (spread (grow x1 x3 t)) := by
  pointwise [k0_pay24, pay22, pay23]

theorem pay25 : k0_pay25 (F := Ideal) (k0_pay9 (F := Ideal) x1 x3) (k0_pay10 (F := Ideal) x1 x3) (ix2 t j) = normed (grow x1 x3 t) j := by
  pointwise [k0_pay25, pay21, pay23, normed]

theorem pay26 : k0_pay26 (F := Ideal) x4 x5 (k0_pay9 (F := Ideal) x1 x3) (k0_pay10 (F := Ideal) x1 x3) (ix2 t j)
    = layerNorm (grow x1 x3 t) (fun k => x4 (ix2 0 k)) (fun k => x5 (ix2 0 k)) j := by
  pointwise [k0_pay26, pay25, layerNorm]

end Cert.Kernel2Ideal.Pay

end
-- ==== Proof.SguMix.lean ====
/- What one point of the spatial gating unit's backward kernel computes through the mixing matrix. -/
module

public import proofs.«01_k».proof.Proof.SguPay

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen Cert.Norm Cert.Sgu

variable (x0 x1 : Vec Ideal S128x1024 .bf16) (x2 x3 x4 x5 : Vec Ideal S1x1024 .f32) (x7 x8 : Vec Ideal S128x1024 .f32)
variable (w0 w1 w2 w3 w4 w5 w6 w7 : Vec Ideal S1x128x128 .f32)
variable (W : Fin 8 → Fin 128 → Fin 128 → EReal)

/-- The chunk a point's blocks are. -/
def blocks : Chunk where
  U := pu x0 x2
  V := pu x1 x3
  g k := x4 (ix2 0 k)
  b k := x5 (ix2 0 k)
  W := W
  B t j := x7 (ix2 t j)
  D t j := x8 (ix2 t j)

/-- A fact about every column is a fact about every column of every head. -/
theorem columns {P : Fin 1024 → Prop} (h : ∀ (h : Fin 8) (e : Fin 128), P (at' h e)) (j : Fin 1024) : P j := by
  have e : j = at' (head j) ⟨j.val % 128, by omega⟩ := Fin.ext (by simp only [at', head]; omega)
  rw [e]
  exact h _ _

/-- The eight loaded matrices are the mixing matrix's. -/
structure Loads : Prop where
  h0 : ∀ t s, w0 (ix3 0 t s) = W 0 t s
  h1 : ∀ t s, w1 (ix3 0 t s) = W 1 t s
  h2 : ∀ t s, w2 (ix3 0 t s) = W 2 t s
  h3 : ∀ t s, w3 (ix3 0 t s) = W 3 t s
  h4 : ∀ t s, w4 (ix3 0 t s) = W 4 t s
  h5 : ∀ t s, w5 (ix3 0 t s) = W 5 t s
  h6 : ∀ t s, w6 (ix3 0 t s) = W 6 t s
  h7 : ∀ t s, w7 (ix3 0 t s) = W 7 t s

/-- Every loaded matrix is masked the same way. -/
theorem masks (w : Vec Ideal S1x128x128 .f32) : k0_pay28 (F := Ideal) w = k0_pay27 (F := Ideal) w ∧ k0_pay29 (F := Ideal) w = k0_pay27 (F := Ideal) w
    ∧ k0_pay30 (F := Ideal) w = k0_pay27 (F := Ideal) w ∧ k0_pay32 (F := Ideal) (k0_pay31 (F := Ideal) w) = k0_pay27 (F := Ideal) w
    ∧ k0_pay33 (F := Ideal) w = k0_pay27 (F := Ideal) w ∧ k0_pay34 (F := Ideal) w = k0_pay27 (F := Ideal) w
    ∧ k0_pay35 (F := Ideal) w = k0_pay27 (F := Ideal) w :=
  ⟨rfl, rfl, rfl, rfl, rfl, rfl, rfl⟩

theorem head_at (h : Fin 8) (e : Fin 128) : head (at' h e) = h := Fin.ext (by simp only [at', head]; omega)

/-- Eight pieces of 128 columns side by side, read at a column: the piece of the column's head. -/
theorem ladder (f : Fin 8 → Fin 1024 → EReal) (j : Fin 1024) :
    (if h0 : j.val < 128 then f 0 ⟨j.val, by omega⟩ else
      if h1 : j.val - 128 < 128 then f 1 ⟨128 + (j.val - 128), by omega⟩ else
      if h2 : j.val - 128 - 128 < 128 then f 2 ⟨256 + (j.val - 128 - 128), by omega⟩ else
      if h3 : j.val - 128 - 128 - 128 < 128 then f 3 ⟨384 + (j.val - 128 - 128 - 128), by omega⟩ else
      if h4 : j.val - 128 - 128 - 128 - 128 < 128 then f 4 ⟨512 + (j.val - 128 - 128 - 128 - 128), by omega⟩ else
      if h5 : j.val - 128 - 128 - 128 - 128 - 128 < 128 then f 5 ⟨640 + (j.val - 128 - 128 - 128 - 128 - 128), by omega⟩ else
      if h6 : j.val - 128 - 128 - 128 - 128 - 128 - 128 < 128 then f 6 ⟨768 + (j.val - 128 - 128 - 128 - 128 - 128 - 128), by omega⟩ else
      f 7 ⟨896 + (j.val - 128 - 128 - 128 - 128 - 128 - 128 - 128), by omega⟩) = f (head j) j := by
  split_ifs <;> (refine congrArg₂ f (Fin.ext ?_) (Fin.ext ?_) <;> simp [head] <;> omega)

variable {W w0 w1 w2 w3 w4 w5 w6 w7} (L : Loads w0 w1 w2 w3 w4 w5 w6 w7 W)
include L

/-- The mixed value. -/
theorem mixed (P : FVec Ideal S128x1024 .bf16) (t : Fin 128) (j : Fin 1024) :
    k0_pay44 (F := Ideal) x8 (k0_pay35 (F := Ideal) w7) (k0_pay36 (F := Ideal) P (k0_pay27 (F := Ideal) w0)) (k0_pay37 (F := Ideal) P (k0_pay28 (F := Ideal) w1))
      (k0_pay38 (F := Ideal) P (k0_pay29 (F := Ideal) w2)) (k0_pay39 (F := Ideal) P (k0_pay30 (F := Ideal) w3)) (k0_pay40 (F := Ideal) P (k0_pay31 (F := Ideal) w4))
      (k0_pay41 (F := Ideal) P w5) (k0_pay42 (F := Ideal) P w6) (k0_pay43 (F := Ideal) P) (constant S128x128 .f32 0x00000000#32) x7 (ix2 t j)
    = x8 (ix2 t j) * ((∑ s : Fin 128, (if s.val ≤ t.val then W (head j) t s else 0) * P (ix2 s j)) + x7 (ix2 t j)) := by
  pointwise [k0_pay44, k0_pay36, k0_pay37, k0_pay38, k0_pay39, k0_pay40, k0_pay41, k0_pay42, k0_pay43, mask27, masks, L.h0, L.h1, L.h2, L.h3,
      L.h4, L.h5, L.h6, L.h7]
  exact congrArg (fun z => x8 (ix2 t j) * (z + x7 (ix2 t j))) (ladder (fun h j => ∑ s : Fin 128, (if s.val ≤ t.val then W h t s else 0) * P (ix2 s j)) j)

/-- The mixed value's gradient, taken back through the mixing matrix. -/
theorem unmixed (G : FVec Ideal S128x1024 .f32) (s : Fin 128) (j : Fin 1024) :
    k0_pay47 (F := Ideal) G x8 (k0_pay27 (F := Ideal) w0) (k0_pay28 (F := Ideal) w1) (k0_pay29 (F := Ideal) w2) (k0_pay30 (F := Ideal) w3)
      (k0_pay32 (F := Ideal) (k0_pay31 (F := Ideal) w4)) (k0_pay33 (F := Ideal) w5) (k0_pay34 (F := Ideal) w6) (k0_pay35 (F := Ideal) w7) (ix2 s j)
    = ∑ t : Fin 128, (if s.val ≤ t.val then W (head j) t s else 0) * (x8 (ix2 t j) * G (ix2 t j)) := by
  pointwise [k0_pay47, k0_pay46, k0_pay45, mask27, masks, L.h0, L.h1, L.h2, L.h3, L.h4, L.h5, L.h6, L.h7]
  exact ladder (fun h j => ∑ t : Fin 128, (if s.val ≤ t.val then W h t s else 0) * (x8 (ix2 t j) * G (ix2 t j))) j

omit L

/-- Eight matrices one on another, read at a head. -/
theorem stack (f : Fin 8 → EReal) (h : Fin 8) :
    (if h0 : h.val < 1 then f 0 else if h1 : h.val - 1 < 1 then f 1 else if h2 : h.val - 1 - 1 < 1 then f 2 else
      if h3 : h.val - 1 - 1 - 1 < 1 then f 3 else if h4 : h.val - 1 - 1 - 1 - 1 < 1 then f 4 else
      if h5 : h.val - 1 - 1 - 1 - 1 - 1 < 1 then f 5 else if h6 : h.val - 1 - 1 - 1 - 1 - 1 - 1 < 1 then f 6 else f 7) = f h := by
  fin_cases h <;> rfl

/-- The mixing matrix's gradient. -/
theorem dmixing (P : FVec Ideal S128x1024 .bf16) (G : FVec Ideal S128x1024 .f32) (h : Fin 8) (t s : Fin 128) :
    k0_pay53 (F := Ideal) P (k0_pay46 (F := Ideal) G x8) (iota .tc S128x128 32 [0] iota_S128x128_d0_w32) (iota .tc S128x128 32 [1] iota_S128x128_d1_w32)
      (k0_pay48 (F := Ideal) G P x8) (k0_pay49 (F := Ideal) G P x8) k0_pay50 (k0_pay51 (F := Ideal) G P x8) (k0_pay52 (F := Ideal)) (ix3 h t s)
    = if s.val ≤ t.val then ∑ e : Fin 128, x8 (ix2 t (at' h e)) * G (ix2 t (at' h e)) * P (ix2 s (at' h e)) else 0 := by
  pointwise [k0_pay53, k0_pay46, k0_pay45, k0_pay48, k0_pay49, k0_pay50, k0_pay51, k0_pay52]
  exact (stack (fun h => Scalar.select (IntOp.cmpi .sle (BitVec.ofNat 32 s.val) (BitVec.ofNat 32 t.val))
    (∑ e : Fin 128, x8 (ix2 t (at' h e)) * G (ix2 t (at' h e)) * P (ix2 s (at' h e))) 0) h).trans (causal t s _)

/-- The mixing bias's gradient: lane `h` of the block holds head `h`'s. -/
theorem dbias (G : FVec Ideal S128x1024 .f32) (t : Fin 128) (h : Fin 8) :
    k0_pay59 (F := Ideal) (k0_pay45 (F := Ideal) G x8) (iota .tc S128x128 32 [1] iota_S128x128_d1_w32)
      (k0_pay57 (F := Ideal) (k0_pay45 (F := Ideal) G x8) (iota .tc S128x128 32 [1] iota_S128x128_d1_w32) (k0_pay54 (F := Ideal))
        (k0_pay55 (iota .tc S128x128 32 [1] iota_S128x128_d1_w32)) (k0_pay56 (F := Ideal) (k0_pay45 (F := Ideal) G x8)) (Scalar.ofBits .f32 0x00000000#32))
      (k0_pay58 (iota .tc S128x128 32 [1] iota_S128x128_d1_w32)) (ix2 t ⟨h.val, by omega⟩)
    = ∑ e : Fin 128, x8 (ix2 t (at' h e)) * G (ix2 t (at' h e)) := by
  pointwise [k0_pay59, k0_pay57, k0_pay45, k0_pay54, k0_pay55, k0_pay56, k0_pay58, at']
  fin_cases h <;> simp [Scalar.select, IntOp.cmpi]

end Cert.Kernel2Ideal.Pay

end
-- ==== Proof.SguTail.lean ====
/- What one point of the spatial gating unit's backward kernel computes, in the chunk's own terms. -/
module

public import proofs.«01_k».proof.Proof.SguMix

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen Cert.Norm Cert.Sgu

variable (x0 x1 : Vec Ideal S128x1024 .bf16) (x2 x3 x4 x5 : Vec Ideal S1x1024 .f32) (x7 x8 : Vec Ideal S128x1024 .f32)
variable (W : Fin 8 → Fin 128 → Fin 128 → EReal) (t s : Fin 128) (j : Fin 1024)

variable (C : Chunk)

section Norm

variable {x1 x3 x4 C} (hV : ∀ t k, pu x1 x3 t k = C.V t k) (hg : ∀ k, x4 (ix2 0 k) = C.g k)
  {DV : FVec Ideal S128x1024 .f32} (hd : ∀ s k, DV (ix2 s k) = dv C s k)
include hV

theorem grow_eq : grow x1 x3 t = gv C t := funext fun k => congrArg gelu (hV t k)

include hd

/-- The norm's two weight gradients. -/
theorem pay60 : k0_pay60 (F := Ideal) DV (ix2 0 j) = db C j := by
  pointwise [k0_pay60, hd, db]

theorem pay61 : k0_pay61 (F := Ideal) (k0_pay25 (F := Ideal) (k0_pay9 (F := Ideal) x1 x3) (k0_pay10 (F := Ideal) x1 x3)) DV (ix2 0 j) = dg C j := by
  pointwise [k0_pay61, pay25, hd, dg, grow_eq _ hV]

include hg

theorem pay63 : k0_pay63 (F := Ideal) x4 (k0_pay23 (F := Ideal) (k0_pay9 (F := Ideal) x1 x3) (k0_pay10 (F := Ideal) x1 x3)) DV (ix2 t j)
    = part1 (gv C t) C.g (dv C t) j := by
  pointwise [k0_pay63, k0_pay62, pay23, hd, hg, grow_eq _ hV, part1]

theorem pay64 : k0_pay64 (F := Ideal) x4 (k0_pay21 (F := Ideal) (k0_pay9 (F := Ideal) x1 x3) (k0_pay10 (F := Ideal) x1 x3))
      (k0_pay24 (F := Ideal) (k0_pay9 (F := Ideal) x1 x3) (k0_pay10 (F := Ideal) x1 x3)) DV (ix2 t 0)
    = (∑ k, centred (gv C t) k * (dv C t k * C.g k)) * (Ideal.ofBits .f32 0xBF000000#32 * Ideal.div (rinv (gv C t)) (spread (gv C t))) := by
  pointwise [k0_pay64, k0_pay62, pay21, pay24, hd, hg, grow_eq _ hV]

theorem pay65 : k0_pay65 (F := Ideal) x4 (k0_pay23 (F := Ideal) (k0_pay9 (F := Ideal) x1 x3) (k0_pay10 (F := Ideal) x1 x3)) DV (ix2 t 0)
    = ∑ k, -part1 (gv C t) C.g (dv C t) k := by
  pointwise [k0_pay65, pay63 _ _ hV hg hd, zero_sub]

/-- The norm's input gradient taken back through GELU. -/
theorem pay67 : k0_pay67 (F := Ideal) (k0_pay9 (F := Ideal) x1 x3) (k0_pay13 (F := Ideal) (k0_pay11 (F := Ideal) x1 x3) (k0_pay12 (F := Ideal)))
      (k0_pay15 (F := Ideal) (k0_pay9 (F := Ideal) x1 x3) (k0_pay10 (F := Ideal) x1 x3))
      (k0_pay16 (F := Ideal) (k0_pay9 (F := Ideal) x1 x3) (k0_pay10 (F := Ideal) x1 x3))
      (k0_pay20 (F := Ideal) (k0_pay9 (F := Ideal) x1 x3) (k0_pay10 (F := Ideal) x1 x3))
      (k0_pay63 (F := Ideal) x4 (k0_pay23 (F := Ideal) (k0_pay9 (F := Ideal) x1 x3) (k0_pay10 (F := Ideal) x1 x3)) DV)
      (k0_pay64 (F := Ideal) x4 (k0_pay21 (F := Ideal) (k0_pay9 (F := Ideal) x1 x3) (k0_pay10 (F := Ideal) x1 x3))
        (k0_pay24 (F := Ideal) (k0_pay9 (F := Ideal) x1 x3) (k0_pay10 (F := Ideal) x1 x3)) DV)
      (k0_pay65 (F := Ideal) x4 (k0_pay23 (F := Ideal) (k0_pay9 (F := Ideal) x1 x3) (k0_pay10 (F := Ideal) x1 x3)) DV)
      (k0_pay66 (F := Ideal)) (ix2 t j) = dV C t j := by
  pointwise [k0_pay67, k0_pay66, pay9, pay13, pay15, pay16, pay20, pay63 _ _ hV hg hd, pay64 _ hV hg hd, pay65 _ hV hg hd, zero_sub, hV,
    grow_eq _ hV]
  pointwise [dV, dgelu, dinner, dnorm, part2, part3]
  simp only [Fin.sum_univ_one, pay64 _ hV hg hd, pay65 _ hV hg hd]

end Norm

section Gate

variable {x0 x2 C} (hU : ∀ t k, pu x0 x2 t k = C.U t k) {DM : FVec Ideal S128x1024 .f32} (hm : ∀ t k, DM (ix2 t k) = C.D t k * mix C t k)
include hU hm

/-- The gate's input gradient. -/
theorem pay70 : k0_pay70 (F := Ideal) (k0_pay3 (F := Ideal) x0 x2) (k0_pay4 (F := Ideal) x0 x2) (k0_pay6 (F := Ideal) x0 x2) (k0_pay7 (F := Ideal) x0 x2)
    DM (ix2 t j) = dU C t j := by
  pointwise [k0_pay70, pay3, pay4, pay6, pay7, hU, hm, dU, dgelu, dinner]

end Gate

/-- The blocks of a point hold the chunk. -/
structure Holds (x0 x1 : Vec Ideal S128x1024 .bf16) (x2 x3 x4 x5 : Vec Ideal S1x1024 .f32) (x7 x8 : Vec Ideal S128x1024 .f32)
    (w0 w1 w2 w3 w4 w5 w6 w7 : Vec Ideal S1x128x128 .f32) (C : Chunk) : Prop where
  u : ∀ t k, pu x0 x2 t k = C.U t k
  v : ∀ t k, pu x1 x3 t k = C.V t k
  g : ∀ k, x4 (ix2 0 k) = C.g k
  b : ∀ k, x5 (ix2 0 k) = C.b k
  bias : ∀ t k, x7 (ix2 t k) = C.B t k
  d : ∀ t k, x8 (ix2 t k) = C.D t k
  w : Loads w0 w1 w2 w3 w4 w5 w6 w7 C.W

section Terms

variable (w0 w1 w2 w3 w4 w5 w6 w7 : Vec Ideal S1x128x128 .f32)

/-- The normed value, what reaches it, and what reaches the gate: the kernel's own terms. -/
abbrev tV : FVec Ideal S128x1024 .bf16 := k0_pay26 (F := Ideal) x4 x5 (k0_pay9 (F := Ideal) x1 x3) (k0_pay10 (F := Ideal) x1 x3)
@[inherit_doc tV] abbrev tDV : FVec Ideal S128x1024 .f32 :=
  k0_pay47 (F := Ideal) (k0_pay8 (F := Ideal) x0 x2) x8 (k0_pay27 (F := Ideal) w0) (k0_pay28 (F := Ideal) w1) (k0_pay29 (F := Ideal) w2)
    (k0_pay30 (F := Ideal) w3) (k0_pay32 (F := Ideal) (k0_pay31 (F := Ideal) w4)) (k0_pay33 (F := Ideal) w5) (k0_pay34 (F := Ideal) w6)
    (k0_pay35 (F := Ideal) w7)
@[inherit_doc tV] abbrev tDM : FVec Ideal S128x1024 .f32 :=
  k0_pay44 (F := Ideal) x8 (k0_pay35 (F := Ideal) w7) (k0_pay36 (F := Ideal) (tV x1 x3 x4 x5) (k0_pay27 (F := Ideal) w0))
    (k0_pay37 (F := Ideal) (tV x1 x3 x4 x5) (k0_pay28 (F := Ideal) w1)) (k0_pay38 (F := Ideal) (tV x1 x3 x4 x5) (k0_pay29 (F := Ideal) w2))
    (k0_pay39 (F := Ideal) (tV x1 x3 x4 x5) (k0_pay30 (F := Ideal) w3)) (k0_pay40 (F := Ideal) (tV x1 x3 x4 x5) (k0_pay31 (F := Ideal) w4))
    (k0_pay41 (F := Ideal) (tV x1 x3 x4 x5) w5) (k0_pay42 (F := Ideal) (tV x1 x3 x4 x5) w6) (k0_pay43 (F := Ideal) (tV x1 x3 x4 x5))
    (constant S128x128 .f32 0x00000000#32) x7

end Terms

section Point

variable {x0 x1 x2 x3 x4 x5 x7 x8 C} {w0 w1 w2 w3 w4 w5 w6 w7 : Vec Ideal S1x128x128 .f32} (H : Holds x0 x1 x2 x3 x4 x5 x7 x8 w0 w1 w2 w3 w4 w5 w6 w7 C)
include H

theorem value : tV x1 x3 x4 x5 (ix2 t j) = v C t j := by
  unfold tV
  rw [pay26, grow_eq t H.v, funext H.g, funext H.b]
  rfl

theorem gate : k0_pay8 (F := Ideal) x0 x2 (ix2 t j) = u C t j := by
  rw [pay8, H.u]
  rfl

theorem back : tDV x0 x2 x8 w0 w1 w2 w3 w4 w5 w6 w7 (ix2 s j) = dv C s j := by
  unfold tDV
  rw [unmixed x8 H.w]
  simp only [gate _ _ H, H.d]
  rfl

theorem through : tDM x1 x3 x4 x5 x7 x8 w0 w1 w2 w3 w4 w5 w6 w7 (ix2 t j) = C.D t j * mix C t j := by
  unfold tDM
  rw [mixed x7 x8 H.w]
  simp only [value _ _ H, H.d, H.bias]
  rfl

/-- The two halves of the projection's gradient, side by side. -/
theorem out9 (q : Fin 2048) : k0_pay73 (F := Ideal) (k0_pay69 (F := Ideal) (k0_pay9 (F := Ideal) x1 x3)
      (k0_pay13 (F := Ideal) (k0_pay11 (F := Ideal) x1 x3) (k0_pay12 (F := Ideal)))
      (k0_pay15 (F := Ideal) (k0_pay9 (F := Ideal) x1 x3) (k0_pay10 (F := Ideal) x1 x3))
      (k0_pay16 (F := Ideal) (k0_pay9 (F := Ideal) x1 x3) (k0_pay10 (F := Ideal) x1 x3))
      (k0_pay20 (F := Ideal) (k0_pay9 (F := Ideal) x1 x3) (k0_pay10 (F := Ideal) x1 x3))
      (k0_pay63 (F := Ideal) x4 (k0_pay23 (F := Ideal) (k0_pay9 (F := Ideal) x1 x3) (k0_pay10 (F := Ideal) x1 x3)) (tDV x0 x2 x8 w0 w1 w2 w3 w4 w5 w6 w7))
      (k0_pay64 (F := Ideal) x4 (k0_pay21 (F := Ideal) (k0_pay9 (F := Ideal) x1 x3) (k0_pay10 (F := Ideal) x1 x3))
        (k0_pay24 (F := Ideal) (k0_pay9 (F := Ideal) x1 x3) (k0_pay10 (F := Ideal) x1 x3)) (tDV x0 x2 x8 w0 w1 w2 w3 w4 w5 w6 w7))
      (k0_pay65 (F := Ideal) x4 (k0_pay23 (F := Ideal) (k0_pay9 (F := Ideal) x1 x3) (k0_pay10 (F := Ideal) x1 x3)) (tDV x0 x2 x8 w0 w1 w2 w3 w4 w5 w6 w7))
      (k0_pay66 (F := Ideal)))
      (k0_pay72 (F := Ideal) (k0_pay3 (F := Ideal) x0 x2) (k0_pay4 (F := Ideal) x0 x2) (k0_pay6 (F := Ideal) x0 x2) (k0_pay7 (F := Ideal) x0 x2)
        (tDM x1 x3 x4 x5 x7 x8 w0 w1 w2 w3 w4 w5 w6 w7)) (ix2 t q)
    = if h : q.val < 1024 then dU C t ⟨q.val, h⟩ else dV C t ⟨q.val - 1024, by omega⟩ := by
  pointwise [k0_pay73, k0_pay69, k0_pay72, pay70 _ _ H.u (fun t k => through t k H), pay67 _ _ H.v H.g (fun t k => back t k H)]

/-- The sums over the chunk's rows. -/
theorem out10 : k0_pay71 (F := Ideal) (k0_pay3 (F := Ideal) x0 x2) (k0_pay4 (F := Ideal) x0 x2) (k0_pay6 (F := Ideal) x0 x2) (k0_pay7 (F := Ideal) x0 x2)
        (tDM x1 x3 x4 x5 x7 x8 w0 w1 w2 w3 w4 w5 w6 w7) (ix2 0 j) = ∑ t : Fin 128, dU C t j := by
  pointwise [k0_pay71, pay70 _ _ H.u (fun t k => through t k H)]

@[inherit_doc out10] theorem out11 : k0_pay68 (F := Ideal) (k0_pay9 (F := Ideal) x1 x3)
      (k0_pay13 (F := Ideal) (k0_pay11 (F := Ideal) x1 x3) (k0_pay12 (F := Ideal)))
      (k0_pay15 (F := Ideal) (k0_pay9 (F := Ideal) x1 x3) (k0_pay10 (F := Ideal) x1 x3))
      (k0_pay16 (F := Ideal) (k0_pay9 (F := Ideal) x1 x3) (k0_pay10 (F := Ideal) x1 x3))
      (k0_pay20 (F := Ideal) (k0_pay9 (F := Ideal) x1 x3) (k0_pay10 (F := Ideal) x1 x3))
      (k0_pay63 (F := Ideal) x4 (k0_pay23 (F := Ideal) (k0_pay9 (F := Ideal) x1 x3) (k0_pay10 (F := Ideal) x1 x3)) (tDV x0 x2 x8 w0 w1 w2 w3 w4 w5 w6 w7))
      (k0_pay64 (F := Ideal) x4 (k0_pay21 (F := Ideal) (k0_pay9 (F := Ideal) x1 x3) (k0_pay10 (F := Ideal) x1 x3))
        (k0_pay24 (F := Ideal) (k0_pay9 (F := Ideal) x1 x3) (k0_pay10 (F := Ideal) x1 x3)) (tDV x0 x2 x8 w0 w1 w2 w3 w4 w5 w6 w7))
      (k0_pay65 (F := Ideal) x4 (k0_pay23 (F := Ideal) (k0_pay9 (F := Ideal) x1 x3) (k0_pay10 (F := Ideal) x1 x3)) (tDV x0 x2 x8 w0 w1 w2 w3 w4 w5 w6 w7))
      (k0_pay66 (F := Ideal)) (ix2 0 j) = ∑ t : Fin 128, dV C t j := by
  pointwise [k0_pay68, pay67 _ _ H.v H.g (fun t k => back t k H)]

@[inherit_doc out10] theorem out12 : k0_pay61 (F := Ideal) (k0_pay25 (F := Ideal) (k0_pay9 (F := Ideal) x1 x3) (k0_pay10 (F := Ideal) x1 x3))
    (tDV x0 x2 x8 w0 w1 w2 w3 w4 w5 w6 w7) (ix2 0 j) = dg C j :=
  pay61 j H.v fun t k => back t k H

@[inherit_doc out10] theorem out13 : k0_pay60 (F := Ideal) (tDV x0 x2 x8 w0 w1 w2 w3 w4 w5 w6 w7) (ix2 0 j) = db C j :=
  pay60 j H.v fun t k => back t k H

/-- The mixing matrix's gradient and the mixing bias's. -/
theorem out14 (h : Fin 8) : k0_pay53 (F := Ideal) (tV x1 x3 x4 x5) (k0_pay46 (F := Ideal) (k0_pay8 (F := Ideal) x0 x2) x8)
      (iota .tc S128x128 32 [0] iota_S128x128_d0_w32) (iota .tc S128x128 32 [1] iota_S128x128_d1_w32)
      (k0_pay48 (F := Ideal) (k0_pay8 (F := Ideal) x0 x2) (tV x1 x3 x4 x5) x8) (k0_pay49 (F := Ideal) (k0_pay8 (F := Ideal) x0 x2) (tV x1 x3 x4 x5) x8)
      k0_pay50 (k0_pay51 (F := Ideal) (k0_pay8 (F := Ideal) x0 x2) (tV x1 x3 x4 x5) x8) (k0_pay52 (F := Ideal)) (ix3 h t s) = dws C h t s := by
  rw [dmixing]
  simp only [value _ _ H, gate _ _ H, H.d]
  rfl

@[inherit_doc out14] theorem out15 (h : Fin 8) :
    k0_pay59 (F := Ideal) (k0_pay45 (F := Ideal) (k0_pay8 (F := Ideal) x0 x2) x8) (iota .tc S128x128 32 [1] iota_S128x128_d1_w32)
      (k0_pay57 (F := Ideal) (k0_pay45 (F := Ideal) (k0_pay8 (F := Ideal) x0 x2) x8) (iota .tc S128x128 32 [1] iota_S128x128_d1_w32) (k0_pay54 (F := Ideal))
        (k0_pay55 (iota .tc S128x128 32 [1] iota_S128x128_d1_w32)) (k0_pay56 (F := Ideal) (k0_pay45 (F := Ideal) (k0_pay8 (F := Ideal) x0 x2) x8))
        (Scalar.ofBits .f32 0x00000000#32))
      (k0_pay58 (iota .tc S128x128 32 [1] iota_S128x128_d1_w32)) (ix2 t ⟨h.val, by omega⟩) = dbs C t h := by
  rw [dbias]
  simp only [gate _ _ H, H.d]
  rfl

end Point

end Cert.Kernel2Ideal.Pay

end
-- ==== Proof.SguBlocks.lean ====
/- What the blocks the spatial gating unit's backward kernel reads hold, as entries of @main's arguments. -/
module

public import proofs.«01_k».proof.Proof.Gen.Kernel2Ideal.Frame
public import proofs.«01_k».proof.Proof.SguTail

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Kernel2Ideal.Pay Cert.Sgu

variable (m : (ℓ : Loc nD τ sig) → Buf (Elt Ideal) ℓ) (c : Dev nD)

/-- The normed input, `w_in` and `b_in`. -/
abbrev aH : Vec Ideal S2048x1024 .f32 := m ((c : Thread nD τ).loc main_arg0)
@[inherit_doc aH] abbrev aW : Vec Ideal S1024x6144 .f32 := m ((c : Thread nD τ).loc main_arg1)
@[inherit_doc aH] abbrev aB : Vec Ideal S1x6144 .f32 := m ((c : Thread nD τ).loc main_arg2)
/-- The norm's weights, the mixing matrix and bias. -/
abbrev aG : Vec Ideal S1x1024 .f32 := m ((c : Thread nD τ).loc main_arg3)
@[inherit_doc aG] abbrev aLb : Vec Ideal S1x1024 .f32 := m ((c : Thread nD τ).loc main_arg4)
@[inherit_doc aG] abbrev aWs : Vec Ideal S1x8x128x128 .f32 := m ((c : Thread nD τ).loc main_arg5)
@[inherit_doc aG] abbrev aBs : Vec Ideal S1x8x128 .f32 := m ((c : Thread nD τ).loc main_arg6)
/-- The unit's cotangent, and the projection's gradient as it enters. -/
abbrev aD : Vec Ideal S2048x1024 .f32 := m ((c : Thread nD τ).loc main_arg7)
@[inherit_doc aD] abbrev aDp : Vec Ideal S2048x6144 .bf16 := m ((c : Thread nD τ).loc main_arg8)

/-- Every window's block index in the point's number. -/
theorem idx : ∀ t : Fin cfg0.N, win0_0.index t = ![t.val, 0]
    ∧ win0_1.index t = ![t.val, 1]
    ∧ win0_2.index t = ![0, 0]
    ∧ win0_3.index t = ![0, 1]
    ∧ win0_4.index t = ![0, 0]
    ∧ win0_5.index t = ![0, 0]
    ∧ win0_6.index t = ![0, 0, 0]
    ∧ win0_7.index t = ![0, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0, 0]
    ∧ win0_15.index t = ![0, 0] :=
  (by decide +kernel : ∀ t : Fin grid0.N, _)

/-- Row `r` of chunk `t`. -/
abbrev row (t : Nat) (r : Fin 128) (h : t < 16) : Fin 2048 := ⟨t * 128 + r.val, by omega⟩

/-- The projection at an entry. -/
def proj (r : Fin 2048) (q : Fin 6144) : EReal := ∑ k : Fin 1024, aH m c (ix2 r k) * aW m c (ix2 k q)

/-- Chunk `t` of @main's arguments. -/
def chunk (t : Fin 16) : Chunk where
  U r j := proj m c (row t.val r t.isLt) ⟨j.val, by omega⟩ + aB m c (ix2 0 ⟨j.val, by omega⟩)
  V r j := proj m c (row t.val r t.isLt) ⟨1024 + j.val, by omega⟩ + aB m c (ix2 0 ⟨1024 + j.val, by omega⟩)
  g k := aG m c (ix2 0 k)
  b k := aLb m c (ix2 0 k)
  W h t s := aWs m c (ix4 0 h t s)
  B r j := aBs m c (ix3 0 (head j) r)
  D r j := aD m c (ix2 (row t.val r t.isLt) j)

/-- The host-made operands. -/
theorem V_proj (r : Fin 2048) (q : Fin 6144) : V m c main_v1 (ix2 r q) = proj m c r q := by
  show StableHlo.after hostOps0 (fun b => m (c, b)) main_v1 (ix2 r q) = _
  entry_read
  pointwise [proj]

theorem V_ws (h : Fin 8) (t s : Fin 128) : V m c main_v6 (ix3 h t s) = aWs m c (ix4 0 h t s) := by
  show StableHlo.after hostOps0 (fun b => m (c, b)) main_v6 (ix3 h t s) = _
  entry_read
  pointwise

theorem V_bias (r : Fin 128) (j : Fin 1024) : V m c main_v5 (ix2 r j) = aBs m c (ix3 0 (head j) r) := by
  show StableHlo.after hostOps0 (fun b => m (c, b)) main_v5 (ix2 r j) = _
  entry_read
  pointwise [head]

variable (t : Fin cfg0.N)

theorem lt16 : t.val < 16 := lt_of_lt_of_eq t.isLt N_0

theorem blk_u (r : Fin 128) (j : Fin 1024) : iblk m c 0 t (ix2 r j) = proj m c (row t.val r (lt16 t)) ⟨j.val, by omega⟩ := by
  refine Eq.trans ?_ (V_proj m c (row t.val r (lt16 t)) ⟨j.val, by omega⟩)
  unfold iblk
  blk_ext [idx t]

theorem blk_v (r : Fin 128) (j : Fin 1024) : iblk m c 1 t (ix2 r j) = proj m c (row t.val r (lt16 t)) ⟨1024 + j.val, by omega⟩ := by
  refine Eq.trans ?_ (V_proj m c (row t.val r (lt16 t)) ⟨1024 + j.val, by omega⟩)
  unfold iblk
  blk_ext [idx t]

theorem blk_bu (j : Fin 1024) : iblk m c 2 t (ix2 0 j) = aB m c (ix2 0 ⟨j.val, by omega⟩) := by
  blk_point [iblk, V, idx t]

theorem blk_bv (j : Fin 1024) : iblk m c 3 t (ix2 0 j) = aB m c (ix2 0 ⟨1024 + j.val, by omega⟩) := by
  blk_point [iblk, V, idx t]

theorem blk_g (j : Fin 1024) : iblk m c 4 t (ix2 0 j) = aG m c (ix2 0 j) := by
  blk_point [iblk, V, idx t]

theorem blk_b (j : Fin 1024) : iblk m c 5 t (ix2 0 j) = aLb m c (ix2 0 j) := by
  blk_point [iblk, V, idx t]

theorem blk_ws (h : Fin 8) (r s : Fin 128) : iblk m c 6 t (ix3 h r s) = aWs m c (ix4 0 h r s) := by
  refine Eq.trans ?_ (V_ws m c h r s)
  unfold iblk
  blk_ext [idx t]

theorem blk_bias (r : Fin 128) (j : Fin 1024) : iblk m c 7 t (ix2 r j) = aBs m c (ix3 0 (head j) r) := by
  refine Eq.trans ?_ (V_bias m c r j)
  unfold iblk
  blk_ext [idx t]

theorem blk_d (r : Fin 128) (j : Fin 1024) : iblk m c 8 t (ix2 r j) = aD m c (ix2 (row t.val r (lt16 t)) j) := by
  blk_point [iblk, V, idx t]

end Cert.Kernel2Ideal.Value

end
-- ==== Proof.SguFinal.lean ====
/- What the spatial gating unit's backward kernel leaves in its result arrays. -/
module

public import proofs.«01_k».proof.Proof.SguBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Kernel2Ideal.Pay Cert.Sgu

variable (m : (ℓ : Loc nD τ sig) → Buf (Elt Ideal) ℓ) (c : Dev nD)

section Point

variable (t : Fin cfg0.N)

/-- The chunk a point works on. -/
abbrev here : Chunk := chunk m c ⟨t.val, lt16 t⟩

/-- The point's blocks hold its chunk. -/
theorem holds {w0 w1 w2 w3 w4 w5 w6 w7 : Vec Ideal S1x128x128 .f32} (L : Loads w0 w1 w2 w3 w4 w5 w6 w7 (here m c t).W) :
    Holds (iblk m c 0 t) (iblk m c 1 t) (iblk m c 2 t) (iblk m c 3 t) (iblk m c 4 t) (iblk m c 5 t) (iblk m c 7 t) (iblk m c 8 t)
      w0 w1 w2 w3 w4 w5 w6 w7 (here m c t) where
  u r j := by rw [pu, blk_u, blk_bu]; rfl
  v r j := by rw [pu, blk_v, blk_bv]; rfl
  g j := blk_g m c t j
  b j := blk_b m c t j
  bias r j := blk_bias m c t r j
  d r j := blk_d m c t r j
  w := L

/-- A row of a chunk's matrix read through the block. -/
theorem blk_w (h : Fin 8) (r s : Fin 128) : iblk m c 6 t (ix3 h r s) = (here m c t).W h r s := blk_ws m c t h r s

/-- What the point adds to the accumulated results. -/
def part10 (i : S1x1024.Idx) : EReal := ∑ r : Fin 128, dU (here m c t) r (i 1)
@[inherit_doc part10] def part11 (i : S1x1024.Idx) : EReal := ∑ r : Fin 128, dV (here m c t) r (i 1)
@[inherit_doc part10] def part12 (i : S1x1024.Idx) : EReal := dg (here m c t) (i 1)
@[inherit_doc part10] def part13 (i : S1x1024.Idx) : EReal := db (here m c t) (i 1)
@[inherit_doc part10] def part14 (i : S8x128x128.Idx) : EReal := dws (here m c t) (i 0) (i 1) (i 2)
@[inherit_doc part10] def part15 : FVec Ideal S128x128 .f32 :=
  k0_pay59 (F := Ideal) (k0_pay45 (F := Ideal) (k0_pay8 (F := Ideal) (iblk m c 0 t) (iblk m c 2 t)) (iblk m c 8 t))
    (iota .tc S128x128 32 [1] iota_S128x128_d1_w32)
    (k0_pay57 (F := Ideal) (k0_pay45 (F := Ideal) (k0_pay8 (F := Ideal) (iblk m c 0 t) (iblk m c 2 t)) (iblk m c 8 t))
      (iota .tc S128x128 32 [1] iota_S128x128_d1_w32) (k0_pay54 (F := Ideal))
      (k0_pay55 (iota .tc S128x128 32 [1] iota_S128x128_d1_w32))
      (k0_pay56 (F := Ideal) (k0_pay45 (F := Ideal) (k0_pay8 (F := Ideal) (iblk m c 0 t) (iblk m c 2 t)) (iblk m c 8 t)))
      (Scalar.ofBits .f32 0x00000000#32))
    (k0_pay58 (iota .tc S128x128 32 [1] iota_S128x128_d1_w32))

/-- The chunk's first matrix, second matrix and so on. -/
abbrev layer (h : Fin 8) : Vec Ideal S1x128x128 .f32 := fun i => (here m c t).W h (i 1) (i 2)

/-- The point's blocks hold its chunk, the mixing matrices read plainly. -/
theorem holds' : Holds (iblk m c 0 t) (iblk m c 1 t) (iblk m c 2 t) (iblk m c 3 t) (iblk m c 4 t) (iblk m c 5 t) (iblk m c 7 t) (iblk m c 8 t)
    (layer m c t 0) (layer m c t 1) (layer m c t 2) (layer m c t 3) (layer m c t 4) (layer m c t 5) (layer m c t 6) (layer m c t 7) (here m c t) :=
  holds m c t (by constructor <;> exact fun _ _ => rfl)

/-- The mixing bias's part at a head's lane. -/
theorem part15_at (r : Fin 128) (h : Fin 8) : part15 m c t (ix2 r ⟨h.val, by omega⟩) = dbs (here m c t) r h :=
  out15 r (holds' m c t) h

/-- The mixing bias's accumulation. -/
theorem pay2_at (x y : FVec Ideal S128x128 .f32) (r j : Fin 128) : k0_pay2 (F := Ideal) x y (ix2 r j) = y (ix2 r j) + x (ix2 r j) := by
  pointwise [k0_pay2]

/-- A grid's first point sets the results, the others add to them. -/
theorem at_first (h0 : t.val % 16 = 0) :
    (∀ r q, (outsAt0 m c t.val t.isLt).1 (ix2 r q)
      = if h : q.val < 1024 then dU (here m c t) r ⟨q.val, h⟩ else dV (here m c t) r ⟨q.val - 1024, by omega⟩)
    ∧ (∀ i, (outsAt0 m c t.val t.isLt).2.1 i = part10 m c t i)
    ∧ (∀ i, (outsAt0 m c t.val t.isLt).2.2.1 i = part11 m c t i)
    ∧ (∀ i, (outsAt0 m c t.val t.isLt).2.2.2.1 i = part12 m c t i)
    ∧ (∀ i, (outsAt0 m c t.val t.isLt).2.2.2.2.1 i = part13 m c t i)
    ∧ (∀ i, (outsAt0 m c t.val t.isLt).2.2.2.2.2.1 i = part14 m c t i)
    ∧ (∀ i, (outsAt0 m c t.val t.isLt).2.2.2.2.2.2 i = part15 m c t i) := by
  have ht := lt16 t
  rw [outsAt0_A m c t h0 (by omega) h0 (by omega) h0 (by omega) h0 (by omega) h0 (by omega) h0 (by omega)]
  refine ⟨fun r q => ?_, fun i => ?_, fun i => ?_, fun i => ?_, fun i => ?_, fun i => ?_, fun i => ?_⟩
  · frame_out
    refine out9 r (holds m c t ?_) q
    constructor <;> intro r s <;> pointwise <;> exact blk_w m c t _ r s
  · idx_vars i
    obtain rfl := Fin.fin_one_eq_zero i0
    frame_out
    refine out10 _ (holds m c t ?_)
    constructor <;> intro r s <;> pointwise <;> exact blk_w m c t _ r s
  · idx_vars i
    obtain rfl := Fin.fin_one_eq_zero i0
    frame_out
    refine out11 _ (holds m c t ?_)
    constructor <;> intro r s <;> pointwise <;> exact blk_w m c t _ r s
  · idx_vars i
    obtain rfl := Fin.fin_one_eq_zero i0
    frame_out
    refine out12 _ (holds m c t ?_)
    constructor <;> intro r s <;> pointwise <;> exact blk_w m c t _ r s
  · idx_vars i
    obtain rfl := Fin.fin_one_eq_zero i0
    frame_out
    refine out13 _ (holds m c t ?_)
    constructor <;> intro r s <;> pointwise <;> exact blk_w m c t _ r s
  · idx_vars i
    frame_out
    exact out14 _ _ (holds' m c t) _
  · frame_out
    rfl

@[inherit_doc at_first] theorem at_step (h0 : ¬t.val % 16 = 0) :
    (∀ r q, (outsAt0 m c t.val t.isLt).1 (ix2 r q)
      = if h : q.val < 1024 then dU (here m c t) r ⟨q.val, h⟩ else dV (here m c t) r ⟨q.val - 1024, by omega⟩)
    ∧ (∀ i, (outsAt0 m c t.val t.isLt).2.1 i = (outsAt0 m c (t.val - 1) (Nat.lt_of_le_of_lt (Nat.sub_le _ _) t.isLt)).2.1 i + part10 m c t i)
    ∧ (∀ i, (outsAt0 m c t.val t.isLt).2.2.1 i = (outsAt0 m c (t.val - 1) (Nat.lt_of_le_of_lt (Nat.sub_le _ _) t.isLt)).2.2.1 i + part11 m c t i)
    ∧ (∀ i, (outsAt0 m c t.val t.isLt).2.2.2.1 i = (outsAt0 m c (t.val - 1) (Nat.lt_of_le_of_lt (Nat.sub_le _ _) t.isLt)).2.2.2.1 i + part12 m c t i)
    ∧ (∀ i, (outsAt0 m c t.val t.isLt).2.2.2.2.1 i = (outsAt0 m c (t.val - 1) (Nat.lt_of_le_of_lt (Nat.sub_le _ _) t.isLt)).2.2.2.2.1 i + part13 m c t i)
    ∧ (∀ i, (outsAt0 m c t.val t.isLt).2.2.2.2.2.1 i = (outsAt0 m c (t.val - 1) (Nat.lt_of_le_of_lt (Nat.sub_le _ _) t.isLt)).2.2.2.2.2.1 i + part14 m c t i)
    ∧ (∀ i, (outsAt0 m c t.val t.isLt).2.2.2.2.2.2 i = (outsAt0 m c (t.val - 1) (Nat.lt_of_le_of_lt (Nat.sub_le _ _) t.isLt)).2.2.2.2.2.2 i + part15 m c t i) := by
  have ht := lt16 t
  rw [outsAt0_B m c t h0 (by omega) h0 (by omega) h0 (by omega) h0 (by omega) h0 (by omega) h0 (by omega)]
  refine ⟨fun r q => ?_, fun i => ?_, fun i => ?_, fun i => ?_, fun i => ?_, fun i => ?_, fun i => ?_⟩
  · frame_out
    refine out9 r (holds m c t ?_) q
    constructor <;> intro r s <;> pointwise <;> exact blk_w m c t _ r s
  · idx_vars i
    obtain rfl := Fin.fin_one_eq_zero i0
    frame_out
    pointwise [k0_pay74]
    refine congrArg (_ + ·) (out10 _ (holds m c t ?_))
    constructor <;> intro r s <;> pointwise <;> exact blk_w m c t _ r s
  · idx_vars i
    obtain rfl := Fin.fin_one_eq_zero i0
    frame_out
    pointwise [k0_pay75]
    refine congrArg (_ + ·) (out11 _ (holds m c t ?_))
    constructor <;> intro r s <;> pointwise <;> exact blk_w m c t _ r s
  · idx_vars i
    obtain rfl := Fin.fin_one_eq_zero i0
    frame_out
    pointwise [k0_pay76]
    refine congrArg (_ + ·) (out12 _ (holds m c t ?_))
    constructor <;> intro r s <;> pointwise <;> exact blk_w m c t _ r s
  · idx_vars i
    obtain rfl := Fin.fin_one_eq_zero i0
    frame_out
    pointwise [k0_pay77]
    refine congrArg (_ + ·) (out13 _ (holds m c t ?_))
    constructor <;> intro r s <;> pointwise <;> exact blk_w m c t _ r s
  · idx_vars i
    frame_out
    pointwise [k0_pay1]
    exact congrArg (_ + ·) (out14 _ _ (holds' m c t) _)
  · idx_vars i
    frame_out
    exact (pay2_at _ _ _ _).trans (congrArg (_ + ·) rfl)

/-- The projection's gradient in the point's block. -/
theorem left9 (r : Fin 128) (q : Fin 2048) : (outsAt0 m c t.val t.isLt).1 (ix2 r q)
    = if h : q.val < 1024 then dU (here m c t) r ⟨q.val, h⟩ else dV (here m c t) r ⟨q.val - 1024, by omega⟩ := by
  by_cases h0 : t.val % 16 = 0
  · exact (at_first m c t h0).1 r q
  · exact (at_step m c t h0).1 r q

end Point

/-- The projection's gradient: the first 2048 columns are the kernel's, the others are as they came. -/
def gProj (r : Fin 2048) (q : Fin 6144) : EReal :=
  if h : q.val < 1024 then dU (chunk m c ⟨r.val / 128, by omega⟩) ⟨r.val % 128, by omega⟩ ⟨q.val, h⟩
  else if h : q.val < 2048 then dV (chunk m c ⟨r.val / 128, by omega⟩) ⟨r.val % 128, by omega⟩ ⟨q.val - 1024, by omega⟩
  else aDp m c (ix2 r q)

/-- The gradient at a row of a chunk. -/
theorem gProj_at (n : Fin 16) (r : Fin 128) (q : Fin 2048) : gProj m c ⟨n.val * 128 + r.val, by omega⟩ ⟨q.val, by omega⟩
    = if h : q.val < 1024 then dU (chunk m c n) r ⟨q.val, h⟩ else dV (chunk m c n) r ⟨q.val - 1024, by omega⟩ := by
  have e1 : ∀ p, (⟨(n.val * 128 + r.val) / 128, p⟩ : Fin 16) = n := fun _ =>
    Fin.ext (by show (n.val * 128 + r.val) / 128 = n.val; omega)
  have e2 : ∀ p, (⟨(n.val * 128 + r.val) % 128, p⟩ : Fin 128) = r := fun _ =>
    Fin.ext (by show (n.val * 128 + r.val) % 128 = r.val; omega)
  simp only [gProj, e1, e2, dif_pos q.isLt]

@[inherit_doc gProj]
theorem final9 : (dats m 0 c).arrAt 9 (cfgs 0).N
    = fun i : S2048x6144.Idx => gProj m c (i 0) (i 1) := by
  refine (dats m 0 c).arrAt_eq_of_coversWhere_of_agree 9 _ (fun β => β (1 : Fin _) = 0) (by decide +kernel) (fun t hf y => ?_) (fun j hj => ?_)
  · obtain ⟨e0, e1, e2, e3, e4, e5, e6, e7, e8, e9, -⟩ := idx t
    have ht := lt16 t
    idx_vars y
    blk_simp
    rw [after0_9, left9, ← gProj_at]
    refine congrArg₂ (gProj m c) (Fin.ext ?_) (Fin.ext ?_) <;> blk_simp [e9]
  · blk_simp [Pipeline.Window.cell_apply] at hj
    show StableHlo.after hostOps0 (fun b => m (c, b)) main_v7_0 _ = _
    entry_read
    idx_vars j
    show aDp m c (ix2 j0 j1) = gProj m c j0 j1
    rw [gProj, dif_neg (by omega), dif_neg (by omega)]

/-- The accumulated result at the end: the sum over the chunks. -/
theorem final10 : (dats m 0 c).arrAt 10 (cfgs 0).N = fun i : S1x1024.Idx => ∑ t : Fin cfg0.N, part10 m c t i := by
  refine (dats m 0 c).arrAt_eq_of_after_last 10 t0_15 (by decide +kernel) _ fun j => ?_
  blk_simp
  rw [after0_10, Pipeline.eq_sum_fin_of_reset_step_apply_last (fun n h => (outsAt0 m c n h).2.1) 16 (fun _ => 0) (part10 m c)
    (fun t h j => ((at_first m c t h).2.1 j).trans (zero_add _).symm) (fun t h j => (at_step m c t h).2.1 j)
    (le_of_eq N_0) t0_15 rfl j, zero_add]

/-- The accumulated result at the end: the sum over the chunks. -/
theorem final11 : (dats m 0 c).arrAt 11 (cfgs 0).N = fun i : S1x1024.Idx => ∑ t : Fin cfg0.N, part11 m c t i := by
  refine (dats m 0 c).arrAt_eq_of_after_last 11 t0_15 (by decide +kernel) _ fun j => ?_
  blk_simp
  rw [after0_11, Pipeline.eq_sum_fin_of_reset_step_apply_last (fun n h => (outsAt0 m c n h).2.2.1) 16 (fun _ => 0) (part11 m c)
    (fun t h j => ((at_first m c t h).2.2.1 j).trans (zero_add _).symm) (fun t h j => (at_step m c t h).2.2.1 j)
    (le_of_eq N_0) t0_15 rfl j, zero_add]

/-- The accumulated result at the end: the sum over the chunks. -/
theorem final12 : (dats m 0 c).arrAt 12 (cfgs 0).N = fun i : S1x1024.Idx => ∑ t : Fin cfg0.N, part12 m c t i := by
  refine (dats m 0 c).arrAt_eq_of_after_last 12 t0_15 (by decide +kernel) _ fun j => ?_
  blk_simp
  rw [after0_12, Pipeline.eq_sum_fin_of_reset_step_apply_last (fun n h => (outsAt0 m c n h).2.2.2.1) 16 (fun _ => 0) (part12 m c)
    (fun t h j => ((at_first m c t h).2.2.2.1 j).trans (zero_add _).symm) (fun t h j => (at_step m c t h).2.2.2.1 j)
    (le_of_eq N_0) t0_15 rfl j, zero_add]

/-- The accumulated result at the end: the sum over the chunks. -/
theorem final13 : (dats m 0 c).arrAt 13 (cfgs 0).N = fun i : S1x1024.Idx => ∑ t : Fin cfg0.N, part13 m c t i := by
  refine (dats m 0 c).arrAt_eq_of_after_last 13 t0_15 (by decide +kernel) _ fun j => ?_
  blk_simp
  rw [after0_13, Pipeline.eq_sum_fin_of_reset_step_apply_last (fun n h => (outsAt0 m c n h).2.2.2.2.1) 16 (fun _ => 0) (part13 m c)
    (fun t h j => ((at_first m c t h).2.2.2.2.1 j).trans (zero_add _).symm) (fun t h j => (at_step m c t h).2.2.2.2.1 j)
    (le_of_eq N_0) t0_15 rfl j, zero_add]

/-- The accumulated result at the end: the sum over the chunks. -/
theorem final14 : (dats m 0 c).arrAt 14 (cfgs 0).N = fun i : S8x128x128.Idx => ∑ t : Fin cfg0.N, part14 m c t i := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) (part14 m c)
    (fun t h j => ((at_first m c t h).2.2.2.2.2.1 j).trans (zero_add _).symm) (fun t h j => (at_step m c t h).2.2.2.2.2.1 j)
    (le_of_eq N_0) t0_15 rfl j, zero_add]

/-- The accumulated result at the end: the sum over the chunks. -/
theorem final15 : (dats m 0 c).arrAt 15 (cfgs 0).N = fun i : S128x128.Idx => ∑ t : Fin cfg0.N, part15 m c t i := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0) (part15 m c)
    (fun t h j => ((at_first m c t h).2.2.2.2.2.2 j).trans (zero_add _).symm) (fun t h j => (at_step m c t h).2.2.2.2.2.2 j)
    (le_of_eq N_0) t0_15 rfl j, zero_add]

end Cert.Kernel2Ideal.Value

end
-- ==== Proof.SguRef.lean ====
/- What the spatial gating unit's reference computes. -/
module

public import proofs.«01_k».proof.Proof.SguMath
public import proofs.«01_k».proof.Proof.Scalars
public import proofs.«01_k».proof.Proof.Gen.Reference2Ideal.Run
public import Idealize.ShloMosaic.Lib.WordCmp

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Norm Cert.Sgu

variable (V0 : Valuation τ sig (Elt Ideal))

/-- @main's arguments: the layer's input, its weight and bias, -/
abbrev bH : Vec Ideal S2048x1024 .f32 := V0 (Proc.devRef .tc main_arg0)
@[inherit_doc bH] abbrev bW : Vec Ideal S1024x6144 .f32 := V0 (Proc.devRef .tc main_arg1)
@[inherit_doc bH] abbrev bB : Vec Ideal S1x6144 .f32 := V0 (Proc.devRef .tc main_arg2)
/-- the norm's weights, the mixing matrix and bias, -/
abbrev bG : Vec Ideal S1x1024 .f32 := V0 (Proc.devRef .tc main_arg3)
@[inherit_doc bG] abbrev bLb : Vec Ideal S1x1024 .f32 := V0 (Proc.devRef .tc main_arg4)
@[inherit_doc bG] abbrev bWs : Vec Ideal S1x8x128x128 .f32 := V0 (Proc.devRef .tc main_arg5)
@[inherit_doc bG] abbrev bBs : Vec Ideal S1x8x128 .f32 := V0 (Proc.devRef .tc main_arg6)
/-- and the cotangent. -/
abbrev bD : Vec Ideal S2048x1024 .f32 := V0 (Proc.devRef .tc main_arg7)

/-- The projection at an entry. -/
def rproj (r : Fin 2048) (q : Fin 6144) : EReal := ∑ k : Fin 1024, bH V0 (ix2 r k) * bW V0 (ix2 k q)

/-- Row `r` of chunk `n`. -/
abbrev at_row (n : Fin 16) (r : Fin 128) : Fin 2048 := ⟨n.val * 128 + r.val, by omega⟩

/-- Chunk `n` of the arguments. -/
def rchunk (n : Fin 16) : Chunk where
  U r j := rproj V0 (at_row n r) ⟨j.val, by omega⟩ + bB V0 (ix2 0 ⟨j.val, by omega⟩)
  V r j := rproj V0 (at_row n r) ⟨1024 + j.val, by omega⟩ + bB V0 (ix2 0 ⟨1024 + j.val, by omega⟩)
  g k := bG V0 (ix2 0 k)
  b k := bLb V0 (ix2 0 k)
  W h t s := bWs V0 (ix4 0 h t s)
  B r j := bBs V0 (ix3 0 (head j) r)
  D r j := bD V0 (ix2 (at_row n r) j)

variable (n : Fin 16) (t s : Fin 128) (j : Fin 1024) (h : Fin 8) (e : Fin 128)

theorem r0 (r : Fin 2048) (q : Fin 6144) : res_main_v0 V0 (ix2 r q) = rproj V0 r q := by
  pointwise [res_main_v0, rproj]

/-- The gate. -/
theorem r8 : res_main_v8 V0 (ix2 (at_row n t) j) = (rchunk V0 n).U t j := by
  pointwise [res_main_v8, r0, rchunk]
@[inherit_doc r8] theorem r19 : res_main_v19 V0 (ix2 (at_row n t) j) = th ((rchunk V0 n).U t j) := by
  pointwise [res_main_v19, r8, th]
@[inherit_doc r8] theorem r28 : res_main_v28 V0 (ix2 (at_row n t) j) = half ((rchunk V0 n).U t j) := by
  pointwise [res_main_v28, r19, half]
@[inherit_doc r8] theorem r29 : res_main_v29 V0 (ix2 (at_row n t) j) = u (rchunk V0 n) t j := by
  pointwise [res_main_v29, r8, r28, u, gelu]

/-- The value, normed. -/
theorem r31 : res_main_v31 V0 (ix2 (at_row n t) j) = (rchunk V0 n).V t j := by
  pointwise [res_main_v31, r0, rchunk]
@[inherit_doc r31] theorem r42 : res_main_v42 V0 (ix2 (at_row n t) j) = th ((rchunk V0 n).V t j) := by
  pointwise [res_main_v42, r31, th]
@[inherit_doc r31] theorem r51 : res_main_v51 V0 (ix2 (at_row n t) j) = half ((rchunk V0 n).V t j) := by
  pointwise [res_main_v51, r42, half]
@[inherit_doc r31] theorem r52 : res_main_v52 V0 (ix2 (at_row n t) j) = gv (rchunk V0 n) t j := by
  pointwise [res_main_v52, r31, r51, gv, gelu]
@[inherit_doc r31] theorem r56 : res_main_v56 V0 (ix2 (at_row n t) 0) = mean (gv (rchunk V0 n) t) := by
  pointwise [res_main_v56, r52, mean]
@[inherit_doc r31] theorem r58 : res_main_v58 V0 (ix2 (at_row n t) j) = centred (gv (rchunk V0 n) t) j := by
  pointwise [res_main_v58, r52, r56, centred]
@[inherit_doc r31] theorem r67 : res_main_v67 V0 (ix2 (at_row n t) j) = centred (gv (rchunk V0 n) t) j := by
  pointwise [res_main_v67, r52, r56, centred]
@[inherit_doc r31] theorem r69 : res_main_v69 V0 (ix2 (at_row n t) 0) = spread (gv (rchunk V0 n) t) := by
  pointwise [res_main_v69, r58, spread]
@[inherit_doc r31] theorem r70 : res_main_v70 V0 (ix2 (at_row n t) 0) = rinv (gv (rchunk V0 n) t) := by
  pointwise [res_main_v70, r69, rinv]
@[inherit_doc r31] theorem r75 : res_main_v75 V0 (ix2 (at_row n t) j) = normed (gv (rchunk V0 n) t) j := by
  pointwise [res_main_v75, r67, r70, normed]
@[inherit_doc r31] theorem r80 : res_main_v80 V0 (ix4 n t h e) = v (rchunk V0 n) t (at' h e) := by
  pointwise [res_main_v80, r75, v, layerNorm]
  rfl

/-- The causal mixing matrix. -/
theorem r85m : res_main_v85_1 V0 (ix3 h t s) = if s.val ≤ t.val then 1#1 else 0#1 := by
  pointwise [res_main_v85_1]
  rw [show IntOp.addi (BitVec.ofNat 32 t.val) 0#32 = BitVec.ofNat 32 t.val from BitVec.add_zero _]
  word_cmp
@[inherit_doc r85m] theorem r85 : res_main_v85_0 V0 (ix3 h t s) = mask (rchunk V0 n) h t s := by
  pointwise [res_main_v85_0, r85m, mask]
  split <;> rfl

/-- The places of a row and of a column. -/
theorem chunk_of (p : (n.val * 128 + t.val) / 128 < 16) : (⟨(n.val * 128 + t.val) / 128, p⟩ : Fin 16) = n :=
  Fin.ext (by show (n.val * 128 + t.val) / 128 = n.val; omega)
@[inherit_doc chunk_of] theorem row_of (p : (n.val * 128 + t.val) % 128 < 128) : (⟨(n.val * 128 + t.val) % 128, p⟩ : Fin 128) = t :=
  Fin.ext (by show (n.val * 128 + t.val) % 128 = t.val; omega)
@[inherit_doc chunk_of] theorem col_of (p : j.val / 128 < 8) (q : j.val % 128 < 128) : at' ⟨j.val / 128, p⟩ ⟨j.val % 128, q⟩ = j :=
  Fin.ext (by show j.val / 128 * 128 + j.val % 128 = j.val; omega)

/-- The factors of a sum of products change places. -/
theorem swap (f g : Fin 128 → EReal) : ∑ x, f x * g x = ∑ x, g x * f x := Finset.sum_congr rfl fun _ _ => mul_comm _ _

/-- The mixed value. -/
theorem r92 : res_main_v92 V0 (ix2 (at_row n t) j) = mix (rchunk V0 n) t j := by
  pointwise [res_main_v92, r80, r85 V0 n, mix]
  simp only [chunk_of, row_of, col_of]
  exact congrArg (· + _) (swap _ _)
@[inherit_doc r92] theorem r95 : res_main_v95 V0 (ix2 (at_row n t) j) = (rchunk V0 n).D t j * mix (rchunk V0 n) t j := by
  pointwise [res_main_v95, r92, rchunk]

/-- The mixing's gradients. -/
theorem r96 : res_main_v96 V0 (ix4 n t h e) = dmix (rchunk V0 n) t (at' h e) := by
  pointwise [res_main_v96, r29, dmix]
  exact mul_comm (_ : EReal) _
@[inherit_doc r96] theorem r101 : res_main_v101 V0 (ix4 h n e t) = dmix (rchunk V0 n) t (at' h e) := by
  pointwise [res_main_v101, r96]
@[inherit_doc r96] theorem r106 : res_main_v106 V0 (ix2 (at_row n t) j) = dv (rchunk V0 n) t j := by
  pointwise [res_main_v106, r101, r85 V0 n, dv]
  simp only [chunk_of, row_of, col_of]
  exact swap _ _

/-- The norm's gradient. -/
theorem r113 : res_main_v113 V0 (ix2 (at_row n t) j) = dv (rchunk V0 n) t j * (rchunk V0 n).g j := by
  pointwise [res_main_v113, r106, rchunk]
@[inherit_doc r113] theorem r118 : res_main_v118 V0 (ix2 (at_row n t) j) = part1 (gv (rchunk V0 n) t) (rchunk V0 n).g (dv (rchunk V0 n) t) j := by
  pointwise [res_main_v118, r113, r70, part1]
@[inherit_doc r113] theorem r127 : res_main_v127 V0 (ix2 (at_row n t) j) = part2 (gv (rchunk V0 n) t) (rchunk V0 n).g (dv (rchunk V0 n) t) j := by
  pointwise [res_main_v127, r67, r113, r70, r69, r58, part2]
  rw [Fin.sum_univ_one, r70, r69]
@[inherit_doc r113] theorem r137 : res_main_v137 V0 (ix2 (at_row n t) j) = dnorm (gv (rchunk V0 n) t) (rchunk V0 n).g (dv (rchunk V0 n) t) j := by
  pointwise [res_main_v137, r118, r127, dnorm, part3]
  rw [Fin.sum_univ_one]

/-- The rectifier's gradients. -/
theorem r144 : res_main_v144 V0 (ix2 (at_row n t) j)
    = dinner ((rchunk V0 n).V t j) (dnorm (gv (rchunk V0 n) t) (rchunk V0 n).g (dv (rchunk V0 n) t) j) := by
  pointwise [res_main_v144, r31, r137, r42, dinner]
@[inherit_doc r144] theorem r149 : res_main_v149 V0 (ix2 (at_row n t) j) = dV (rchunk V0 n) t j := by
  pointwise [res_main_v149, r31, r137, r51, r144, dV, dgelu]
@[inherit_doc r144] theorem r158 : res_main_v158 V0 (ix2 (at_row n t) j)
    = dinner ((rchunk V0 n).U t j) ((rchunk V0 n).D t j * mix (rchunk V0 n) t j) := by
  pointwise [res_main_v158, r8, r95, r19, dinner]
@[inherit_doc r144] theorem r163 : res_main_v163 V0 (ix2 (at_row n t) j) = dU (rchunk V0 n) t j := by
  pointwise [res_main_v163, r8, r95, r28, r158, dU, dgelu]

/-- A sum over the rows, chunk by chunk. -/
theorem rows (f : Fin 2048 → EReal) : ∑ r, f r = ∑ n : Fin 16, ∑ t : Fin 128, f (at_row n t) := Fin.sum_univ_tiles 16 128 rfl f

/-- The sums over the rows. -/
theorem r165 : (shapeCast S1x1024 (Host.reduceAdd (res_main_v163 V0) (constant S_ .f32 0x00000000#32) reducesTo_S2048x1024_S1024_d0 h_S_)
      shapeCasts_S1024_S1x1024 : FVec Ideal S1x1024 .f32) (ix2 0 j) = ∑ n : Fin 16, ∑ t : Fin 128, dU (rchunk V0 n) t j := by
  pointwise [rows, r163]
@[inherit_doc r165] theorem r151 : (shapeCast S1x1024 (Host.reduceAdd (res_main_v149 V0) (constant S_ .f32 0x00000000#32) reducesTo_S2048x1024_S1024_d0 h_S_)
      shapeCasts_S1024_S1x1024 : FVec Ideal S1x1024 .f32) (ix2 0 j) = ∑ n : Fin 16, ∑ t : Fin 128, dV (rchunk V0 n) t j := by
  pointwise [rows, r149]
@[inherit_doc r165] theorem r111 : (shapeCast S1x1024 (Host.reduceAdd (mulf (res_main_v75 V0) (res_main_v106 V0)) (constant S_ .f32 0x00000000#32)
      reducesTo_S2048x1024_S1024_d0 h_S_) shapeCasts_S1024_S1x1024 : FVec Ideal S1x1024 .f32) (ix2 0 j) = ∑ n : Fin 16, dg (rchunk V0 n) j := by
  pointwise [rows, r75, r106, dg]
@[inherit_doc r165] theorem r108 : (shapeCast S1x1024 (Host.reduceAdd (res_main_v106 V0) (constant S_ .f32 0x00000000#32) reducesTo_S2048x1024_S1024_d0 h_S_)
      shapeCasts_S1024_S1x1024 : FVec Ideal S1x1024 .f32) (ix2 0 j) = ∑ n : Fin 16, db (rchunk V0 n) j := by
  pointwise [rows, r106, db]

/-- The gradient of the mixing matrix. -/
theorem r105 : (select (res_main_v85_1 V0) (Host.dotGeneral (φ₁ := .f32) (φ₂ := .f32) dot_S8x16x128x128_S16x128x8x128_S8x128x128_12_03_3_1_0_2 none (res_main_v101 V0)
      (res_main_v80 V0)) (broadcastInDim S8x128x128 ![] bcast_S_S8x128x128 (constant S_ .f32 0x00000000#32)) : FVec Ideal S8x128x128 .f32) (ix3 h t s)
    = ∑ n : Fin 16, dws (rchunk V0 n) h t s := by
  pointwise [r85m, r101, r80, dws]
  by_cases hs : s.val ≤ t.val
  · simp only [if_pos hs]
    rfl
  · simp only [if_neg hs, Finset.sum_const_zero]
    rfl

/-- A sum over the first and the last of four axes. -/
theorem sum03 {a b c d : Nat} (H : (⟨4, ![a, b, c, d]⟩ : Shape).ReducesTo [0, 3] ⟨2, ![b, c]⟩) (x : (⟨4, ![a, b, c, d]⟩ : Shape).Idx → EReal)
    (init : EReal) (i : Fin b) (k : Fin c) : Ideal.hostReduceAdd H x init (ix2 i k) = init + ∑ n : Fin a, ∑ e : Fin d, x (ix4 n i k e) := by
  refine congrArg (init + ·) ((Finset.sum_filter_eq_sum_of_fiber (fun i' => H.drop i' = ix2 i k) (fun p : Fin a × Fin d => ix4 p.1 i k p.2)
    (fun p q e => Prod.ext (congrFun e 0) (congrFun e 3)) (fun y => ⟨fun e => ⟨(y 0, y 3), ?_⟩, ?_⟩) x).trans (Fintype.sum_prod_type _))
  · funext z
    match z with
    | ⟨0, _⟩ => rfl
    | ⟨1, _⟩ => exact (congrFun e 0).symm
    | ⟨2, _⟩ => exact (congrFun e 1).symm
    | ⟨3, _⟩ => rfl
  · rintro ⟨p, rfl⟩
    funext z
    match z with
    | ⟨0, _⟩ => rfl
    | ⟨1, _⟩ => rfl

/-- The gradient of the mixing bias. -/
theorem r100 : (transpose S8x128 [1, 0] (Host.reduceAdd (shapeCast S1x128x8x1 (Host.reduceAdd (res_main_v96 V0) (constant S_ .f32 0x00000000#32)
      reducesTo_S16x128x8x128_S128x8_d0_3 h_S_) shapeCasts_S128x8_S1x128x8x1) (constant S_ .f32 0x00000000#32) reducesTo_S1x128x8x1_S128x8_d0_3 h_S_)
      transposes_S128x8_S8x128_1_0 : FVec Ideal S8x128 .f32) (ix2 h t) = ∑ n : Fin 16, dbs (rchunk V0 n) t h := by
  pointwise [sum03, r96, dbs]
  rw [Fin.sum_univ_one, Fin.sum_univ_one]

/-- The projection's gradient. -/
theorem r169 (r : Fin 2048) (q : Fin 6144) : (concatenate S2048x6144 1 [⟨S2048x1024, ((truncf .bf16 (res_main_v163 V0) bitsLt_bf16_f32) : (⟨S2048x1024, .bf16⟩ : BufTy).Contents (Elt Ideal))⟩, ⟨S2048x1024, ((truncf .bf16 (res_main_v149 V0) bitsLt_bf16_f32) : (⟨S2048x1024, .bf16⟩ : BufTy).Contents (Elt Ideal))⟩, ⟨S2048x4096, ((extractStridedSlice S2048x4096 ![0, 2048] (V0 (Proc.devRef .tc main_arg8)) slices_S2048x6144_S2048x4096_0_2048) : (⟨S2048x4096, .bf16⟩ : BufTy).Contents (Elt Ideal))⟩] concatenates_S2048x1024_S2048x1024_S2048x4096_S2048x6144_d1 : Vec Ideal S2048x6144 .bf16) (ix2 r q)
    = if h : q.val < 1024 then dU (rchunk V0 ⟨r.val / 128, by omega⟩) ⟨r.val % 128, by omega⟩ ⟨q.val, h⟩
      else if h : q.val < 2048 then dV (rchunk V0 ⟨r.val / 128, by omega⟩) ⟨r.val % 128, by omega⟩ ⟨q.val - 1024, by omega⟩
      else (V0 (Proc.devRef .tc main_arg8) : Vec Ideal S2048x6144 .bf16) (ix2 r q) := by
  have er : r = at_row ⟨r.val / 128, by omega⟩ ⟨r.val % 128, by omega⟩ := Fin.ext (by show r.val = r.val / 128 * 128 + r.val % 128; omega)
  by_cases h : q.val < 1024
  · rw [dif_pos h, ← r163, ← er]
    pointwise
    rw [dif_pos h]
  · rw [dif_neg h]
    by_cases h' : q.val < 2048
    · rw [dif_pos h', ← r149, ← er]
      pointwise
      rw [dif_neg h, dif_pos (by omega)]
    · rw [dif_neg h']
      pointwise
      rw [dif_neg h, dif_neg (by omega)]
      exact congrArg _ (congrArg (ix2 r) (Fin.ext (by show 2048 + (q.val - 1024 - 1024) = q.val; omega)))

end Cert.Reference2Ideal.Value

end
-- ==== Proof.SguClaim.lean ====
/- The spatial gating unit's gradients: kernel and reference agree. -/
module

public import proofs.«01_k».proof.Proof.SguFinal
public import proofs.«01_k».proof.Proof.SguRef
public import proofs.«01_k».proof.Defs
public import Idealize.ShloMosaic.Lib.Claim

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Kernel2Ideal.Pay Cert.Sgu

variable (m : (ℓ : Loc nD τ sig) → Buf (Elt Ideal) ℓ) (c : Dev nD)

/-- From equal arguments both programs work on equal chunks. -/
theorem chunk_eq (m' : (ℓ : Loc Cert.Reference2Ideal.nD Cert.Reference2Ideal.τ Cert.Reference2Ideal.sig) → Buf (Elt Ideal) ℓ)
    (h : m' (c.tc.loc Cert.Reference2Ideal.main_arg0) = m (c.tc.loc main_arg0) ∧ m' (c.tc.loc Cert.Reference2Ideal.main_arg1) = m (c.tc.loc main_arg1)
      ∧ m' (c.tc.loc Cert.Reference2Ideal.main_arg2) = m (c.tc.loc main_arg2) ∧ m' (c.tc.loc Cert.Reference2Ideal.main_arg3) = m (c.tc.loc main_arg3)
      ∧ m' (c.tc.loc Cert.Reference2Ideal.main_arg4) = m (c.tc.loc main_arg4) ∧ m' (c.tc.loc Cert.Reference2Ideal.main_arg5) = m (c.tc.loc main_arg5)
      ∧ m' (c.tc.loc Cert.Reference2Ideal.main_arg6) = m (c.tc.loc main_arg6) ∧ m' (c.tc.loc Cert.Reference2Ideal.main_arg7) = m (c.tc.loc main_arg7)
      ∧ m' (c.tc.loc Cert.Reference2Ideal.main_arg8) = m (c.tc.loc main_arg8)) (n : Fin 16) :
    Cert.Reference2Ideal.Value.rchunk (StableHlo.launchContents m' c) n = chunk m c n := by
  obtain ⟨h0, h1, h2, h3, h4, h5, h6, h7, h8⟩ := h
  unfold Cert.Reference2Ideal.Value.rchunk chunk
  simp only [Cert.Reference2Ideal.Value.rproj, proj, Cert.Reference2Ideal.Value.bH, Cert.Reference2Ideal.Value.bW, Cert.Reference2Ideal.Value.bB,
    Cert.Reference2Ideal.Value.bG, Cert.Reference2Ideal.Value.bLb, Cert.Reference2Ideal.Value.bWs, Cert.Reference2Ideal.Value.bBs,
    Cert.Reference2Ideal.Value.bD, aH, aW, aB, aG, aLb, aWs, aBs, aD, ← h0, ← h1, ← h2, ← h3, ← h4, ← h5, ← h6, ← h7]

/-- The mixing bias's gradient as the kernel's last lines hand it out: the head's lane of the accumulated result. -/
theorem tail_v9 (h : Fin 8) (t : Fin 128) : Pipeline.afterTail₀ cfgs (dats m) 0 (V0 m) [hostOps1] c main_v9 (ix2 h t)
    = (dats m 0 c).arrAt 15 (cfgs 0).N (ix2 t ⟨h.val, by omega⟩) := by
  show StableHlo.after hostOps1 _ main_v9 (ix2 h t) = _
  entry_read
  pointwise
  exact congrFun ((dats m 0 c).withArrays_arrAt sharedIn0 (V0 m c) (A_eq m c) 15) _

/-- The grid's points are the chunks. -/
theorem sum_chunks (f : Fin 16 → EReal) : ∑ t : Fin cfg0.N, f ⟨t.val, lt16 t⟩ = ∑ n : Fin 16, f n := rfl

set_option maxHeartbeats 4000000 in
theorem algebraic : Cert.algebraic_Kernel2Ideal_Reference2Ideal := by
  pair_intro
  · run_from Cert.Kernel2Ideal.Gen.run_main m g & Cert.Kernel2Ideal.Gen.unchanged m g
  · run_from Cert.Reference2Ideal.Value.run m' g'
    · rw [final9]
      funext i
      idx_vars i
      refine (Cert.Reference2Ideal.Value.r169 _ _ _).trans ?_
      simp only [chunk_eq m c m' (hagree c)]
      rw [show StableHlo.launchContents m' c (Proc.devRef .tc Cert.Reference2Ideal.main_arg8) = aDp m c from (hagree c).2.2.2.2.2.2.2.2]
      rfl
    · rw [final10]
      funext i
      idx_vars i
      obtain rfl := Fin.fin_one_eq_zero i0
      refine (Cert.Reference2Ideal.Value.r165 _ _).trans ?_
      simp only [chunk_eq m c m' (hagree c)]
      rfl
    · rw [final11]
      funext i
      idx_vars i
      obtain rfl := Fin.fin_one_eq_zero i0
      refine (Cert.Reference2Ideal.Value.r151 _ _).trans ?_
      simp only [chunk_eq m c m' (hagree c)]
      rfl
    · rw [final12]
      funext i
      idx_vars i
      obtain rfl := Fin.fin_one_eq_zero i0
      refine (Cert.Reference2Ideal.Value.r111 _ _).trans ?_
      simp only [chunk_eq m c m' (hagree c)]
      rfl
    · rw [final13]
      funext i
      idx_vars i
      obtain rfl := Fin.fin_one_eq_zero i0
      refine (Cert.Reference2Ideal.Value.r108 _ _).trans ?_
      simp only [chunk_eq m c m' (hagree c)]
      rfl
    · rw [final14]
      funext i
      idx_vars i
      refine (Cert.Reference2Ideal.Value.r105 _ _ _ _).trans ?_
      simp only [chunk_eq m c m' (hagree c)]
      rfl
    · funext i
      idx_vars i
      refine (Cert.Reference2Ideal.Value.r100 _ _ _).trans ?_
      simp only [chunk_eq m c m' (hagree c)]
      rw [tail_v9, final15]
      exact (Finset.sum_congr rfl fun t _ => part15_at m c t _ _).symm

end Cert.Kernel2Ideal.Value

end
-- ==== Proof.Ffn1.lean ====
/- The first feed-forward's activation gradients: what its blocks hold and what the two result arrays hold. -/
module

public import proofs.«01_k».proof.Proof.Gen.Kernel4Ideal.Frame
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Scalars

section payloads
variable (x : Vec Ideal S2048x1024 .bf16) (w : Vec Ideal S512x1024 .bf16) (g u : Vec Ideal S2048x512 .bf16)
  (r : Fin 2048) (j : Fin 512)

/-- What a point computes for the gate. -/
theorem block_gate : k0_pay4 (F := Ideal) x w g u (ix2 r j)
    = dgate (∑ k : Fin 1024, x (ix2 r k) * w (ix2 j k)) (g (ix2 r j)) (u (ix2 r j)) := by
  pointwise [k0_pay4, k0_pay3, k0_pay2, k0_pay1, dgate]

/-- What a point computes for the up value. -/
theorem block_up : k0_pay5 (F := Ideal) x w g (ix2 r j)
    = dup (∑ k : Fin 1024, x (ix2 r k) * w (ix2 j k)) (g (ix2 r j)) := by
  pointwise [k0_pay5, k0_pay3, k0_pay2, k0_pay1, dup]

end payloads

variable (m : (ℓ : Loc nD τ sig) → Buf (Elt Ideal) ℓ) (c : Dev nD)

/-- The five arguments: the normed input, `w_gate`, `w_up`, `w_down` and the cotangent. -/
abbrev hIn : Vec Ideal S2048x1024 .f32 := m ((c : Thread nD τ).loc main_arg0)
@[inherit_doc hIn] abbrev wGate : Vec Ideal S1024x4096 .f32 := m ((c : Thread nD τ).loc main_arg1)
@[inherit_doc hIn] abbrev wUp : Vec Ideal S1024x4096 .f32 := m ((c : Thread nD τ).loc main_arg2)
@[inherit_doc hIn] abbrev wDown : Vec Ideal S4096x1024 .f32 := m ((c : Thread nD τ).loc main_arg3)
@[inherit_doc hIn] abbrev cot : Vec Ideal S2048x1024 .f32 := m ((c : Thread nD τ).loc main_arg4)

/-- An entry of the cotangent of the hidden product. -/
def dHid (r : Fin 2048) (j : Fin 4096) : EReal := ∑ k : Fin 1024, cot m c (ix2 r k) * wDown m c (ix2 j k)
/-- An entry of the gate. -/
def gate (r : Fin 2048) (j : Fin 4096) : EReal := ∑ k : Fin 1024, hIn m c (ix2 r k) * wGate m c (ix2 k j)
/-- An entry of the up value. -/
def up (r : Fin 2048) (j : Fin 4096) : EReal := ∑ k : Fin 1024, hIn m c (ix2 r k) * wUp m c (ix2 k j)

/-- Every window's block index in the point's number. -/
theorem idx : ∀ t : Fin cfg0.N, win0_0.index t = ![0, 0] ∧ win0_1.index t = ![t.val, 0]
    ∧ win0_2.index t = ![0, t.val] ∧ win0_3.index t = ![0, t.val] ∧ win0_4.index t = ![0, t.val] ∧ win0_5.index t = ![0, t.val] :=
  (by decide +kernel : ∀ t : Fin grid0.N, _)

theorem gate_made (r : Fin 2048) (j : Fin 4096) : V m c main_v1 (ix2 r j) = gate m c r j := by
  entry_read
  pointwise [gate]

theorem up_made (r : Fin 2048) (j : Fin 4096) : V m c main_v3 (ix2 r j) = up m c r j := by
  entry_read
  pointwise [up]

variable (t : Fin cfg0.N)

/-- Column `j` of the point's block of hidden columns. -/
abbrev col (j : Fin 512) : Fin 4096 := ⟨t.val * 512 + j.val, by have h : t.val < 8 := lt_of_lt_of_eq t.isLt N_0; omega⟩

theorem read_cot (r : Fin 2048) (k : Fin 1024) : iblk m c 0 t (ix2 r k) = cot m c (ix2 r k) := by
  blk_point [iblk, V, idx t]

theorem read_down (j : Fin 512) (k : Fin 1024) : iblk m c 1 t (ix2 j k) = wDown m c (ix2 (col t j) k) := by
  blk_point [iblk, V, idx t]

theorem read_gate (r : Fin 2048) (j : Fin 512) : iblk m c 2 t (ix2 r j) = gate m c r (col t j) := by
  refine Eq.trans ?_ (gate_made m c r (col t j))
  unfold iblk
  blk_ext [idx t]

theorem read_up (r : Fin 2048) (j : Fin 512) : iblk m c 3 t (ix2 r j) = up m c r (col t j) := by
  refine Eq.trans ?_ (up_made m c r (col t j))
  unfold iblk
  blk_ext [idx t]

/-- The block of the gate's gradient a point leaves. -/
theorem left_gate (r : Fin 2048) (j : Fin 512) : (dats m 0 c).after 4 t (ix2 r j)
    = dgate (dHid m c r (col t j)) (gate m c r (col t j)) (up m c r (col t j)) := by
  rw [after0_4, show out0_4 (iblk m c 0 t) (iblk m c 1 t) (iblk m c 2 t) (iblk m c 3 t)
    = k0_pay4 (F := Ideal) (iblk m c 0 t) (iblk m c 1 t) (iblk m c 2 t) (iblk m c 3 t) by frame_out, block_gate, read_gate, read_up, dHid]
  simp only [read_cot, read_down]

/-- The block of the up value's gradient a point leaves. -/
theorem left_up (r : Fin 2048) (j : Fin 512) : (dats m 0 c).after 5 t (ix2 r j)
    = dup (dHid m c r (col t j)) (gate m c r (col t j)) := by
  rw [after0_5, show out0_5 (iblk m c 0 t) (iblk m c 1 t) (iblk m c 2 t) (iblk m c 3 t)
    = k0_pay5 (F := Ideal) (iblk m c 0 t) (iblk m c 1 t) (iblk m c 2 t) by frame_out, block_up, read_gate, dHid]
  simp only [read_cot, read_down]

/-- The gate's gradient, whole. -/
theorem all_gate : (dats m 0 c).arrAt 4 (cfgs 0).N
    = fun i : S2048x4096.Idx => dgate (dHid m c (i 0) (i 1)) (gate m c (i 0) (i 1)) (up m c (i 0) (i 1)) := by
  refine (dats m 0 c).arrAt_eq_of_covers 4 _ (by decide +kernel) fun t hf y => ?_
  obtain ⟨e0, e1, e2, e3, e4, e5⟩ := idx t
  idx_vars y
  blk_simp
  rw [left_gate]
  refine congrArg₂ (fun r j => dgate (dHid m c r j) (gate m c r j) (up m c r j)) (Fin.ext ?_) (Fin.ext ?_) <;> blk_simp [e4]

/-- The up value's gradient, whole. -/
theorem all_up : (dats m 0 c).arrAt 5 (cfgs 0).N = fun i : S2048x4096.Idx => dup (dHid m c (i 0) (i 1)) (gate m c (i 0) (i 1)) := by
  refine (dats m 0 c).arrAt_eq_of_covers 5 _ (by decide +kernel) fun t hf y => ?_
  obtain ⟨e0, e1, e2, e3, e4, e5⟩ := idx t
  idx_vars y
  blk_simp
  rw [left_up]
  refine congrArg₂ (fun r j => dup (dHid m c r j) (gate m c r j)) (Fin.ext ?_) (Fin.ext ?_) <;> blk_simp [e5]

end Cert.Kernel4Ideal.Value

end
-- ==== Proof.Ffn1Claim.lean ====
/- The first feed-forward's activation gradients are the reference's. -/
module

public import proofs.«01_k».proof.Defs
public import proofs.«01_k».proof.Proof.Ffn1
public import proofs.«01_k».proof.Proof.Finite
public import proofs.«01_k».proof.Proof.Gen.Reference4Ideal
public import proofs.«01_k».proof.Proof.Gen.Reference4Ideal.Run

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Cert.Scalars

theorem algebraic : Cert.algebraic_Kernel4Ideal_Reference4Ideal_pre_finite := by
  pair_intro
  · run_from Cert.Kernel4Ideal.Gen.run_main m g
  · run_from Cert.Reference4Ideal.Value.run m' g'
    · rw [all_gate]
      funext i
      idx_vars i
      pointwise
      obtain ⟨h0, h2, h3, h4⟩ := Cert.Pre_finite.reals _ _ _ _ _ (hpre c)
      exact dgate_rule (Real'.mul (Real'.sum _ _ fun k _ => (h4 _).mul (h3 _)) (Real'.sum _ _ fun k _ => (h0 _).mul (h2 _)))
    · rw [all_up]
      funext i
      idx_vars i
      pointwise
      exact mul_comm _ _

end Cert.Kernel4Ideal.Value

end
-- ==== Proof.Tiles.lean ====
/- Rows in equal tiles, and a quantity the first tile sets and every later one adds to. -/
module

public import Idealize.ShloMosaic.Lib.Pipeline.ValueKit
public import Idealize.ShloMosaic.Lib.Claim

@[expose] public section

noncomputable section

open Idealize.ShloMosaic

namespace Cert.Tiles

variable {N B R : ℕ} (h : N * B = R)

include h in
theorem row_lt (t : Fin N) (r : Fin B) : t.val * B + r.val < R := by
  have a : (t.val + 1) * B ≤ N * B := Nat.mul_le_mul_right _ t.isLt
  rw [Nat.add_mul, Nat.one_mul] at a
  have b := r.isLt
  omega

/-- Row `r` of tile `t`. -/
abbrev row (t : Fin N) (r : Fin B) : Fin R := ⟨t.val * B + r.val, row_lt h t r⟩

/-- The tile's part of a sum over all rows. -/
def part (t : Fin N) (f : Fin R → EReal) : EReal := ∑ r : Fin B, f (row h t r)

/-- The tiles' parts make the whole sum. -/
theorem parts (f : Fin R → EReal) : ∑ t : Fin N, part h t f = ∑ r : Fin R, f r := (Fin.sum_univ_tiles N B h f).symm

/-- A quantity that the first tile sets to its part and every later one adds its part to ends as the whole sum. -/
theorem summed {ι : Type*} (J : ℕ) (hJ : N ≤ J) (u : (n : ℕ) → n < N → ι → EReal) (f : ι → Fin R → EReal)
    (h0 : ∀ t : Fin N, t.val % J = 0 → ∀ i, u t.val t.isLt i = part h t (f i))
    (h1 : ∀ t : Fin N, ¬t.val % J = 0 → ∀ i,
      u t.val t.isLt i = u (t.val - 1) (Nat.lt_of_le_of_lt (Nat.sub_le _ _) t.isLt) i + part h t (f i))
    (t : Fin N) (ht : t.val + 1 = N) (i : ι) : u t.val t.isLt i = ∑ r : Fin R, f i r := by
  rw [Pipeline.eq_sum_fin_of_reset_step_apply_last u J (fun _ => 0) (fun t i => part h t (f i))
    (fun t h j => (h0 t h j).trans (zero_add _).symm) h1 hJ t ht i, zero_add, parts]

end Cert.Tiles

end
-- ==== Proof.MixTail.lean ====
/- The branches' merge, backward: its gradients as sums, what a point computes of them, and what the seven result
   arrays hold. -/
module

public import proofs.«01_k».proof.Proof.Gen.Kernel5Ideal.Frame
public import proofs.«01_k».proof.Proof.Scalars
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Mix

/-- The merge's arrays on `R` rows: the output's cotangent, the two gates before their sigmoid, the two branches'
    values, the output matrix and the branches' last matrices. -/
structure Merge (R : Nat) where
  D : Fin R → Fin 1024 → EReal
  Z : Fin 2 → Fin R → Fin 1024 → EReal
  Y : Fin 2 → Fin R → Fin 1024 → EReal
  O : Fin 1024 → Fin 1024 → EReal
  W : Fin 2 → Fin 1024 → Fin 1024 → EReal

variable {R S : Nat} (n : Merge R)

/-- The rows `f` picks. -/
def Merge.pick (f : Fin S → Fin R) : Merge S where
  D r := n.D (f r)
  Z p r := n.Z p (f r)
  Y p r := n.Y p (f r)
  O := n.O
  W := n.W

/-- The merged branch's cotangent. -/
def Merge.dM (r : Fin R) (q : Fin 1024) : EReal := ∑ k, n.D r k * n.O q k
/-- The gate. -/
def Merge.sig (p : Fin 2) (r : Fin R) (q : Fin 1024) : EReal := Ideal.logistic (n.Z p r q)
/-- The branch's gradient. -/
def Merge.gY (p : Fin 2) (r : Fin R) (q : Fin 1024) : EReal := n.sig p r q * n.dM r q
/-- The gate's gradient, before the sigmoid. -/
def Merge.gZ (p : Fin 2) (r : Fin R) (q : Fin 1024) : EReal :=
  n.dM r q * n.Y p r q * (n.sig p r q * (1 - n.sig p r q))
/-- The gradient behind the branch's last matrix. -/
def Merge.gU (p : Fin 2) (r : Fin R) (q : Fin 1024) : EReal := ∑ k, n.gY p r k * n.W p q k
/-- Both gates' gradients, side by side. -/
def Merge.gZZ (r : Fin R) (q : Fin 2048) : EReal :=
  if h : q.val < 1024 then n.gZ 0 r ⟨q.val, h⟩ else n.gZ 1 r ⟨q.val - 1024, by omega⟩

end Cert.Mix

namespace Cert.Kernel5Ideal.Value

open Cert.Kernel5Ideal Cert.Kernel5Ideal.Gen Cert.Mix Cert.Tiles

section payloads
variable (d ga gb : Vec Ideal S256x1024 .bf16) (ba bb : Vec Ideal S1x1024 .f32) (ya yb : Vec Ideal S256x1024 .bf16)
  (wa wb wo : Vec Ideal S1024x1024 .bf16)

/-- What a point's blocks hold. -/
def held : Merge 256 where
  D r q := d (ix2 r q)
  Z p r q := ![ga (ix2 r q) + ba (ix2 0 q), gb (ix2 r q) + bb (ix2 0 q)] p
  Y p r q := ![ya (ix2 r q), yb (ix2 r q)] p
  O q k := wo (ix2 q k)
  W p q k := ![wa (ix2 q k), wb (ix2 q k)] p

theorem pay_dm (r : Fin 256) (q : Fin 1024) : k0_pay2 (F := Ideal) d wo (ix2 r q) = (held d ga gb ba bb ya yb wa wb wo).dM r q := by
  pointwise [k0_pay2, Merge.dM, held]

theorem pay_sigA (r : Fin 256) (q : Fin 1024) : k0_pay3 (F := Ideal) ga ba (ix2 r q) = (held d ga gb ba bb ya yb wa wb wo).sig 0 r q := by
  pointwise [k0_pay3, Merge.sig, held]

theorem pay_sigB (r : Fin 256) (q : Fin 1024) : k0_pay6 (F := Ideal) gb bb (ix2 r q) = (held d ga gb ba bb ya yb wa wb wo).sig 1 r q := by
  pointwise [k0_pay6, Merge.sig, held]

theorem pay_yA (r : Fin 256) (q : Fin 1024) : k0_pay12 (F := Ideal) (k0_pay11 d wo ga ba) (ix2 r q) = (held d ga gb ba bb ya yb wa wb wo).gY 0 r q := by
  pointwise [k0_pay12, k0_pay11, pay_sigA d ga gb ba bb ya yb wa wb wo, pay_dm d ga gb ba bb ya yb wa wb wo, Merge.gY]

theorem pay_yB (r : Fin 256) (q : Fin 1024) : k0_pay7 (F := Ideal) d wo gb bb (ix2 r q) = (held d ga gb ba bb ya yb wa wb wo).gY 1 r q := by
  pointwise [k0_pay7, pay_sigB d ga gb ba bb ya yb wa wb wo, pay_dm d ga gb ba bb ya yb wa wb wo, Merge.gY]

theorem pay_zA (r : Fin 256) (q : Fin 1024) :
    k0_pay13 (F := Ideal) (k0_pay2 d wo) (k0_pay4 ga ba) (k0_pay5 ya) (ix2 r q) = (held d ga gb ba bb ya yb wa wb wo).gZ 0 r q := by
  pointwise [k0_pay13, k0_pay4, k0_pay5, pay_sigA d ga gb ba bb ya yb wa wb wo, pay_dm d ga gb ba bb ya yb wa wb wo, Merge.gZ]
  rfl

theorem pay_zB (r : Fin 256) (q : Fin 1024) : k0_pay8 (F := Ideal) d wo gb bb yb (ix2 r q) = (held d ga gb ba bb ya yb wa wb wo).gZ 1 r q := by
  pointwise [k0_pay8, pay_sigB d ga gb ba bb ya yb wa wb wo, pay_dm d ga gb ba bb ya yb wa wb wo, Merge.gZ]
  rfl

/-- What a point computes of both gates' gradients, side by side. -/
theorem pay_zz (r : Fin 256) (q : Fin 2048) :
    k0_pay15 (F := Ideal) (k0_pay2 d wo) (k0_pay4 ga ba) (k0_pay5 ya) (k0_pay10 d wo gb bb yb) (ix2 r q) = (held d ga gb ba bb ya yb wa wb wo).gZZ r q := by
  unfold Merge.gZZ
  by_cases h : q.val < 1024
  · rw [dif_pos h]
    pointwise [k0_pay15, pay_zA d ga gb ba bb ya yb wa wb wo]
    exact dif_pos h
  · rw [dif_neg h]
    pointwise [k0_pay15, k0_pay10, pay_zB d ga gb ba bb ya yb wa wb wo]
    exact dif_neg h

/-- What it computes behind the branches' last matrices. -/
theorem pay_uA (r : Fin 256) (q : Fin 1024) : k0_pay16 (F := Ideal) (k0_pay11 d wo ga ba) wa (ix2 r q) = (held d ga gb ba bb ya yb wa wb wo).gU 0 r q := by
  pointwise [k0_pay16, pay_yA d ga gb ba bb ya yb wa wb wo, Merge.gU]
  rfl

@[inherit_doc pay_uA]
theorem pay_uB (r : Fin 256) (q : Fin 1024) : k0_pay17 (F := Ideal) (k0_pay7 d wo gb bb) wb (ix2 r q) = (held d ga gb ba bb ya yb wa wb wo).gU 1 r q := by
  pointwise [k0_pay17, pay_yB d ga gb ba bb ya yb wa wb wo, Merge.gU]
  rfl

/-- What it computes of the gates' biases' gradients. -/
theorem pay_bA (q : Fin 1024) :
    k0_pay14 (F := Ideal) (k0_pay2 d wo) (k0_pay4 ga ba) (k0_pay5 ya) (ix2 0 q) = ∑ r : Fin 256, (held d ga gb ba bb ya yb wa wb wo).gZ 0 r q := by
  pointwise [k0_pay14, pay_zA d ga gb ba bb ya yb wa wb wo]

@[inherit_doc pay_bA]
theorem pay_bB (q : Fin 1024) : k0_pay9 (F := Ideal) d wo gb bb yb (ix2 0 q) = ∑ r : Fin 256, (held d ga gb ba bb ya yb wa wb wo).gZ 1 r q := by
  pointwise [k0_pay9, pay_zB d ga gb ba bb ya yb wa wb wo]

end payloads

/-- The projected input. -/
def proj (a0 : Vec Ideal S2048x1024 .f32) (a1 : Vec Ideal S1024x6144 .f32) (r : Fin 2048) (q : Fin 6144) : EReal :=
  ∑ k : Fin 1024, a0 (ix2 r k) * a1 (ix2 k q)

/-- The merge of @main's arguments: the projected input and its bias hold the gates in their last two thousand columns. -/
def ofArgs (a0 : Vec Ideal S2048x1024 .f32) (a1 : Vec Ideal S1024x6144 .f32) (a2 : Vec Ideal S1x6144 .f32)
    (a3 a4 : Vec Ideal S2048x1024 .f32) (a5 a6 a7 : Vec Ideal S1024x1024 .f32) (a8 : Vec Ideal S2048x1024 .f32) : Merge 2048 where
  D r q := a8 (ix2 r q)
  Z p r q := ![proj a0 a1 r ⟨4096 + q.val, by omega⟩ + a2 (ix2 0 ⟨4096 + q.val, by omega⟩),
    proj a0 a1 r ⟨5120 + q.val, by omega⟩ + a2 (ix2 0 ⟨5120 + q.val, by omega⟩)] p
  Y p r q := ![∑ k : Fin 1024, a3 (ix2 r k) * a5 (ix2 k q), ∑ k : Fin 1024, a4 (ix2 r k) * a6 (ix2 k q)] p
  O q k := a7 (ix2 q k)
  W p q k := ![a5 (ix2 q k), a6 (ix2 q k)] p

variable (m : (ℓ : Loc nD τ sig) → Buf (Elt Ideal) ℓ) (c : Dev nD)

@[inherit_doc ofArgs]
def whole : Merge 2048 :=
  ofArgs (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))

/-- Every window's block index in the point's number. -/
theorem idx : ∀ t : Fin cfg0.N, win0_0.index t = ![t.val, 0] ∧ win0_1.index t = ![t.val, 4] ∧ win0_2.index t = ![t.val, 5]
    ∧ win0_3.index t = ![0, 4] ∧ win0_4.index t = ![0, 5] ∧ win0_5.index t = ![t.val, 0] ∧ win0_6.index t = ![t.val, 0]
    ∧ win0_7.index t = ![0, 0] ∧ win0_8.index t = ![0, 0] ∧ win0_9.index t = ![0, 0] ∧ win0_10.index t = ![t.val, 2]
    ∧ win0_11.index t = ![t.val, 0] ∧ win0_12.index t = ![t.val, 0] ∧ win0_13.index t = ![t.val, 0] ∧ win0_14.index t = ![t.val, 0] :=
  (by decide +kernel : ∀ t : Fin grid0.N, _)

/-- What the host's lines hand to the kernel: the projected input and the two branches' values. -/
theorem V_proj (r : Fin 2048) (q : Fin 6144) : V m c main_v1 (ix2 r q)
    = proj (m (c.tc.loc main_arg0)) (m (c.tc.loc main_arg1)) r q := by
  show StableHlo.after hostOps0 (fun b => m (c, b)) main_v1 (ix2 r q) = _
  entry_read
  pointwise [proj]

@[inherit_doc V_proj]
theorem V_ya (r : Fin 2048) (q : Fin 1024) : V m c main_v3 (ix2 r q) = (whole m c).Y 0 r q := by
  show StableHlo.after hostOps0 (fun b => m (c, b)) main_v3 (ix2 r q) = _
  entry_read
  pointwise [whole, ofArgs]

@[inherit_doc V_proj]
theorem V_yb (r : Fin 2048) (q : Fin 1024) : V m c main_v5 (ix2 r q) = (whole m c).Y 1 r q := by
  show StableHlo.after hostOps0 (fun b => m (c, b)) main_v5 (ix2 r q) = _
  entry_read
  pointwise [whole, ofArgs]

/-- The casts of arguments. -/
theorem V_dy (r : Fin 2048) (q : Fin 1024) : V m c main_v6 (ix2 r q) = (whole m c).D r q := by
  show StableHlo.after hostOps0 (fun b => m (c, b)) main_v6 (ix2 r q) = _
  entry_read
  pointwise [whole, ofArgs]

@[inherit_doc V_dy]
theorem V_mat (q k : Fin 1024) : V m c main_v7 (ix2 q k) = (whole m c).W 0 q k ∧ V m c main_v8 (ix2 q k) = (whole m c).W 1 q k
    ∧ V m c main_v9 (ix2 q k) = (whole m c).O q k := by
  refine ⟨?_, ?_, ?_⟩
  · show StableHlo.after hostOps0 (fun b => m (c, b)) main_v7 (ix2 q k) = _
    entry_read
    pointwise [whole, ofArgs]
  · show StableHlo.after hostOps0 (fun b => m (c, b)) main_v8 (ix2 q k) = _
    entry_read
    pointwise [whole, ofArgs]
  · show StableHlo.after hostOps0 (fun b => m (c, b)) main_v9 (ix2 q k) = _
    entry_read
    pointwise [whole, ofArgs]

theorem tall : cfg0.N * 256 = 2048 := congrArg (· * 256) N_0

variable (t : Fin cfg0.N)

theorem lt8 : t.val < 8 := lt_of_lt_of_eq t.isLt N_0

theorem read_d (r : Fin 256) (q : Fin 1024) : iblk m c 0 t (ix2 r q) = (whole m c).D (row tall t r) q := by
  refine Eq.trans ?_ (V_dy m c (row tall t r) q)
  unfold iblk
  blk_ext [idx t]

theorem read_za (r : Fin 256) (q : Fin 1024) : @HAdd.hAdd EReal EReal EReal _ (iblk m c 1 t (ix2 r q)) (iblk m c 3 t (ix2 0 q)) = (whole m c).Z 0 (row tall t r) q := by
  have a : iblk m c 1 t (ix2 r q) = V m c main_v1 (ix2 (row tall t r) ⟨4096 + q.val, by omega⟩) := by
    unfold iblk
    blk_ext [idx t]
  have b : iblk m c 3 t (ix2 0 q) = (m (c.tc.loc main_arg2) : Vec Ideal S1x6144 .f32) (ix2 0 ⟨4096 + q.val, by omega⟩) := by
    blk_point [iblk, V, idx t]
  rw [a, b, V_proj]
  rfl

theorem read_zb (r : Fin 256) (q : Fin 1024) : @HAdd.hAdd EReal EReal EReal _ (iblk m c 2 t (ix2 r q)) (iblk m c 4 t (ix2 0 q)) = (whole m c).Z 1 (row tall t r) q := by
  have a : iblk m c 2 t (ix2 r q) = V m c main_v1 (ix2 (row tall t r) ⟨5120 + q.val, by omega⟩) := by
    unfold iblk
    blk_ext [idx t]
  have b : iblk m c 4 t (ix2 0 q) = (m (c.tc.loc main_arg2) : Vec Ideal S1x6144 .f32) (ix2 0 ⟨5120 + q.val, by omega⟩) := by
    blk_point [iblk, V, idx t]
  rw [a, b, V_proj]
  rfl

theorem read_y (r : Fin 256) (q : Fin 1024) : iblk m c 5 t (ix2 r q) = (whole m c).Y 0 (row tall t r) q
    ∧ iblk m c 6 t (ix2 r q) = (whole m c).Y 1 (row tall t r) q := by
  constructor
  · refine Eq.trans ?_ (V_ya m c (row tall t r) q)
    unfold iblk
    blk_ext [idx t]
  · refine Eq.trans ?_ (V_yb m c (row tall t r) q)
    unfold iblk
    blk_ext [idx t]

theorem read_w (q k : Fin 1024) : iblk m c 7 t (ix2 q k) = (whole m c).W 0 q k ∧ iblk m c 8 t (ix2 q k) = (whole m c).W 1 q k
    ∧ iblk m c 9 t (ix2 q k) = (whole m c).O q k := by
  obtain ⟨a, b, d⟩ := V_mat m c q k
  refine ⟨Eq.trans ?_ a, Eq.trans ?_ b, Eq.trans ?_ d⟩ <;> unfold iblk <;> blk_ext [idx t]

/-- A point's blocks hold its rows of the merge. -/
theorem held_eq : held (iblk m c 0 t) (iblk m c 1 t) (iblk m c 2 t) (iblk m c 3 t) (iblk m c 4 t) (iblk m c 5 t) (iblk m c 6 t)
    (iblk m c 7 t) (iblk m c 8 t) (iblk m c 9 t) = (whole m c).pick (row tall t) := by
  unfold held Merge.pick
  congr
  · funext r q; exact read_d m c t r q
  · funext p r q
    fin_cases p
    · exact read_za m c t r q
    · exact read_zb m c t r q
  · funext p r q
    fin_cases p
    · exact (read_y m c t r q).1
    · exact (read_y m c t r q).2
  · funext q k; exact (read_w m c t q k).2.2
  · funext p q k
    fin_cases p
    · exact (read_w m c t q k).1
    · exact (read_w m c t q k).2.1

end Cert.Kernel5Ideal.Value

end
-- ==== Proof.MixTailFinal.lean ====
/- The branches' merge, backward: what every point leaves, and what the seven result arrays hold. -/
module

public import proofs.«01_k».proof.Proof.MixTail

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Mix Cert.Tiles

variable (m : (ℓ : Loc nD τ sig) → Buf (Elt Ideal) ℓ) (c : Dev nD) (t : Fin cfg0.N)

/-- A point's blocks of the two row-like results. -/
abbrev sumA : FVec Ideal S1x1024 .f32 := k0_pay14 (F := Ideal) (k0_pay2 (iblk m c 0 t) (iblk m c 9 t)) (k0_pay4 (iblk m c 1 t) (iblk m c 3 t)) (k0_pay5 (iblk m c 5 t))
@[inherit_doc sumA] abbrev sumB : FVec Ideal S1x1024 .f32 := k0_pay9 (F := Ideal) (iblk m c 0 t) (iblk m c 9 t) (iblk m c 2 t) (iblk m c 4 t) (iblk m c 6 t)

theorem sumA_at (q : Fin 1024) : sumA m c t (ix2 0 q) = part tall t ((whole m c).gZ 0 · q) := by
  refine (pay_bA (iblk m c 0 t) (iblk m c 1 t) (iblk m c 2 t) (iblk m c 3 t) (iblk m c 4 t) (iblk m c 5 t) (iblk m c 6 t) (iblk m c 7 t) (iblk m c 8 t) (iblk m c 9 t) q).trans ?_
  rw [held_eq]
  rfl

theorem sumB_at (q : Fin 1024) : sumB m c t (ix2 0 q) = part tall t ((whole m c).gZ 1 · q) := by
  refine (pay_bB (iblk m c 0 t) (iblk m c 1 t) (iblk m c 2 t) (iblk m c 3 t) (iblk m c 4 t) (iblk m c 5 t) (iblk m c 6 t) (iblk m c 7 t) (iblk m c 8 t) (iblk m c 9 t) q).trans ?_
  rw [held_eq]
  rfl

/-- The first point sets the sums. -/
theorem at_first (h : t.val % 8 = 0) (i : S1x1024.Idx) :
    (outsAt0 m c t.val t.isLt).2.2.2.2.2.1 i = part tall t ((whole m c).gZ 0 · (i 1))
    ∧ (outsAt0 m c t.val t.isLt).2.2.2.2.2.2 i = part tall t ((whole m c).gZ 1 · (i 1)) := by
  have ht := lt8 t
  idx_vars i
  obtain rfl := Fin.fin_one_eq_zero i0
  rw [outsAt0_A m c t h (by omega) h (by omega)]
  refine ⟨?_, ?_⟩ <;> frame_out
  · exact sumA_at m c t i1
  · exact sumB_at m c t i1

/-- Every later point adds its rows. -/
theorem at_step (h : ¬t.val % 8 = 0) (i : S1x1024.Idx) :
    (outsAt0 m c t.val t.isLt).2.2.2.2.2.1 i
      = (outsAt0 m c (t.val - 1) (Nat.lt_of_le_of_lt (Nat.sub_le _ _) t.isLt)).2.2.2.2.2.1 i + part tall t ((whole m c).gZ 0 · (i 1))
    ∧ (outsAt0 m c t.val t.isLt).2.2.2.2.2.2 i
      = (outsAt0 m c (t.val - 1) (Nat.lt_of_le_of_lt (Nat.sub_le _ _) t.isLt)).2.2.2.2.2.2 i + part tall t ((whole m c).gZ 1 · (i 1)) := by
  have ht := lt8 t
  idx_vars i
  obtain rfl := Fin.fin_one_eq_zero i0
  rw [outsAt0_B m c t h (by omega) h (by omega)]
  refine ⟨?_, ?_⟩ <;> frame_out
  · pointwise [k0_pay18]
    exact congrArg (_ + ·) (sumA_at m c t i1)
  · pointwise [k0_pay1]
    exact congrArg (_ + ·) (sumB_at m c t i1)

/-- What a point computes of the five tall results. -/
theorem five (r : Fin 256) :
    (∀ q, k0_pay15 (F := Ideal) (k0_pay2 (iblk m c 0 t) (iblk m c 9 t)) (k0_pay4 (iblk m c 1 t) (iblk m c 3 t)) (k0_pay5 (iblk m c 5 t)) (k0_pay10 (iblk m c 0 t) (iblk m c 9 t) (iblk m c 2 t) (iblk m c 4 t) (iblk m c 6 t)) (ix2 r q) = (whole m c).gZZ (row tall t r) q)
    ∧ (∀ q, k0_pay12 (F := Ideal) (k0_pay11 (iblk m c 0 t) (iblk m c 9 t) (iblk m c 1 t) (iblk m c 3 t)) (ix2 r q) = (whole m c).gY 0 (row tall t r) q)
    ∧ (∀ q, k0_pay7 (F := Ideal) (iblk m c 0 t) (iblk m c 9 t) (iblk m c 2 t) (iblk m c 4 t) (ix2 r q) = (whole m c).gY 1 (row tall t r) q)
    ∧ (∀ q, k0_pay16 (F := Ideal) (k0_pay11 (iblk m c 0 t) (iblk m c 9 t) (iblk m c 1 t) (iblk m c 3 t)) (iblk m c 7 t) (ix2 r q) = (whole m c).gU 0 (row tall t r) q)
    ∧ (∀ q, k0_pay17 (F := Ideal) (k0_pay7 (iblk m c 0 t) (iblk m c 9 t) (iblk m c 2 t) (iblk m c 4 t)) (iblk m c 8 t) (ix2 r q) = (whole m c).gU 1 (row tall t r) q) := by
  refine ⟨fun q => (pay_zz (iblk m c 0 t) (iblk m c 1 t) (iblk m c 2 t) (iblk m c 3 t) (iblk m c 4 t) (iblk m c 5 t) (iblk m c 6 t) (iblk m c 7 t) (iblk m c 8 t) (iblk m c 9 t) r q).trans ?_, fun q => (pay_yA (iblk m c 0 t) (iblk m c 1 t) (iblk m c 2 t) (iblk m c 3 t) (iblk m c 4 t) (iblk m c 5 t) (iblk m c 6 t) (iblk m c 7 t) (iblk m c 8 t) (iblk m c 9 t) r q).trans ?_, fun q => (pay_yB (iblk m c 0 t) (iblk m c 1 t) (iblk m c 2 t) (iblk m c 3 t) (iblk m c 4 t) (iblk m c 5 t) (iblk m c 6 t) (iblk m c 7 t) (iblk m c 8 t) (iblk m c 9 t) r q).trans ?_,
    fun q => (pay_uA (iblk m c 0 t) (iblk m c 1 t) (iblk m c 2 t) (iblk m c 3 t) (iblk m c 4 t) (iblk m c 5 t) (iblk m c 6 t) (iblk m c 7 t) (iblk m c 8 t) (iblk m c 9 t) r q).trans ?_, fun q => (pay_uB (iblk m c 0 t) (iblk m c 1 t) (iblk m c 2 t) (iblk m c 3 t) (iblk m c 4 t) (iblk m c 5 t) (iblk m c 6 t) (iblk m c 7 t) (iblk m c 8 t) (iblk m c 9 t) r q).trans ?_⟩ <;> rw [held_eq] <;> rfl

/-- What the point leaves of them. -/
theorem left (r : Fin 256) :
    (∀ q, (outsAt0 m c t.val t.isLt).1 (ix2 r q) = (whole m c).gZZ (row tall t r) q)
    ∧ (∀ q, (outsAt0 m c t.val t.isLt).2.1 (ix2 r q) = (whole m c).gY 0 (row tall t r) q)
    ∧ (∀ q, (outsAt0 m c t.val t.isLt).2.2.1 (ix2 r q) = (whole m c).gY 1 (row tall t r) q)
    ∧ (∀ q, (outsAt0 m c t.val t.isLt).2.2.2.1 (ix2 r q) = (whole m c).gU 0 (row tall t r) q)
    ∧ (∀ q, (outsAt0 m c t.val t.isLt).2.2.2.2.1 (ix2 r q) = (whole m c).gU 1 (row tall t r) q) := by
  have ht := lt8 t
  obtain ⟨a, b, d, e, f⟩ := five m c t r
  by_cases h : t.val % 8 = 0
  · rw [outsAt0_A m c t h (by omega) h (by omega)]
    refine ⟨fun q => ?_, fun q => ?_, fun q => ?_, fun q => ?_, fun q => ?_⟩ <;> frame_out
    · exact a q
    · exact b q
    · exact d q
    · exact e q
    · exact f q
  · rw [outsAt0_B m c t h (by omega) h (by omega)]
    refine ⟨fun q => ?_, fun q => ?_, fun q => ?_, fun q => ?_, fun q => ?_⟩ <;> frame_out
    · exact a q
    · exact b q
    · exact d q
    · exact e q
    · exact f q

/-- The branches' gradients and those behind their last matrices, whole. -/
theorem all_ya : (dats m 0 c).arrAt 11 (cfgs 0).N = fun i : S2048x1024.Idx => (whole m c).gY 0 (i 0) (i 1) := by
  refine (dats m 0 c).arrAt_eq_of_covers 11 _ (by decide +kernel) fun t hf y => ?_
  obtain ⟨-, -, -, -, -, -, -, -, -, -, -, e11, e12, e13, e14⟩ := idx t
  idx_vars y
  blk_simp
  rw [after0_11, (left m c t _).2.1]
  refine congrArg₂ ((whole m c).gY 0) (Fin.ext ?_) (Fin.ext ?_) <;> blk_simp [e11]

@[inherit_doc all_ya]
theorem all_yb : (dats m 0 c).arrAt 12 (cfgs 0).N = fun i : S2048x1024.Idx => (whole m c).gY 1 (i 0) (i 1) := by
  refine (dats m 0 c).arrAt_eq_of_covers 12 _ (by decide +kernel) fun t hf y => ?_
  obtain ⟨-, -, -, -, -, -, -, -, -, -, -, e11, e12, e13, e14⟩ := idx t
  idx_vars y
  blk_simp
  rw [after0_12, (left m c t _).2.2.1]
  refine congrArg₂ ((whole m c).gY 1) (Fin.ext ?_) (Fin.ext ?_) <;> blk_simp [e12]

@[inherit_doc all_ya]
theorem all_ua : (dats m 0 c).arrAt 13 (cfgs 0).N = fun i : S2048x1024.Idx => (whole m c).gU 0 (i 0) (i 1) := by
  refine (dats m 0 c).arrAt_eq_of_covers 13 _ (by decide +kernel) fun t hf y => ?_
  obtain ⟨-, -, -, -, -, -, -, -, -, -, -, e11, e12, e13, e14⟩ := idx t
  idx_vars y
  blk_simp
  rw [after0_13, (left m c t _).2.2.2.1]
  refine congrArg₂ ((whole m c).gU 0) (Fin.ext ?_) (Fin.ext ?_) <;> blk_simp [e13]

@[inherit_doc all_ya]
theorem all_ub : (dats m 0 c).arrAt 14 (cfgs 0).N = fun i : S2048x1024.Idx => (whole m c).gU 1 (i 0) (i 1) := by
  refine (dats m 0 c).arrAt_eq_of_covers 14 _ (by decide +kernel) fun t hf y => ?_
  obtain ⟨-, -, -, -, -, -, -, -, -, -, -, e11, e12, e13, e14⟩ := idx t
  idx_vars y
  blk_simp
  rw [after0_14, (left m c t _).2.2.2.2]
  refine congrArg₂ ((whole m c).gU 1) (Fin.ext ?_) (Fin.ext ?_) <;> blk_simp [e14]

/-- The gates' gradients fill the last two thousand columns of the projection's gradient; its others stay what they were. -/
def gProj (r : Fin 2048) (q : Fin 6144) : Elt Ideal .bf16 :=
  if h : 4096 ≤ q.val then (whole m c).gZZ r ⟨q.val - 4096, by omega⟩ else (dats m 0 c).A 10 (ix2 r q)

@[inherit_doc gProj]
theorem all_proj : (dats m 0 c).arrAt 10 (cfgs 0).N = fun i : S2048x6144.Idx => gProj m c (i 0) (i 1) := by
  refine (dats m 0 c).arrAt_eq_of_coversWhere_of_agree 10 _ (fun β => β (1 : Fin _) = 2) (by decide +kernel) (fun t hf y => ?_) (fun j hj => ?_)
  · obtain ⟨-, -, -, -, -, -, -, -, -, -, e10, -⟩ := idx t
    idx_vars y
    blk_simp
    rw [after0_10, (left m c t _).1]
    unfold gProj
    rw [dif_pos (by blk_simp [e10]; omega)]
    refine congrArg₂ (whole m c).gZZ (Fin.ext ?_) (Fin.ext ?_) <;> blk_simp [e10]
    dsimp only
    omega
  · blk_simp [Pipeline.Window.cell_apply] at hj
    idx_vars j
    show _ = gProj m c j0 j1
    unfold gProj
    rw [dif_neg (by omega)]
    rfl

/-- The gates' biases' gradients, whole. -/
theorem all_ba : (dats m 0 c).arrAt 15 (cfgs 0).N = fun i : S1x1024.Idx => ∑ r : Fin 2048, (whole m c).gZ 0 r (i 1) := by
  refine (dats m 0 c).arrAt_eq_of_after_last 15 t0_7 (by decide +kernel) _ fun j => ?_
  blk_simp
  rw [after0_15, summed tall 8 (le_of_eq N_0) (fun n h => (outsAt0 m c n h).2.2.2.2.2.1) (fun i r => (whole m c).gZ 0 r (i 1))
    (fun t h i => (at_first m c t h i).1) (fun t h i => (at_step m c t h i).1) t0_7 rfl]

@[inherit_doc all_ba]
theorem all_bb : (dats m 0 c).arrAt 16 (cfgs 0).N = fun i : S1x1024.Idx => ∑ r : Fin 2048, (whole m c).gZ 1 r (i 1) := by
  refine (dats m 0 c).arrAt_eq_of_after_last 16 t0_7 (by decide +kernel) _ fun j => ?_
  blk_simp
  rw [after0_16, summed tall 8 (le_of_eq N_0) (fun n h => (outsAt0 m c n h).2.2.2.2.2.2) (fun i r => (whole m c).gZ 1 r (i 1))
    (fun t h i => (at_first m c t h i).2) (fun t h i => (at_step m c t h i).2) t0_7 rfl]

/-- The gates' gradients as @main's last line cuts them out. -/
theorem out_zz (r : Fin 2048) (q : Fin 2048) : Pipeline.afterTail₀ cfgs (dats m) 0 (V0 m) [hostOps1] c main_v11 (ix2 r q)
    = (whole m c).gZZ r q := by
  refine Eq.trans (b := (dats m 0 c).arrAt 10 (cfgs 0).N (ix2 r ⟨4096 + q.val, by omega⟩)) ?_ ?_
  · show StableHlo.after hostOps1 _ main_v11 (ix2 r q) = _
    entry_read
    pointwise
    exact congrFun ((dats m 0 c).withArrays_arrAt sharedIn0 (V0 m c) (A_eq m c) 10) _
  · rw [all_proj]
    show gProj m c r ⟨4096 + q.val, _⟩ = _
    unfold gProj
    rw [dif_pos (by dsimp only; omega)]
    refine congrArg ((whole m c).gZZ r) (Fin.ext ?_)
    dsimp only
    omega

end Cert.Kernel5Ideal.Value

end
-- ==== Proof.MixTailClaim.lean ====
/- The branches' merge, backward, computes the derivative of the reference's merge. -/
module

public import proofs.«01_k».proof.Defs
public import proofs.«01_k».proof.Proof.MixTailFinal
public import proofs.«01_k».proof.Proof.Gen.Reference5Ideal
public import proofs.«01_k».proof.Proof.Gen.Reference5Ideal.Run

@[expose] public section

set_option maxRecDepth 16384

noncomputable section

open Idealize.ShloMosaic Idealize.ShloMosaic.TcCoe Idealize.SL.Sem

namespace Cert.Reference5Ideal.Merged

open Cert.Reference5Ideal Cert.Reference5Ideal.Gen Cert.Mix

section stages
variable (a0 : FVec Ideal S2048x1024 .f32) (a1 : FVec Ideal S1024x6144 .f32) (a2 : FVec Ideal S1x6144 .f32)
  (a3 a4 : FVec Ideal S2048x1024 .f32) (a5 a6 a7 : FVec Ideal S1024x1024 .f32) (a8 : FVec Ideal S2048x1024 .f32)

/-- The projected input. -/
def refProj : FVec Ideal S2048x6144 .f32 := Host.dotGeneral dot_S2048x1024_S1024x6144_S2048x6144_1_0_0_1_n_n none a0 a1

/-- A slice of it with its bias: a gate before its sigmoid. -/
def refZA : FVec Ideal S2048x1024 .f32 :=
  addf (extractStridedSlice S2048x1024 ![0, 4096] (refProj a0 a1) slices_S2048x6144_S2048x1024_0_4096)
    (broadcastInDim S2048x1024 ![0, 1] bcast_S1x1024_S2048x1024_0_1 (extractStridedSlice S1x1024 ![0, 4096] a2 slices_S1x6144_S1x1024_0_4096))
@[inherit_doc refZA]
def refZB : FVec Ideal S2048x1024 .f32 :=
  addf (extractStridedSlice S2048x1024 ![0, 5120] (refProj a0 a1) slices_S2048x6144_S2048x1024_0_5120)
    (broadcastInDim S2048x1024 ![0, 1] bcast_S1x1024_S2048x1024_0_1 (extractStridedSlice S1x1024 ![0, 5120] a2 slices_S1x6144_S1x1024_0_5120))

/-- One everywhere. -/
abbrev ones : FVec Ideal S2048x1024 .f32 := broadcastInDim S2048x1024 ![] bcast_S_S2048x1024 (constant (F := Ideal) S_ .f32 0x3F800000#32)

/-- The logistic function as the host spells it. -/
def refSig (z : FVec Ideal S2048x1024 .f32) : FVec Ideal S2048x1024 .f32 := Host.divf ones (addf ones (Host.exp (Host.negf z)))

/-- The merged branch's cotangent. -/
def refDM : FVec Ideal S2048x1024 .f32 := Host.dotGeneral dot_S2048x1024_S1024x1024_S2048x1024_1_1_0_0_n_n none a8 a7

/-- The gradients of a gate, over the gate before its sigmoid, the cotangent, and the branch's value. -/
def refZ (z d y : FVec Ideal S2048x1024 .f32) : FVec Ideal S2048x1024 .f32 :=
  mulf (mulf d y) (mulf (refSig z) (subf ones (refSig z)))

/-- The merge the reference works on. -/
abbrev holding : Merge 2048 := Cert.Kernel5Ideal.Value.ofArgs a0 a1 a2 a3 a4 a5 a6 a7 a8

variable (r : Fin 2048) (q : Fin 1024)

theorem proj_at (k : Fin 6144) : refProj a0 a1 (ix2 r k) = Cert.Kernel5Ideal.Value.proj a0 a1 r k := by
  pointwise [refProj, Cert.Kernel5Ideal.Value.proj]

theorem zA_at : refZA a0 a1 a2 (ix2 r q) = (holding a0 a1 a2 a3 a4 a5 a6 a7 a8).Z 0 r q := by
  pointwise [refZA, proj_at, holding, Cert.Kernel5Ideal.Value.ofArgs]

theorem zB_at : refZB a0 a1 a2 (ix2 r q) = (holding a0 a1 a2 a3 a4 a5 a6 a7 a8).Z 1 r q := by
  pointwise [refZB, proj_at, holding, Cert.Kernel5Ideal.Value.ofArgs]

theorem dM_at : refDM a7 a8 (ix2 r q) = (holding a0 a1 a2 a3 a4 a5 a6 a7 a8).dM r q := by
  pointwise [refDM, Merge.dM, holding, Cert.Kernel5Ideal.Value.ofArgs]

theorem y_at : (Host.dotGeneral dot_S2048x1024_S1024x1024_S2048x1024_1_0_0_1_n_n none a3 a5 : FVec Ideal S2048x1024 .f32) (ix2 r q)
    = (holding a0 a1 a2 a3 a4 a5 a6 a7 a8).Y 0 r q
    ∧ (Host.dotGeneral dot_S2048x1024_S1024x1024_S2048x1024_1_0_0_1_n_n none a4 a6 : FVec Ideal S2048x1024 .f32) (ix2 r q)
    = (holding a0 a1 a2 a3 a4 a5 a6 a7 a8).Y 1 r q := by
  refine ⟨?_, ?_⟩
  · pointwise [holding, Cert.Kernel5Ideal.Value.ofArgs]
  · pointwise [holding, Cert.Kernel5Ideal.Value.ofArgs]

theorem sig_at (z : FVec Ideal S2048x1024 .f32) : refSig z (ix2 r q) = Ideal.logistic (z (ix2 r q)) := by
  pointwise [refSig]
  exact Cert.Scalars.div_one_add_exp _

theorem gZ_at (z d y : FVec Ideal S2048x1024 .f32) :
    refZ z d y (ix2 r q) = d (ix2 r q) * y (ix2 r q) * (Ideal.logistic (z (ix2 r q)) * (1 - Ideal.logistic (z (ix2 r q)))) := by
  pointwise [refZ, sig_at]

theorem gY_at (z d : FVec Ideal S2048x1024 .f32) : mulf (refSig z) d (ix2 r q) = Ideal.logistic (z (ix2 r q)) * d (ix2 r q) := by
  pointwise [sig_at]

theorem gU_at (z d : FVec Ideal S2048x1024 .f32) (w : FVec Ideal S1024x1024 .f32) :
    (Host.dotGeneral dot_S2048x1024_S1024x1024_S2048x1024_1_1_0_0_n_n none (mulf (refSig z) d) w : FVec Ideal S2048x1024 .f32) (ix2 r q)
      = ∑ k : Fin 1024, Ideal.logistic (z (ix2 r k)) * d (ix2 r k) * w (ix2 q k) := by
  pointwise [sig_at]

theorem sum_at (y : FVec Ideal S2048x1024 .f32) :
    (shapeCast _ (Host.reduceAdd y (constant (F := Ideal) S_ .f32 0x00000000#32) reducesTo_S2048x1024_S1024_d0 h_S_) shapeCasts_S1024_S1x1024
      : FVec Ideal S1x1024 .f32) (ix2 0 q) = ∑ k : Fin 2048, y (ix2 k q) := by
  pointwise

/-- Both gates' gradients, side by side. -/
theorem two_at (a b : FVec Ideal S2048x1024 .f32) (lt : FTy.bf16.bits < FTy.f32.bits) (p : Fin 2048) :
    (truncf .bf16 (concatenate S2048x2048 1 [⟨S2048x1024, a⟩, ⟨S2048x1024, b⟩] concatenates_S2048x1024_S2048x1024_S2048x2048_d1) lt) (ix2 r p)
      = if h : p.val < 1024 then a (ix2 r ⟨p.val, h⟩) else b (ix2 r ⟨p.val - 1024, by omega⟩) := by
  by_cases h : p.val < 1024
  · pointwise
  · pointwise

theorem zA_grad : refZ (refZA a0 a1 a2) (refDM a7 a8) (Host.dotGeneral dot_S2048x1024_S1024x1024_S2048x1024_1_0_0_1_n_n none a3 a5) (ix2 r q)
    = (holding a0 a1 a2 a3 a4 a5 a6 a7 a8).gZ 0 r q := by
  rw [gZ_at, zA_at a0 a1 a2 a3 a4 a5 a6 a7 a8, dM_at a0 a1 a2 a3 a4 a5 a6 a7 a8, (y_at a0 a1 a2 a3 a4 a5 a6 a7 a8 r q).1]
  rfl

theorem zB_grad : refZ (refZB a0 a1 a2) (refDM a7 a8) (Host.dotGeneral dot_S2048x1024_S1024x1024_S2048x1024_1_0_0_1_n_n none a4 a6) (ix2 r q)
    = (holding a0 a1 a2 a3 a4 a5 a6 a7 a8).gZ 1 r q := by
  rw [gZ_at, zB_at a0 a1 a2 a3 a4 a5 a6 a7 a8, dM_at a0 a1 a2 a3 a4 a5 a6 a7 a8, (y_at a0 a1 a2 a3 a4 a5 a6 a7 a8 r q).2]
  rfl

theorem yA_grad : mulf (refSig (refZA a0 a1 a2)) (refDM a7 a8) (ix2 r q) = (holding a0 a1 a2 a3 a4 a5 a6 a7 a8).gY 0 r q := by
  rw [gY_at, zA_at a0 a1 a2 a3 a4 a5 a6 a7 a8, dM_at a0 a1 a2 a3 a4 a5 a6 a7 a8]
  rfl

theorem yB_grad : mulf (refSig (refZB a0 a1 a2)) (refDM a7 a8) (ix2 r q) = (holding a0 a1 a2 a3 a4 a5 a6 a7 a8).gY 1 r q := by
  rw [gY_at, zB_at a0 a1 a2 a3 a4 a5 a6 a7 a8, dM_at a0 a1 a2 a3 a4 a5 a6 a7 a8]
  rfl

theorem uA_grad : (Host.dotGeneral dot_S2048x1024_S1024x1024_S2048x1024_1_1_0_0_n_n none (mulf (refSig (refZA a0 a1 a2)) (refDM a7 a8)) a5
    : FVec Ideal S2048x1024 .f32) (ix2 r q) = (holding a0 a1 a2 a3 a4 a5 a6 a7 a8).gU 0 r q := by
  rw [gU_at]
  refine Finset.sum_congr rfl fun k _ => ?_
  rw [zA_at a0 a1 a2 a3 a4 a5 a6 a7 a8, dM_at a0 a1 a2 a3 a4 a5 a6 a7 a8]
  rfl

theorem uB_grad : (Host.dotGeneral dot_S2048x1024_S1024x1024_S2048x1024_1_1_0_0_n_n none (mulf (refSig (refZB a0 a1 a2)) (refDM a7 a8)) a6
    : FVec Ideal S2048x1024 .f32) (ix2 r q) = (holding a0 a1 a2 a3 a4 a5 a6 a7 a8).gU 1 r q := by
  rw [gU_at]
  refine Finset.sum_congr rfl fun k _ => ?_
  rw [zB_at a0 a1 a2 a3 a4 a5 a6 a7 a8, dM_at a0 a1 a2 a3 a4 a5 a6 a7 a8]
  rfl

theorem zz_grad (lt : FTy.bf16.bits < FTy.f32.bits) (p : Fin 2048) :
    (truncf .bf16 (concatenate S2048x2048 1
      [⟨S2048x1024, refZ (refZA a0 a1 a2) (refDM a7 a8) (Host.dotGeneral dot_S2048x1024_S1024x1024_S2048x1024_1_0_0_1_n_n none a3 a5)⟩,
       ⟨S2048x1024, refZ (refZB a0 a1 a2) (refDM a7 a8) (Host.dotGeneral dot_S2048x1024_S1024x1024_S2048x1024_1_0_0_1_n_n none a4 a6)⟩]
      concatenates_S2048x1024_S2048x1024_S2048x2048_d1) lt) (ix2 r p) = (holding a0 a1 a2 a3 a4 a5 a6 a7 a8).gZZ r p := by
  rw [two_at]
  unfold Merge.gZZ
  by_cases h : p.val < 1024
  · rw [dif_pos h, dif_pos h, zA_grad a0 a1 a2 a3 a4 a5 a6 a7 a8]
  · rw [dif_neg h, dif_neg h, zB_grad a0 a1 a2 a3 a4 a5 a6 a7 a8]

end stages

end Cert.Reference5Ideal.Merged

namespace Cert.Kernel5Ideal.Value

open Cert.Kernel5Ideal Cert.Kernel5Ideal.Gen Cert.Mix Cert.Reference5Ideal.Merged

set_option maxHeartbeats 4000000 in
theorem algebraic : Cert.algebraic_Kernel5Ideal_Reference5Ideal := by
  pair_intro
  · run_from Cert.Kernel5Ideal.Gen.run_main m g & Idealize.ShloMosaic.θ_run_mono
      (Q' := fun r => ∀ c : Dev nD, r.2.mem (c.tc.loc main_v10_6) = (dats m 0 c).arrAt 16 (cfgs 0).N ∧ _)
      (Idealize.ShloMosaic.θ_run_and (Cert.Kernel5Ideal.Gen.run_main m g) (Cert.Kernel5Ideal.Gen.unchanged m g))
      fun r hr c => ⟨(hr.1 c).1 16, hr.2 c⟩
  · refine Idealize.ShloMosaic.θ_run_mono (Cert.Reference5Ideal.Value.run m' g') fun r hr c => ?_
    obtain ⟨h0, h1, h2, h3, h4, h5, h6, h7, h8⟩ := hagree c
    obtain ⟨r0, r1, r2, r3, r4, r5, r6, ha⟩ := hr c
    rw [h0, h1, h2, h3, h4, h5, h6, h7, h8] at r0
    rw [h0, h1, h2, h7, h8] at r1 r2
    rw [h0, h1, h2, h5, h7, h8] at r3
    rw [h0, h1, h2, h6, h7, h8] at r4
    rw [h0, h1, h2, h3, h5, h7, h8] at r5
    rw [h0, h1, h2, h4, h6, h7, h8] at r6
    refine ⟨r0.trans ?_, r1.trans ?_, r2.trans ?_, r3.trans ?_, r4.trans ?_, r5.trans ?_, r6.trans ?_, ha⟩
    · funext i
      idx_vars i
      rw [out_zz]
      exact zz_grad _ _ _ _ _ _ _ _ _ i0 _ i1
    · rw [all_ya]
      funext i
      idx_vars i
      exact yA_grad _ _ _ _ _ _ _ _ _ i0 i1
    · rw [all_yb]
      funext i
      idx_vars i
      exact yB_grad _ _ _ _ _ _ _ _ _ i0 i1
    · rw [all_ua]
      funext i
      idx_vars i
      exact uA_grad _ _ _ _ _ _ _ _ _ i0 i1
    · rw [all_ub]
      funext i
      idx_vars i
      exact uB_grad _ _ _ _ _ _ _ _ _ i0 i1
    · rw [all_ba]
      funext i
      idx_vars i
      obtain rfl := Fin.fin_one_eq_zero i0
      exact (sum_at i1 _).trans (Finset.sum_congr rfl fun k _ => zA_grad _ _ _ _ _ _ _ _ _ k i1)
    · rw [all_bb]
      funext i
      idx_vars i
      obtain rfl := Fin.fin_one_eq_zero i0
      exact (sum_at i1 _).trans (Finset.sum_congr rfl fun k _ => zB_grad _ _ _ _ _ _ _ _ _ k i1)

end Cert.Kernel5Ideal.Value

end
-- ==== Proof.RowNorm.lean ====
/- The root-mean-square norm with its modulation, row by row: the reciprocal root, and the gradients of the
   input, the gain, the scale and the shift, as sums of extended reals; then the gated residual branch below it. -/
module

public import Idealize.ShloMosaic.Lib.Pipeline.ValueKit
public import Idealize.ShloMosaic.Lib.Claim

@[expose] public section

noncomputable section

open Idealize.ShloMosaic

namespace Cert.RowNorm

/-- The mean square of a row plus the norm's epsilon. -/
def ms (x : Fin 1024 → EReal) : EReal :=
  Ideal.div (∑ k, x k * x k) (Ideal.ofBits .f32 0x44800000#32) + Ideal.ofBits .f32 0x358637BD#32

/-- The reciprocal root of a row. -/
def rinv (x : Fin 1024 → EReal) : EReal := Ideal.rsqrt (ms x)

/-- The gradient through the reciprocal root, per entry of the row: `x` the row and `w` the cotangent of the normed row. -/
def pull (x w : Fin 1024 → EReal) : EReal :=
  Ideal.div ((∑ k, x k * w k) * (Ideal.ofBits .f32 0xBF000000#32 * Ideal.div (rinv x) (ms x))) (Ideal.ofBits .f32 0x44800000#32)

/-- The gradient of the row itself. -/
def back (x w : Fin 1024 → EReal) (q : Fin 1024) : EReal := w q * rinv x + x q * pull x w + pull x w * x q

/-- The norm's arrays on `R` rows: the input, the cotangents of the modulated norm and of the input besides, the
    gain and the scale. -/
structure Norm (R : Nat) where
  X : Fin R → Fin 1024 → EReal
  D : Fin R → Fin 1024 → EReal
  E : Fin R → Fin 1024 → EReal
  g : Fin 1024 → EReal
  s : Fin 1024 → EReal

variable {R S : Nat} (n : Norm R)

/-- The rows `f` picks. -/
def Norm.pick (f : Fin S → Fin R) : Norm S where
  X r := n.X (f r)
  D r := n.D (f r)
  E r := n.E (f r)
  g := n.g
  s := n.s

/-- The cotangent of the gained norm. -/
def Norm.scaled (r : Fin R) (q : Fin 1024) : EReal := n.D r q * (1 + n.s q)
/-- The gradient of the input. -/
def Norm.gX (r : Fin R) (q : Fin 1024) : EReal := back (n.X r) (fun k => n.scaled r k * n.g k) q + n.E r q
/-- A row's part of the gain's gradient. -/
def Norm.gGain (r : Fin R) (q : Fin 1024) : EReal := n.X r q * rinv (n.X r) * n.scaled r q
/-- A row's part of the scale's gradient. -/
def Norm.gScale (r : Fin R) (q : Fin 1024) : EReal := n.X r q * rinv (n.X r) * n.g q * n.D r q

/-- A nonnegative real factor moves into a finite sum. -/
theorem coe_mul_sum {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- One half, as its single-precision word. -/
abbrev half : EReal := Ideal.ofBits .f32 0x3F000000#32

theorem half_eq : half = ((1 / 2 : ℝ) : EReal) := by
  simp [half, Ideal.ofBits, Ideal.ieee]
  exact (EReal.coe_mul _ _).symm.trans (congrArg _ (by norm_num))

/-- One half moves into a finite sum. -/
theorem half_sum {ι : Type*} (s : Finset ι) (f : ι → EReal) :
    half * ∑ i ∈ s, f i = ∑ i ∈ s, half * f i := by
  rw [half_eq, coe_mul_sum _ (by norm_num)]

end Cert.RowNorm

end
-- ==== Proof.Norm1.lean ====
/- The first feed-forward's norm, backward: what its blocks compute and what its four result arrays hold. -/
module

public import proofs.«01_k».proof.Proof.Gen.Kernel8Ideal.Frame
public import proofs.«01_k».proof.Proof.Scalars
public import proofs.«01_k».proof.Proof.RowNorm

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.RowNorm

section payloads
variable (x : Vec Ideal S512x1024 .f32) (g s : Vec Ideal S1x1024 .f32) (d e : Vec Ideal S512x1024 .f32)

/-- The norm a point's blocks hold. -/
def held : Norm 512 where
  X r q := x (ix2 r q)
  D r q := d (ix2 r q)
  E r q := e (ix2 r q)
  g q := g (ix2 0 q)
  s q := s (ix2 0 q)

theorem pay_ms (r : Fin 512) : k0_pay5 (F := Ideal) x (ix2 r 0) = ms fun k => x (ix2 r k) := by
  pointwise [k0_pay5, ms]

theorem pay_inv (r : Fin 512) : k0_pay6 (F := Ideal) x (ix2 r 0) = rinv fun k => x (ix2 r k) := by
  pointwise [k0_pay6, pay_ms, rinv]

theorem pay_scaled (r : Fin 512) (q : Fin 1024) : k0_pay11 (F := Ideal) s d (ix2 r q) = (held x g s d e).scaled r q := by
  pointwise [k0_pay11, k0_pay8, Norm.scaled, held]

theorem pay_w (r : Fin 512) (q : Fin 1024) :
    k0_pay13 (F := Ideal) g s d (ix2 r q) = (held x g s d e).scaled r q * (held x g s d e).g q := by
  pointwise [k0_pay13, pay_scaled x g s d e, held]

theorem pay_slope (r : Fin 512) : Ideal.div (k0_pay15 (F := Ideal) x g s d (ix2 r 0)) (k0_pay16 (F := Ideal) (ix2 r 0))
    = pull ((held x g s d e).X r) fun k => (held x g s d e).scaled r k * (held x g s d e).g k := by
  pointwise [k0_pay15, k0_pay16, pay_w x g s d e, pay_ms, pay_inv, pull, held]

/-- What a point computes of the input's gradient. -/
theorem block_x (r : Fin 512) (q : Fin 1024) :
    k0_pay1 (F := Ideal) x (k0_pay14 x g s d) (k0_pay15 x g s d) (k0_pay16 (F := Ideal)) e (ix2 r q) = (held x g s d e).gX r q := by
  pointwise [k0_pay1, k0_pay14, pay_inv, pay_w x g s d e]
  rw [Fin.sum_univ_one, pay_slope x g s d e]
  rfl

/-- What a point computes of the gain's, the scale's and the shift's gradients. -/
theorem block_gain (q : Fin 1024) : k0_pay12 (F := Ideal) x s d (ix2 0 q) = ∑ r : Fin 512, (held x g s d e).gGain r q := by
  pointwise [k0_pay12, k0_pay7, pay_inv, pay_scaled x g s d e, Norm.gGain, held]

@[inherit_doc block_gain]
theorem block_scale (q : Fin 1024) : k0_pay10 (F := Ideal) x g d (ix2 0 q) = ∑ r : Fin 512, (held x g s d e).gScale r q := by
  pointwise [k0_pay10, k0_pay7, k0_pay8, pay_inv, Norm.gScale, held]

@[inherit_doc block_gain]
theorem block_shift (q : Fin 1024) : k0_pay9 (F := Ideal) d (ix2 0 q) = ∑ r : Fin 512, (held x g s d e).D r q := by
  pointwise [k0_pay9, held]

end payloads

variable (m : (ℓ : Loc nD τ sig) → Buf (Elt Ideal) ℓ) (c : Dev nD)

/-- The norm of @main's arguments. -/
def whole : Norm 2048 where
  X r q := (m ((c : Thread nD τ).loc main_arg0) : Vec Ideal S2048x1024 .f32) (ix2 r q)
  D r q := (m ((c : Thread nD τ).loc main_arg4) : Vec Ideal S2048x1024 .f32) (ix2 r q)
  E r q := (m ((c : Thread nD τ).loc main_arg5) : Vec Ideal S2048x1024 .f32) (ix2 r q)
  g q := (m ((c : Thread nD τ).loc main_arg1) : Vec Ideal S1x1024 .f32) (ix2 0 q)
  s q := (m ((c : Thread nD τ).loc main_arg2) : Vec Ideal S1x1024 .f32) (ix2 0 q)

/-- Every window's block index in the point's number. -/
theorem idx : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0] :=
  (by decide +kernel : ∀ t : Fin grid0.N, _)

variable (t : Fin cfg0.N)

/-- Row `r` of the point's tile. -/
abbrev row (r : Fin 512) : Fin 2048 := ⟨t.val * 512 + r.val, by have h : t.val < 4 := lt_of_lt_of_eq t.isLt N_0; omega⟩

theorem read_x (r : Fin 512) (q : Fin 1024) : iblk m c 0 t (ix2 r q) = (whole m c).X (row t r) q := by
  blk_point [iblk, V, idx t, whole]

theorem read_g (q : Fin 1024) : iblk m c 1 t (ix2 0 q) = (whole m c).g q := by
  blk_point [iblk, V, idx t, whole]

theorem read_s (q : Fin 1024) : iblk m c 2 t (ix2 0 q) = (whole m c).s q := by
  blk_point [iblk, V, idx t, whole]

theorem read_d (r : Fin 512) (q : Fin 1024) : iblk m c 4 t (ix2 r q) = (whole m c).D (row t r) q := by
  blk_point [iblk, V, idx t, whole]

theorem read_e (r : Fin 512) (q : Fin 1024) : iblk m c 5 t (ix2 r q) = (whole m c).E (row t r) q := by
  blk_point [iblk, V, idx t, whole]

/-- A point's blocks hold its rows of the norm. -/
theorem held_eq : held (iblk m c 0 t) (iblk m c 1 t) (iblk m c 2 t) (iblk m c 4 t) (iblk m c 5 t) = (whole m c).pick (row t) := by
  unfold held Norm.pick
  congr
  · funext r q; exact read_x m c t r q
  · funext r q; exact read_d m c t r q
  · funext r q; exact read_e m c t r q
  · funext q; exact read_g m c t q
  · funext q; exact read_s m c t q

/-- The point's part of a sum over all rows of `f`. -/
def tile (f : Fin 2048 → Fin 1024 → EReal) (i : S1x1024.Idx) : EReal := ∑ r : Fin 512, f (row t r) (i 1)

theorem tile_gain (q : Fin 1024) : k0_pay12 (F := Ideal) (iblk m c 0 t) (iblk m c 2 t) (iblk m c 4 t) (ix2 0 q)
    = tile t (whole m c).gGain (ix2 0 q) := by
  rw [block_gain _ (iblk m c 1 t) _ _ (iblk m c 5 t), held_eq]
  rfl

theorem tile_scale (q : Fin 1024) : k0_pay10 (F := Ideal) (iblk m c 0 t) (iblk m c 1 t) (iblk m c 4 t) (ix2 0 q)
    = tile t (whole m c).gScale (ix2 0 q) := by
  rw [block_scale _ _ (iblk m c 2 t) _ (iblk m c 5 t), held_eq]
  rfl

theorem tile_shift (q : Fin 1024) : k0_pay9 (F := Ideal) (iblk m c 4 t) (ix2 0 q) = tile t (whole m c).D (ix2 0 q) := by
  rw [block_shift (iblk m c 0 t) (iblk m c 1 t) (iblk m c 2 t) _ (iblk m c 5 t), held_eq]
  rfl

/-- The first point sets the three sums. -/
theorem at_first (h : t.val % 4 = 0) (i : S1x1024.Idx) :
    (outsAt0 m c t.val t.isLt).2.1 i = tile t (whole m c).gGain i
    ∧ (outsAt0 m c t.val t.isLt).2.2.1 i = tile t (whole m c).gScale i
    ∧ (outsAt0 m c t.val t.isLt).2.2.2 i = tile t (whole m c).D i := by
  have ht : t.val < 4 := lt_of_lt_of_eq t.isLt N_0
  idx_vars i
  obtain rfl := Fin.fin_one_eq_zero i0
  rw [outsAt0_A m c t h (by omega) h (by omega) h (by omega)]
  refine ⟨?_, ?_, ?_⟩ <;> frame_out
  · exact tile_gain m c t i1
  · exact tile_scale m c t i1
  · exact tile_shift m c t i1

/-- Every later point adds its rows. -/
theorem at_step (h : ¬t.val % 4 = 0) (i : S1x1024.Idx) :
    (outsAt0 m c t.val t.isLt).2.1 i
      = (outsAt0 m c (t.val - 1) (Nat.lt_of_le_of_lt (Nat.sub_le _ _) t.isLt)).2.1 i + tile t (whole m c).gGain i
    ∧ (outsAt0 m c t.val t.isLt).2.2.1 i
      = (outsAt0 m c (t.val - 1) (Nat.lt_of_le_of_lt (Nat.sub_le _ _) t.isLt)).2.2.1 i + tile t (whole m c).gScale i
    ∧ (outsAt0 m c t.val t.isLt).2.2.2 i
      = (outsAt0 m c (t.val - 1) (Nat.lt_of_le_of_lt (Nat.sub_le _ _) t.isLt)).2.2.2 i + tile t (whole m c).D i := by
  idx_vars i
  obtain rfl := Fin.fin_one_eq_zero i0
  rw [outsAt0_B m c t h (by omega) h (by omega) h (by omega)]
  refine ⟨?_, ?_, ?_⟩ <;> frame_out
  · pointwise [k0_pay2]
    exact congrArg (_ + ·) (tile_gain m c t i1)
  · pointwise [k0_pay3]
    exact congrArg (_ + ·) (tile_scale m c t i1)
  · pointwise [k0_pay4]
    exact congrArg (_ + ·) (tile_shift m c t i1)

/-- The input's gradient in the point's rows. -/
theorem left_x (r : Fin 512) (q : Fin 1024) : (outsAt0 m c t.val t.isLt).1 (ix2 r q) = (whole m c).gX (row t r) q := by
  have e : k0_pay1 (F := Ideal) (iblk m c 0 t) (k0_pay14 (iblk m c 0 t) (iblk m c 1 t) (iblk m c 2 t) (iblk m c 4 t))
      (k0_pay15 (iblk m c 0 t) (iblk m c 1 t) (iblk m c 2 t) (iblk m c 4 t)) (k0_pay16 (F := Ideal)) (iblk m c 5 t) (ix2 r q)
      = (whole m c).gX (row t r) q := by
    rw [block_x, held_eq]
    rfl
  have ht : t.val < 4 := lt_of_lt_of_eq t.isLt N_0
  by_cases h : t.val % 4 = 0
  · rw [outsAt0_A m c t h (by omega) h (by omega) h (by omega)]
    frame_out
    exact e
  · rw [outsAt0_B m c t h (by omega) h (by omega) h (by omega)]
    frame_out
    exact e

/-- The input's gradient, whole. -/
theorem all_x : (dats m 0 c).arrAt 6 (cfgs 0).N = fun i : S2048x1024.Idx => (whole m c).gX (i 0) (i 1) := by
  refine (dats m 0 c).arrAt_eq_of_covers 6 _ (by decide +kernel) fun t hf y => ?_
  obtain ⟨e0, e1, e2, e3, e4, e5⟩ := idx t
  idx_vars y
  blk_simp
  rw [after0_6, left_x]
  refine congrArg₂ (whole m c).gX (Fin.ext ?_) (Fin.ext ?_) <;> blk_simp [e5]

/-- The tiles' parts make the sum over all rows. -/
theorem tiles (f : Fin 2048 → Fin 1024 → EReal) (i : S1x1024.Idx) : ∑ t : Fin cfg0.N, tile t f i = ∑ r : Fin 2048, f r (i 1) :=
  (Fin.sum_univ_tiles 4 512 rfl fun r => f r (i 1)).symm

/-- The gain's, the scale's and the shift's gradients, whole. -/
theorem all_gain : (dats m 0 c).arrAt 7 (cfgs 0).N = fun i : S1x1024.Idx => ∑ r : Fin 2048, (whole m c).gGain r (i 1) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0) (tile · (whole m c).gGain)
    (fun t h j => (at_first m c t h j).1.trans (zero_add _).symm) (fun t h j => (at_step m c t h j).1)
    (le_of_eq N_0) t0_3 rfl j, zero_add, ← tiles]

@[inherit_doc all_gain]
theorem all_scale : (dats m 0 c).arrAt 8 (cfgs 0).N = fun i : S1x1024.Idx => ∑ r : Fin 2048, (whole m c).gScale r (i 1) := by
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0) (tile · (whole m c).gScale)
    (fun t h j => (at_first m c t h j).2.1.trans (zero_add _).symm) (fun t h j => (at_step m c t h j).2.1)
    (le_of_eq N_0) t0_3 rfl j, zero_add, ← tiles]

@[inherit_doc all_gain]
theorem all_shift : (dats m 0 c).arrAt 9 (cfgs 0).N = fun i : S1x1024.Idx => ∑ r : Fin 2048, (whole m c).D r (i 1) := by
  refine (dats m 0 c).arrAt_eq_of_after_last 9 t0_3 (by decide +kernel) _ fun j => ?_
  blk_simp
  rw [after0_9, Pipeline.eq_sum_fin_of_reset_step_apply_last (fun n h => (outsAt0 m c n h).2.2.2) 4 (fun _ => 0) (tile · (whole m c).D)
    (fun t h j => (at_first m c t h j).2.2.trans (zero_add _).symm) (fun t h j => (at_step m c t h j).2.2)
    (le_of_eq N_0) t0_3 rfl j, zero_add, ← tiles]

end Cert.Kernel8Ideal.Value

end
-- ==== Proof.MixNorm.lean ====
/- The mixers' norm, backward, with the first feed-forward's residual branch below it: what a point computes and
   what the six result arrays hold. The norm's blocks compute what the first feed-forward's do. -/
module

public import proofs.«01_k».proof.Proof.Gen.Kernel6Ideal.Frame
public import proofs.«01_k».proof.Proof.Norm1

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.RowNorm
open Cert.Kernel8Ideal.Value (held block_x block_gain block_scale block_shift)

section payloads
variable (x : Vec Ideal S512x1024 .f32) (g s : Vec Ideal S1x1024 .f32) (d e : Vec Ideal S512x1024 .f32)
  (f : Vec Ideal S512x1024 .bf16) (gt : Vec Ideal S1x1024 .f32)

/-- The input's gradient in a block. -/
abbrev dx : FVec Ideal S512x1024 .f32 := k0_pay16 (F := Ideal) x (k0_pay13 x g s d) (k0_pay14 x g s d) (k0_pay15 (F := Ideal)) e

theorem dx_at (r : Fin 512) (q : Fin 1024) : dx x g s d e (ix2 r q) = (held x g s d e).gX r q := block_x x g s d e r q

/-- What a point computes of the branch's gradient. -/
theorem branch_at (r : Fin 512) (q : Fin 1024) :
    k0_pay18 (F := Ideal) x (k0_pay13 x g s d) (k0_pay14 x g s d) (k0_pay15 (F := Ideal)) e gt (ix2 r q)
      = half * gt (ix2 0 q) * (held x g s d e).gX r q := by
  pointwise [k0_pay18, dx_at x g s d e]

/-- What a point computes of the branch gate's gradient. -/
theorem gate_at (q : Fin 1024) :
    k0_pay17 (F := Ideal) x (k0_pay13 x g s d) (k0_pay14 x g s d) (k0_pay15 (F := Ideal)) e f (ix2 0 q)
      = ∑ r : Fin 512, half * (held x g s d e).gX r q * f (ix2 r q) := by
  pointwise [k0_pay17, dx_at x g s d e]

end payloads

variable (m : (ℓ : Loc nD τ sig) → Buf (Elt Ideal) ℓ) (c : Dev nD)

/-- The norm of @main's arguments, the branch's value and its gate. -/
def whole : Norm 2048 where
  X r q := (m ((c : Thread nD τ).loc main_arg0) : Vec Ideal S2048x1024 .f32) (ix2 r q)
  D r q := (m ((c : Thread nD τ).loc main_arg4) : Vec Ideal S2048x1024 .f32) (ix2 r q)
  E r q := (m ((c : Thread nD τ).loc main_arg5) : Vec Ideal S2048x1024 .f32) (ix2 r q)
  g q := (m ((c : Thread nD τ).loc main_arg1) : Vec Ideal S1x1024 .f32) (ix2 0 q)
  s q := (m ((c : Thread nD τ).loc main_arg2) : Vec Ideal S1x1024 .f32) (ix2 0 q)
@[inherit_doc whole] abbrev branch : Vec Ideal S2048x1024 .f32 := m ((c : Thread nD τ).loc main_arg6)
@[inherit_doc whole] abbrev brGate : Vec Ideal S1x1024 .f32 := m ((c : Thread nD τ).loc main_arg7)

/-- Every window's block index in the point's number. -/
theorem idx : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![t.val, 0] :=
  (by decide +kernel : ∀ t : Fin grid0.N, _)

variable (t : Fin cfg0.N)

theorem lt4 : t.val < 4 := lt_of_lt_of_eq t.isLt N_0

/-- Row `r` of the point's tile. -/
abbrev row (r : Fin 512) : Fin 2048 := ⟨t.val * 512 + r.val, by have h := lt4 t; omega⟩

/-- A point's blocks hold its rows of the norm. -/
theorem held_eq : held (iblk m c 0 t) (iblk m c 1 t) (iblk m c 2 t) (iblk m c 4 t) (iblk m c 5 t) = (whole m c).pick (row t) := by
  unfold held Norm.pick
  congr
  · funext r q; blk_point [iblk, V, idx t, whole]
  · funext r q; blk_point [iblk, V, idx t, whole]
  · funext r q; blk_point [iblk, V, idx t, whole]
  · funext q; blk_point [iblk, V, idx t, whole]
  · funext q; blk_point [iblk, V, idx t, whole]

theorem read_branch (r : Fin 512) (q : Fin 1024) : iblk m c 6 t (ix2 r q) = branch m c (ix2 (row t r) q) := by
  blk_point [iblk, V, idx t]

theorem read_gate (q : Fin 1024) : iblk m c 7 t (ix2 0 q) = brGate m c (ix2 0 q) := by
  blk_point [iblk, V, idx t]

/-- The branch's gradient, and a row's part of its gate's. -/
def gBranch (r : Fin 2048) (q : Fin 1024) : EReal := half * brGate m c (ix2 0 q) * (whole m c).gX r q
@[inherit_doc gBranch] def gGate (r : Fin 2048) (q : Fin 1024) : EReal := half * (whole m c).gX r q * branch m c (ix2 r q)

/-- The point's part of a sum over all rows of `f`. -/
def tile (f : Fin 2048 → Fin 1024 → EReal) (i : S1x1024.Idx) : EReal := ∑ r : Fin 512, f (row t r) (i 1)

/-- What the point computes for the four sums. -/
theorem four (q : Fin 1024) :
    k0_pay11 (F := Ideal) (iblk m c 0 t) (iblk m c 2 t) (iblk m c 4 t) (ix2 0 q) = tile t (whole m c).gGain (ix2 0 q)
    ∧ k0_pay9 (F := Ideal) (iblk m c 0 t) (iblk m c 1 t) (iblk m c 4 t) (ix2 0 q) = tile t (whole m c).gScale (ix2 0 q)
    ∧ k0_pay8 (F := Ideal) (iblk m c 4 t) (ix2 0 q) = tile t (whole m c).D (ix2 0 q)
    ∧ k0_pay17 (F := Ideal) (iblk m c 0 t) (k0_pay13 (iblk m c 0 t) (iblk m c 1 t) (iblk m c 2 t) (iblk m c 4 t))
        (k0_pay14 (iblk m c 0 t) (iblk m c 1 t) (iblk m c 2 t) (iblk m c 4 t)) (k0_pay15 (F := Ideal)) (iblk m c 5 t) (iblk m c 6 t) (ix2 0 q)
      = tile t (gGate m c) (ix2 0 q) := by
  have e := held_eq m c t
  refine ⟨(block_gain _ (iblk m c 1 t) _ _ (iblk m c 5 t) q).trans ?_, (block_scale _ _ (iblk m c 2 t) _ (iblk m c 5 t) q).trans ?_,
    (block_shift (iblk m c 0 t) (iblk m c 1 t) (iblk m c 2 t) _ (iblk m c 5 t) q).trans ?_, (gate_at _ _ _ _ _ _ q).trans ?_⟩
  · rw [e]; rfl
  · rw [e]; rfl
  · rw [e]; rfl
  · rw [e]
    simp only [read_branch]
    rfl

/-- The point's rows of the two tall results. -/
theorem two (r : Fin 512) (q : Fin 1024) :
    dx (iblk m c 0 t) (iblk m c 1 t) (iblk m c 2 t) (iblk m c 4 t) (iblk m c 5 t) (ix2 r q) = (whole m c).gX (row t r) q
    ∧ k0_pay18 (F := Ideal) (iblk m c 0 t) (k0_pay13 (iblk m c 0 t) (iblk m c 1 t) (iblk m c 2 t) (iblk m c 4 t))
        (k0_pay14 (iblk m c 0 t) (iblk m c 1 t) (iblk m c 2 t) (iblk m c 4 t)) (k0_pay15 (F := Ideal)) (iblk m c 5 t) (iblk m c 7 t) (ix2 r q)
      = gBranch m c (row t r) q := by
  rw [dx_at, branch_at, held_eq m c t, read_gate]
  exact ⟨rfl, rfl⟩

/-- The first point sets the sums. -/
theorem at_first (h : t.val % 4 = 0) (i : S1x1024.Idx) :
    (outsAt0 m c t.val t.isLt).2.2.1 i = tile t (whole m c).gGain i
    ∧ (outsAt0 m c t.val t.isLt).2.2.2.1 i = tile t (whole m c).gScale i
    ∧ (outsAt0 m c t.val t.isLt).2.2.2.2.1 i = tile t (whole m c).D i
    ∧ (outsAt0 m c t.val t.isLt).2.2.2.2.2 i = tile t (gGate m c) i := by
  have ht := lt4 t
  idx_vars i
  obtain rfl := Fin.fin_one_eq_zero i0
  rw [outsAt0_A m c t h (by omega) h (by omega) h (by omega) h (by omega)]
  obtain ⟨a, b, d, e⟩ := four m c t i1
  refine ⟨?_, ?_, ?_, ?_⟩ <;> frame_out
  · exact a
  · exact b
  · exact d
  · exact e

/-- Every later point adds its rows. -/
theorem at_step (h : ¬t.val % 4 = 0) (i : S1x1024.Idx) :
    (outsAt0 m c t.val t.isLt).2.2.1 i
      = (outsAt0 m c (t.val - 1) (Nat.lt_of_le_of_lt (Nat.sub_le _ _) t.isLt)).2.2.1 i + tile t (whole m c).gGain i
    ∧ (outsAt0 m c t.val t.isLt).2.2.2.1 i
      = (outsAt0 m c (t.val - 1) (Nat.lt_of_le_of_lt (Nat.sub_le _ _) t.isLt)).2.2.2.1 i + tile t (whole m c).gScale i
    ∧ (outsAt0 m c t.val t.isLt).2.2.2.2.1 i
      = (outsAt0 m c (t.val - 1) (Nat.lt_of_le_of_lt (Nat.sub_le _ _) t.isLt)).2.2.2.2.1 i + tile t (whole m c).D i
    ∧ (outsAt0 m c t.val t.isLt).2.2.2.2.2 i
      = (outsAt0 m c (t.val - 1) (Nat.lt_of_le_of_lt (Nat.sub_le _ _) t.isLt)).2.2.2.2.2 i + tile t (gGate m c) i := by
  have ht := lt4 t
  idx_vars i
  obtain rfl := Fin.fin_one_eq_zero i0
  rw [outsAt0_B m c t h (by omega) h (by omega) h (by omega) h (by omega)]
  obtain ⟨a, b, d, e⟩ := four m c t i1
  refine ⟨?_, ?_, ?_, ?_⟩ <;> frame_out
  · pointwise [k0_pay19]
    exact congrArg (_ + ·) a
  · pointwise [k0_pay1]
    exact congrArg (_ + ·) b
  · pointwise [k0_pay2]
    exact congrArg (_ + ·) d
  · pointwise [k0_pay3]
    exact congrArg (_ + ·) e

/-- What the point leaves of the two tall results. -/
theorem left (r : Fin 512) (q : Fin 1024) : (outsAt0 m c t.val t.isLt).1 (ix2 r q) = (whole m c).gX (row t r) q
    ∧ (outsAt0 m c t.val t.isLt).2.1 (ix2 r q) = gBranch m c (row t r) q := by
  have ht := lt4 t
  obtain ⟨a, b⟩ := two m c t r q
  by_cases h : t.val % 4 = 0
  · rw [outsAt0_A m c t h (by omega) h (by omega) h (by omega) h (by omega)]
    constructor <;> frame_out
    · exact a
    · exact b
  · rw [outsAt0_B m c t h (by omega) h (by omega) h (by omega) h (by omega)]
    constructor <;> frame_out
    · exact a
    · exact b

/-- The input's gradient and the branch's, whole. -/
theorem all_x : (dats m 0 c).arrAt 8 (cfgs 0).N = fun i : S2048x1024.Idx => (whole m c).gX (i 0) (i 1) := by
  refine (dats m 0 c).arrAt_eq_of_covers 8 _ (by decide +kernel) fun t hf y => ?_
  obtain ⟨e0, e1, e2, e3, e4, e5, e6, e7, e8⟩ := idx t
  idx_vars y
  blk_simp
  rw [after0_8, (left m c t _ _).1]
  refine congrArg₂ (whole m c).gX (Fin.ext ?_) (Fin.ext ?_) <;> blk_simp [e7]

@[inherit_doc all_x]
theorem all_branch : (dats m 0 c).arrAt 9 (cfgs 0).N = fun i : S2048x1024.Idx => gBranch m c (i 0) (i 1) := by
  refine (dats m 0 c).arrAt_eq_of_covers 9 _ (by decide +kernel) fun t hf y => ?_
  obtain ⟨e0, e1, e2, e3, e4, e5, e6, e7, e8⟩ := idx t
  idx_vars y
  blk_simp
  rw [after0_9, (left m c t _ _).2]
  refine congrArg₂ (gBranch m c) (Fin.ext ?_) (Fin.ext ?_) <;> blk_simp [e8]

/-- A quantity of one row that the first point sets to its tile's part and every later one adds to holds the sum of
    all rows after the last point. -/
theorem summed (u : (n : ℕ) → n < cfg0.N → S1x1024.Idx → EReal) (f : Fin 2048 → Fin 1024 → EReal)
    (h0 : ∀ (t : Fin cfg0.N), t.val % 4 = 0 → ∀ i, u t.val t.isLt i = tile t f i)
    (h1 : ∀ (t : Fin cfg0.N), ¬t.val % 4 = 0 → ∀ i,
      u t.val t.isLt i = u (t.val - 1) (Nat.lt_of_le_of_lt (Nat.sub_le _ _) t.isLt) i + tile t f i) (i : S1x1024.Idx) :
    u t0_3.val t0_3.isLt i = ∑ r : Fin 2048, f r (i 1) := by
  rw [Pipeline.eq_sum_fin_of_reset_step_apply_last u 4 (fun _ => 0) (tile · f)
    (fun t h j => (h0 t h j).trans (zero_add _).symm) h1 (le_of_eq N_0) t0_3 rfl i, zero_add]
  exact (Fin.sum_univ_tiles 4 512 rfl fun r => f r (i 1)).symm

/-- The four sums, whole. -/
theorem all_gain : (dats m 0 c).arrAt 10 (cfgs 0).N = fun i : S1x1024.Idx => ∑ r : Fin 2048, (whole m c).gGain r (i 1) := by
  refine (dats m 0 c).arrAt_eq_of_after_last 10 t0_3 (by decide +kernel) _ fun j => ?_
  blk_simp
  rw [after0_10, summed (fun n h => (outsAt0 m c n h).2.2.1) _ (fun t h i => (at_first m c t h i).1) (fun t h i => (at_step m c t h i).1)]

@[inherit_doc all_gain]
theorem all_scale : (dats m 0 c).arrAt 11 (cfgs 0).N = fun i : S1x1024.Idx => ∑ r : Fin 2048, (whole m c).gScale r (i 1) := by
  refine (dats m 0 c).arrAt_eq_of_after_last 11 t0_3 (by decide +kernel) _ fun j => ?_
  blk_simp
  rw [after0_11, summed (fun n h => (outsAt0 m c n h).2.2.2.1) _ (fun t h i => (at_first m c t h i).2.1) (fun t h i => (at_step m c t h i).2.1)]

@[inherit_doc all_gain]
theorem all_shift : (dats m 0 c).arrAt 12 (cfgs 0).N = fun i : S1x1024.Idx => ∑ r : Fin 2048, (whole m c).D r (i 1) := by
  refine (dats m 0 c).arrAt_eq_of_after_last 12 t0_3 (by decide +kernel) _ fun j => ?_
  blk_simp
  rw [after0_12, summed (fun n h => (outsAt0 m c n h).2.2.2.2.1) _ (fun t h i => (at_first m c t h i).2.2.1)
    (fun t h i => (at_step m c t h i).2.2.1)]

@[inherit_doc all_gain]
theorem all_gate : (dats m 0 c).arrAt 13 (cfgs 0).N = fun i : S1x1024.Idx => ∑ r : Fin 2048, gGate m c r (i 1) := by
  refine (dats m 0 c).arrAt_eq_of_after_last 13 t0_3 (by decide +kernel) _ fun j => ?_
  blk_simp
  rw [after0_13, summed (fun n h => (outsAt0 m c n h).2.2.2.2.2) _ (fun t h i => (at_first m c t h i).2.2.2)
    (fun t h i => (at_step m c t h i).2.2.2)]

end Cert.Kernel6Ideal.Value

end
-- ==== Proof.RefNorm.lean ====
/- The reference's norm, backward, over any arrays: its terms named stage by stage, and what each holds at an entry. -/
module

public import proofs.«01_k».proof.Proof.Gen.Reference8Ideal
public import proofs.«01_k».proof.Proof.Scalars
public import proofs.«01_k».proof.Proof.RowNorm

@[expose] public section

set_option maxRecDepth 16384

noncomputable section

open Idealize.ShloMosaic Idealize.ShloMosaic.TcCoe Idealize.SL.Sem

namespace Cert.Reference8Ideal.Norm

open Cert.Reference8Ideal Cert.Reference8Ideal.Gen Cert.RowNorm

variable (x d e w : FVec Ideal S2048x1024 .f32) (g s : FVec Ideal S1x1024 .f32)

/-- A constant in every row. -/
abbrev col (b : BitVec 32) : FVec Ideal S2048x1 .f32 := broadcastInDim S2048x1 ![] bcast_S_S2048x1 (constant S_ .f32 b)

/-- The mean square plus epsilon. -/
def refMs : FVec Ideal S2048x1 .f32 :=
  addf (Host.divf (broadcastInDim S2048x1 ![0] bcast_S2048_S2048x1_0
    (Host.reduceAdd (mulf x x) (constant S_ .f32 0x00000000#32) reducesTo_S2048x1024_S2048_d1 h_S_)) (col 0x44800000#32)) (col 0x358637BD#32)

/-- The reciprocal root. -/
def refInv : FVec Ideal S2048x1 .f32 := Host.rsqrt (refMs x)

/-- The cotangent times one plus the scale. -/
def refScaled : FVec Ideal S2048x1024 .f32 :=
  mulf (shapeCast _ d shapeCasts_S2048x1024_S2048x1024) (broadcastInDim S2048x1024 ![0, 1] bcast_S1x1024_S2048x1024_0_1
    (addf (broadcastInDim S1x1024 ![] bcast_S_S1x1024 (constant S_ .f32 0x3F800000#32)) s))

/-- A row of vectors in every row. -/
abbrev down (g : FVec Ideal S1x1024 .f32) : FVec Ideal S2048x1024 .f32 := broadcastInDim S2048x1024 ![0, 1] bcast_S1x1024_S2048x1024_0_1 g

/-- The gradient through the reciprocal root, per row. -/
def refPull : FVec Ideal S2048 .f32 :=
  Host.reduceAdd (Host.divf (mulf (shapeCast _ (Host.reduceAdd (mulf x w) (constant S_ .f32 0x00000000#32)
    reducesTo_S2048x1024_S2048_d1 h_S_) shapeCasts_S2048_S2048x1) (mulf (col 0xBF000000#32) (Host.divf (refInv x) (refMs x))))
    (col 0x44800000#32)) (constant S_ .f32 0x00000000#32) reducesTo_S2048x1_S2048_d1 h_S_

/-- A row's number in every column. -/
abbrev across (p : FVec Ideal S2048 .f32) : FVec Ideal S2048x1024 .f32 := broadcastInDim S2048x1024 ![0] bcast_S2048_S2048x1024_0 p
/-- The same for a column of numbers. -/
abbrev across1 (p : FVec Ideal S2048x1 .f32) : FVec Ideal S2048x1024 .f32 := broadcastInDim S2048x1024 ![0, 1] bcast_S2048x1_S2048x1024_0_1 p

/-- The input's gradient, the input's other cotangent in front. -/
def refX : FVec Ideal S2048x1024 .f32 :=
  addf (addf (addf e (mulf w (across1 (refInv x)))) (mulf x (across (refPull x w)))) (mulf (across (refPull x w)) x)

/-- The column sums. -/
def refSum (y : FVec Ideal S2048x1024 .f32) : FVec Ideal S1x1024 .f32 :=
  shapeCast _ (Host.reduceAdd y (constant S_ .f32 0x00000000#32) reducesTo_S2048x1024_S1024_d0 h_S_) shapeCasts_S1024_S1x1024

theorem ms_at (r : Fin 2048) : refMs x (ix2 r 0) = ms fun k => x (ix2 r k) := by
  pointwise [refMs, ms]

theorem inv_at (r : Fin 2048) : refInv x (ix2 r 0) = rinv fun k => x (ix2 r k) := by
  pointwise [refInv, ms_at, rinv]

theorem scaled_at (r : Fin 2048) (q : Fin 1024) : refScaled d s (ix2 r q) = d (ix2 r q) * (1 + s (ix2 0 q)) := by
  pointwise [refScaled]

theorem pull_at (r : Fin 2048) : refPull x w (ix1 r) = pull (fun k => x (ix2 r k)) fun k => w (ix2 r k) := by
  pointwise [refPull, pull]
  rw [Fin.sum_univ_one, inv_at, ms_at]

theorem x_at (r : Fin 2048) (q : Fin 1024) :
    refX x e w (ix2 r q) = back (fun k => x (ix2 r k)) (fun k => w (ix2 r k)) q + e (ix2 r q) := by
  refine Eq.trans (b := e (ix2 r q) + w (ix2 r q) * (rinv fun k => x (ix2 r k)) + x (ix2 r q) * (pull (fun k => x (ix2 r k)) fun k => w (ix2 r k))
    + (pull (fun k => x (ix2 r k)) fun k => w (ix2 r k)) * x (ix2 r q)) ?_ ?_
  · pointwise [refX, inv_at, pull_at]
  · unfold back
    dsimp only
    ac_rfl

theorem sum_at (y : FVec Ideal S2048x1024 .f32) (q : Fin 1024) : refSum y (ix2 0 q) = ∑ r : Fin 2048, y (ix2 r q) := by
  pointwise [refSum]

/-- The norm the reference works on. -/
def holding : Norm 2048 where
  X r q := x (ix2 r q)
  D r q := d (ix2 r q)
  E r q := e (ix2 r q)
  g q := g (ix2 0 q)
  s q := s (ix2 0 q)

theorem gX_at (r : Fin 2048) (q : Fin 1024) :
    refX x e (mulf (refScaled d s) (down g)) (ix2 r q) = (holding x d e g s).gX r q := by
  rw [x_at, Norm.gX]
  refine congrArg (fun w => back _ w q + _) (funext fun k => ?_)
  pointwise [scaled_at, Norm.scaled, holding]

theorem gGain_at (q : Fin 1024) :
    refSum (mulf (mulf x (across1 (refInv x))) (refScaled d s)) (ix2 0 q) = ∑ r : Fin 2048, (holding x d e g s).gGain r q := by
  rw [sum_at]
  pointwise [inv_at, scaled_at, Norm.gGain, Norm.scaled, holding]

theorem gScale_at (q : Fin 1024) :
    refSum (mulf (mulf (mulf x (across1 (refInv x))) (down g)) (shapeCast _ d shapeCasts_S2048x1024_S2048x1024)) (ix2 0 q)
      = ∑ r : Fin 2048, (holding x d e g s).gScale r q := by
  rw [sum_at]
  pointwise [inv_at, Norm.gScale, holding]

/-- The gradient of a branch gated by half of `gt`, over the cotangent `x`, and its gate's. -/
theorem ref_branch (gt : FVec Ideal S1x1024 .f32) (lt : FTy.bf16.bits < FTy.f32.bits) (r : Fin 2048) (q : Fin 1024) :
    (truncf .bf16 (mulf (down (mulf (broadcastInDim S1x1024 ![] bcast_S_S1x1024 (constant (F := Ideal) S_ .f32 0x3F000000#32)) gt)) x) lt) (ix2 r q)
      = half * gt (ix2 0 q) * x (ix2 r q) := by
  pointwise

@[inherit_doc ref_branch]
theorem ref_gate (f : FVec Ideal S2048x1024 .f32) (q : Fin 1024) :
    mulf (broadcastInDim S1x1024 ![] bcast_S_S1x1024 (constant (F := Ideal) S_ .f32 0x3F000000#32)) (refSum (mulf x f)) (ix2 0 q)
      = ∑ r : Fin 2048, half * x (ix2 r q) * f (ix2 r q) := by
  refine Eq.trans (b := half * ∑ r : Fin 2048, x (ix2 r q) * f (ix2 r q)) ?_ ?_
  · pointwise [sum_at]
  · rw [half_sum]
    exact Finset.sum_congr rfl fun r _ => (mul_assoc _ _ _).symm

end Cert.Reference8Ideal.Norm

end
-- ==== Proof.MixNormClaim.lean ====
/- The mixers' norm, backward, with the residual branch below it computes the reference's six gradients. -/
module

public import proofs.«01_k».proof.Defs
public import proofs.«01_k».proof.Proof.MixNorm
public import proofs.«01_k».proof.Proof.RefNorm
public import proofs.«01_k».proof.Proof.Gen.Reference6Ideal
public import proofs.«01_k».proof.Proof.Gen.Reference6Ideal.Run

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.RowNorm
open Cert.Reference8Ideal.Norm (refX refScaled refInv refSum down across1 holding gX_at gGain_at gScale_at sum_at ref_branch ref_gate)

variable (m : (ℓ : Loc nD τ sig) → Buf (Elt Ideal) ℓ) (c : Dev nD)
  (m' : (ℓ : Loc Cert.Reference6Ideal.nD Cert.Reference6Ideal.τ Cert.Reference6Ideal.sig) → Buf (Elt Ideal) ℓ)

/-- The norm the reference works on. -/
abbrev theirs : Norm 2048 :=
  holding (m' (c.tc.loc Cert.Reference6Ideal.main_arg0)) (m' (c.tc.loc Cert.Reference6Ideal.main_arg4))
    (m' (c.tc.loc Cert.Reference6Ideal.main_arg5)) (m' (c.tc.loc Cert.Reference6Ideal.main_arg1))
    (m' (c.tc.loc Cert.Reference6Ideal.main_arg2))

/-- The two programs' arguments agree. -/
theorem same (h0 : m' (c.tc.loc Cert.Reference6Ideal.main_arg0) = m (c.tc.loc main_arg0))
    (h1 : m' (c.tc.loc Cert.Reference6Ideal.main_arg1) = m (c.tc.loc main_arg1))
    (h2 : m' (c.tc.loc Cert.Reference6Ideal.main_arg2) = m (c.tc.loc main_arg2))
    (h4 : m' (c.tc.loc Cert.Reference6Ideal.main_arg4) = m (c.tc.loc main_arg4))
    (h5 : m' (c.tc.loc Cert.Reference6Ideal.main_arg5) = m (c.tc.loc main_arg5)) : theirs c m' = whole m c := by
  rw [theirs, h0, h1, h2, h4, h5]
  rfl

/-- The reference's gradient of the input at an entry. -/
theorem ref_x (r : Fin 2048) (q : Fin 1024) : Cert.Reference6Ideal.Value.res_main_v48 m' c (ix2 r q) = (theirs c m').gX r q :=
  gX_at _ _ _ _ _ r q

set_option maxHeartbeats 4000000 in
theorem algebraic : Cert.algebraic_Kernel6Ideal_Reference6Ideal := by
  pair_intro
  · run_from Cert.Kernel6Ideal.Gen.run_main m g & Cert.Kernel6Ideal.Gen.unchanged m g
  · refine Idealize.ShloMosaic.θ_run_mono (Cert.Reference6Ideal.Value.run m' g') fun r hr c => ?_
    obtain ⟨h0, h1, h2, h3, h4, h5, h6, h7⟩ := hagree c
    have hs := same m c m' h0 h1 h2 h4 h5
    obtain ⟨r0, r1, r2, r3, r4, r5, ha⟩ := hr c
    refine ⟨r0.trans ?_, r1.trans ?_, r2.trans ?_, r3.trans ?_, r4.trans ?_, r5.trans ?_, ha⟩
    · rw [all_x]
      funext i
      idx_vars i
      exact (ref_x c m' i0 i1).trans (congrArg (Norm.gX · i0 i1) hs)
    · rw [all_branch]
      funext i
      idx_vars i
      refine (ref_branch (Cert.Reference6Ideal.Value.res_main_v48 m' c) _ _ i0 i1).trans ?_
      rw [ref_x, hs, h7]
      rfl
    · rw [all_gain]
      funext i
      idx_vars i
      obtain rfl := Fin.fin_one_eq_zero i0
      exact (gGain_at _ _ _ _ _ i1).trans (congrArg (fun n => ∑ r : Fin 2048, Norm.gGain n r i1) hs)
    · rw [all_scale]
      funext i
      idx_vars i
      obtain rfl := Fin.fin_one_eq_zero i0
      exact (gScale_at _ _ _ _ _ i1).trans (congrArg (fun n => ∑ r : Fin 2048, Norm.gScale n r i1) hs)
    · rw [all_shift]
      funext i
      idx_vars i
      obtain rfl := Fin.fin_one_eq_zero i0
      exact (sum_at _ i1).trans (congrArg (fun n => ∑ r : Fin 2048, Norm.D n r i1) hs)
    · rw [all_gate]
      funext i
      idx_vars i
      obtain rfl := Fin.fin_one_eq_zero i0
      refine (ref_gate (Cert.Reference6Ideal.Value.res_main_v48 m' c) _ i1).trans (Finset.sum_congr rfl fun r _ => ?_)
      rw [ref_x, hs, h6]
      rfl

end Cert.Kernel6Ideal.Value

end
-- ==== Proof.LossHead.lean ====
/- The loss with the last norm and the branch below it: what a point computes, and what the five result arrays hold. -/
module

public import proofs.«01_k».proof.Proof.Gen.Kernel7Ideal.Frame
public import proofs.«01_k».proof.Proof.Norm1
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Loss

open Cert.RowNorm

/-- The row's length. -/
abbrev kilo : EReal := Ideal.ofBits .f32 0x44800000#32

/-- The loss's arrays on `R` rows: the normed input, the target and the gain. -/
structure Head (R : Nat) where
  X : Fin R → Fin 1024 → EReal
  T : Fin R → Fin 1024 → EReal
  g : Fin 1024 → EReal

variable {R S : Nat} (n : Head R)

/-- The rows `f` picks. -/
def Head.pick (f : Fin S → Fin R) : Head S where
  X r := n.X (f r)
  T r := n.T (f r)
  g := n.g

/-- The error. -/
def Head.err (r : Fin R) (q : Fin 1024) : EReal := n.X r q * rinv (n.X r) * n.g q - n.T r q
/-- The error's cotangent. -/
def Head.cot (r : Fin R) (q : Fin 1024) : EReal :=
  Ideal.div half kilo * (Ideal.ofBits .f32 0x40000000#32 * n.err r q)
/-- The gradient of the input. -/
def Head.gX (r : Fin R) (q : Fin 1024) : EReal := back (n.X r) (fun k => n.cot r k * n.g k) q
/-- A row's part of the gain's gradient. -/
def Head.gGain (r : Fin R) (q : Fin 1024) : EReal := n.X r q * rinv (n.X r) * n.cot r q
/-- A row's part of the loss: half its mean squared error. -/
def Head.loss (r : Fin R) : EReal := half * Ideal.div (∑ k, n.err r k * n.err r k) kilo

end Cert.Loss

namespace Cert.Kernel7Ideal.Value

open Cert.Kernel7Ideal Cert.Kernel7Ideal.Gen Cert.RowNorm Cert.Loss Cert.Tiles

section payloads
variable (x : Vec Ideal S512x1024 .f32) (g : Vec Ideal S1x1024 .f32) (y : Vec Ideal S512x1024 .f32)
  (f : Vec Ideal S512x1024 .bf16) (gt : Vec Ideal S1x1024 .f32)

/-- What a point's blocks hold. -/
def held : Head 512 where
  X r q := x (ix2 r q)
  T r q := y (ix2 r q)
  g q := g (ix2 0 q)

theorem pay_ms (r : Fin 512) : k0_pay5 (F := Ideal) x (ix2 r 0) = ms fun k => x (ix2 r k) :=
  Cert.Kernel8Ideal.Value.pay_ms x r

theorem pay_inv (r : Fin 512) : k0_pay6 (F := Ideal) x (ix2 r 0) = rinv fun k => x (ix2 r k) :=
  Cert.Kernel8Ideal.Value.pay_inv x r

theorem pay_err (r : Fin 512) (q : Fin 1024) : k0_pay9 (F := Ideal) x g y (ix2 r q) = (held x g y).err r q := by
  pointwise [k0_pay9, k0_pay8, k0_pay4, pay_inv, Head.err, held]

theorem pay_cot (r : Fin 512) (q : Fin 1024) : k0_pay11 (F := Ideal) x g y (ix2 r q) = (held x g y).cot r q := by
  pointwise [k0_pay11, pay_err, Head.cot]

theorem pay_loss : k0_pay10 (F := Ideal) x g y = ∑ r : Fin 512, (held x g y).loss r := by
  refine Eq.trans (b := half * ∑ r : Fin 512, Ideal.div (∑ k, (held x g y).err r k * (held x g y).err r k) kilo) ?_ (half_sum _ _)
  pointwise [k0_pay10, pay_err]

/-- The input's gradient in a block. -/
abbrev dx : FVec Ideal S512x1024 .f32 :=
  k0_pay14 (F := Ideal) x (k0_pay4 g) (k0_pay6 x) (k0_pay7 x) (k0_pay11 x g y)

theorem dx_at (r : Fin 512) (q : Fin 1024) : dx x g y (ix2 r q) = (held x g y).gX r q := by
  pointwise [dx, k0_pay14, k0_pay4, k0_pay7, pay_inv, pay_ms, pay_cot, Head.gX, back, pull]
  rw [Fin.sum_univ_one, pay_inv, pay_ms]
  rfl

/-- What a point computes of the loss, the gain's gradient, the branch's and its gate's. -/
theorem loss_at (q : Fin 1024) : k0_pay16 (F := Ideal) (k0_pay10 x g y) (ix2 0 q) = ∑ r : Fin 512, (held x g y).loss r := by
  rw [← pay_loss]
  pointwise [k0_pay16]

@[inherit_doc loss_at]
theorem gain_at (q : Fin 1024) :
    k0_pay13 (F := Ideal) (k0_pay12 x g y) (ix2 0 q) = ∑ r : Fin 512, (held x g y).gGain r q := by
  pointwise [k0_pay13, k0_pay12, k0_pay8, pay_inv, pay_cot, Head.gGain, held]

@[inherit_doc loss_at]
theorem branch_at (r : Fin 512) (q : Fin 1024) :
    k0_pay17 (F := Ideal) x (k0_pay4 g) (k0_pay6 x) (k0_pay7 x) (k0_pay11 x g y) gt (ix2 r q)
      = half * gt (ix2 0 q) * (held x g y).gX r q := by
  pointwise [k0_pay17, dx_at x g y]

@[inherit_doc loss_at]
theorem gate_at (q : Fin 1024) :
    k0_pay15 (F := Ideal) x (k0_pay4 g) (k0_pay6 x) (k0_pay7 x) (k0_pay11 x g y) f (ix2 0 q)
      = ∑ r : Fin 512, half * (held x g y).gX r q * f (ix2 r q) := by
  pointwise [k0_pay15, dx_at x g y]

end payloads

variable (m : (ℓ : Loc nD τ sig) → Buf (Elt Ideal) ℓ) (c : Dev nD)

/-- The loss's arrays among @main's arguments, the branch's value and its gate. -/
def whole : Head 2048 where
  X r q := (m ((c : Thread nD τ).loc main_arg0) : Vec Ideal S2048x1024 .f32) (ix2 r q)
  T r q := (m ((c : Thread nD τ).loc main_arg2) : Vec Ideal S2048x1024 .f32) (ix2 r q)
  g q := (m ((c : Thread nD τ).loc main_arg1) : Vec Ideal S1024 .f32) (ix1 q)
@[inherit_doc whole] abbrev branch : Vec Ideal S2048x1024 .f32 := m ((c : Thread nD τ).loc main_arg3)
@[inherit_doc whole] abbrev brGate : Vec Ideal S1x1024 .f32 := m ((c : Thread nD τ).loc main_arg4)

/-- Every window's block index in the point's number. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- What the host's lines hand to the kernel. -/
theorem V_gain (q : Fin 1024) : V m c main_v0 (ix2 0 q) = (whole m c).g q := by
  show StableHlo.after hostOps0 (fun b => m (c, b)) main_v0 (ix2 0 q) = _
  entry_read
  pointwise [whole]

@[inherit_doc V_gain]
theorem V_branch (r : Fin 2048) (q : Fin 1024) : V m c main_v1 (ix2 r q) = branch m c (ix2 r q) := by
  show StableHlo.after hostOps0 (fun b => m (c, b)) main_v1 (ix2 r q) = _
  entry_read
  pointwise

theorem tall : cfg0.N * 512 = 2048 := congrArg (· * 512) N_0

variable (t : Fin cfg0.N)

theorem lt4 : t.val < 4 := lt_of_lt_of_eq t.isLt N_0

/-- A point's blocks hold its rows. -/
theorem held_eq : held (iblk m c 0 t) (iblk m c 1 t) (iblk m c 2 t) = (whole m c).pick (row tall t) := by
  unfold held Head.pick
  congr
  · funext r q; blk_point [iblk, V, idx t, whole]
  · funext r q; blk_point [iblk, V, idx t, whole]
  · funext q
    refine Eq.trans ?_ (V_gain m c q)
    unfold iblk
    blk_ext [idx t]

theorem read_branch (r : Fin 512) (q : Fin 1024) : iblk m c 3 t (ix2 r q) = branch m c (ix2 (row tall t r) q) := by
  refine Eq.trans ?_ (V_branch m c (row tall t r) q)
  unfold iblk
  blk_ext [idx t]

theorem read_gate (q : Fin 1024) : iblk m c 4 t (ix2 0 q) = brGate m c (ix2 0 q) := by
  blk_point [iblk, V, idx t]

/-- The branch's gradient, and a row's part of its gate's. -/
def gBranch (r : Fin 2048) (q : Fin 1024) : EReal := half * brGate m c (ix2 0 q) * (whole m c).gX r q
@[inherit_doc gBranch] def gGate (r : Fin 2048) (q : Fin 1024) : EReal := half * (whole m c).gX r q * branch m c (ix2 r q)

/-- What the point computes for the three sums. -/
theorem three (q : Fin 1024) :
    k0_pay13 (F := Ideal) (k0_pay12 (iblk m c 0 t) (iblk m c 1 t) (iblk m c 2 t)) (ix2 0 q) = part tall t ((whole m c).gGain · q)
    ∧ k0_pay16 (F := Ideal) (k0_pay10 (iblk m c 0 t) (iblk m c 1 t) (iblk m c 2 t)) (ix2 0 q) = part tall t (whole m c).loss
    ∧ k0_pay15 (F := Ideal) (iblk m c 0 t) (k0_pay4 (iblk m c 1 t)) (k0_pay6 (iblk m c 0 t)) (k0_pay7 (iblk m c 0 t))
        (k0_pay11 (iblk m c 0 t) (iblk m c 1 t) (iblk m c 2 t)) (iblk m c 3 t) (ix2 0 q) = part tall t (gGate m c · q) := by
  have e := held_eq m c t
  refine ⟨(gain_at _ _ _ q).trans ?_, (loss_at _ _ _ q).trans ?_, (gate_at _ _ _ _ q).trans ?_⟩ <;> rw [e]
  · rfl
  · rfl
  · simp only [read_branch]
    rfl

/-- The point's rows of the two tall results. -/
theorem two (r : Fin 512) (q : Fin 1024) :
    dx (iblk m c 0 t) (iblk m c 1 t) (iblk m c 2 t) (ix2 r q) = (whole m c).gX (row tall t r) q
    ∧ k0_pay17 (F := Ideal) (iblk m c 0 t) (k0_pay4 (iblk m c 1 t)) (k0_pay6 (iblk m c 0 t)) (k0_pay7 (iblk m c 0 t))
        (k0_pay11 (iblk m c 0 t) (iblk m c 1 t) (iblk m c 2 t)) (iblk m c 4 t) (ix2 r q) = gBranch m c (row tall t r) q := by
  rw [dx_at, branch_at, held_eq m c t, read_gate]
  exact ⟨rfl, rfl⟩

/-- The first point sets the sums. -/
theorem at_first (h : t.val % 4 = 0) (i : S1x1024.Idx) :
    (outsAt0 m c t.val t.isLt).2.2.1 i = part tall t ((whole m c).gGain · (i 1))
    ∧ (outsAt0 m c t.val t.isLt).2.2.2.1 i = part tall t (whole m c).loss
    ∧ (outsAt0 m c t.val t.isLt).2.2.2.2 i = part tall t (gGate m c · (i 1)) := by
  have ht := lt4 t
  idx_vars i
  obtain rfl := Fin.fin_one_eq_zero i0
  rw [outsAt0_A m c t h (by omega) h (by omega) h (by omega)]
  obtain ⟨a, b, d⟩ := three m c t i1
  refine ⟨?_, ?_, ?_⟩ <;> frame_out
  · exact a
  · exact b
  · exact d

/-- Every later point adds its rows. -/
theorem at_step (h : ¬t.val % 4 = 0) (i : S1x1024.Idx) :
    (outsAt0 m c t.val t.isLt).2.2.1 i
      = (outsAt0 m c (t.val - 1) (Nat.lt_of_le_of_lt (Nat.sub_le _ _) t.isLt)).2.2.1 i + part tall t ((whole m c).gGain · (i 1))
    ∧ (outsAt0 m c t.val t.isLt).2.2.2.1 i
      = (outsAt0 m c (t.val - 1) (Nat.lt_of_le_of_lt (Nat.sub_le _ _) t.isLt)).2.2.2.1 i + part tall t (whole m c).loss
    ∧ (outsAt0 m c t.val t.isLt).2.2.2.2 i
      = (outsAt0 m c (t.val - 1) (Nat.lt_of_le_of_lt (Nat.sub_le _ _) t.isLt)).2.2.2.2 i + part tall t (gGate m c · (i 1)) := by
  have ht := lt4 t
  idx_vars i
  obtain rfl := Fin.fin_one_eq_zero i0
  rw [outsAt0_B m c t h (by omega) h (by omega) h (by omega)]
  obtain ⟨a, b, d⟩ := three m c t i1
  refine ⟨?_, ?_, ?_⟩ <;> frame_out
  · pointwise [k0_pay1]
    exact congrArg (_ + ·) a
  · pointwise [k0_pay2]
    exact congrArg (_ + ·) b
  · pointwise [k0_pay3]
    exact congrArg (_ + ·) d

/-- What the point leaves of the two tall results. -/
theorem left (r : Fin 512) (q : Fin 1024) : (outsAt0 m c t.val t.isLt).1 (ix2 r q) = (whole m c).gX (row tall t r) q
    ∧ (outsAt0 m c t.val t.isLt).2.1 (ix2 r q) = gBranch m c (row tall t r) q := by
  have ht := lt4 t
  obtain ⟨a, b⟩ := two m c t r q
  by_cases h : t.val % 4 = 0
  · rw [outsAt0_A m c t h (by omega) h (by omega) h (by omega)]
    constructor <;> frame_out
    · exact a
    · exact b
  · rw [outsAt0_B m c t h (by omega) h (by omega) h (by omega)]
    constructor <;> frame_out
    · exact a
    · exact b

/-- The input's gradient and the branch's, whole. -/
theorem all_x : (dats m 0 c).arrAt 5 (cfgs 0).N = fun i : S2048x1024.Idx => (whole m c).gX (i 0) (i 1) := by
  refine (dats m 0 c).arrAt_eq_of_covers 5 _ (by decide +kernel) fun t hf y => ?_
  obtain ⟨e0, e1, e2, e3, e4, e5, e6⟩ := idx t
  idx_vars y
  blk_simp
  rw [after0_5, (left m c t _ _).1]
  refine congrArg₂ (whole m c).gX (Fin.ext ?_) (Fin.ext ?_) <;> blk_simp [e5]

@[inherit_doc all_x]
theorem all_branch : (dats m 0 c).arrAt 6 (cfgs 0).N = fun i : S2048x1024.Idx => gBranch m c (i 0) (i 1) := by
  refine (dats m 0 c).arrAt_eq_of_covers 6 _ (by decide +kernel) fun t hf y => ?_
  obtain ⟨e0, e1, e2, e3, e4, e5, e6⟩ := idx t
  idx_vars y
  blk_simp
  rw [after0_6, (left m c t _ _).2]
  refine congrArg₂ (gBranch m c) (Fin.ext ?_) (Fin.ext ?_) <;> blk_simp [e6]

/-- The three sums, whole. -/
theorem all_gain : (dats m 0 c).arrAt 7 (cfgs 0).N = fun i : S1x1024.Idx => ∑ r : Fin 2048, (whole m c).gGain r (i 1) := by
  refine (dats m 0 c).arrAt_eq_of_after_last 7 t0_3 (by decide +kernel) _ fun j => ?_
  blk_simp
  rw [after0_7, summed tall 4 (le_of_eq N_0) (fun n h => (outsAt0 m c n h).2.2.1) (fun i r => (whole m c).gGain r (i 1))
    (fun t h i => (at_first m c t h i).1) (fun t h i => (at_step m c t h i).1) t0_3 rfl]

@[inherit_doc all_gain]
theorem all_loss : (dats m 0 c).arrAt 8 (cfgs 0).N = fun i : S1x1024.Idx => ∑ r : Fin 2048, (whole m c).loss r := by
  refine (dats m 0 c).arrAt_eq_of_after_last 8 t0_3 (by decide +kernel) _ fun j => ?_
  blk_simp
  rw [after0_8, summed tall 4 (le_of_eq N_0) (fun n h => (outsAt0 m c n h).2.2.2.1) (fun i r => (whole m c).loss r)
    (fun t h i => (at_first m c t h i).2.1) (fun t h i => (at_step m c t h i).2.1) t0_3 rfl]

@[inherit_doc all_gain]
theorem all_gate : (dats m 0 c).arrAt 9 (cfgs 0).N = fun i : S1x1024.Idx => ∑ r : Fin 2048, gGate m c r (i 1) := by
  refine (dats m 0 c).arrAt_eq_of_after_last 9 t0_3 (by decide +kernel) _ fun j => ?_
  blk_simp
  rw [after0_9, summed tall 4 (le_of_eq N_0) (fun n h => (outsAt0 m c n h).2.2.2.2) (fun i r => gGate m c r (i 1))
    (fun t h i => (at_first m c t h i).2.2) (fun t h i => (at_step m c t h i).2.2) t0_3 rfl]

/-- The gain's gradient and the loss as @main's last lines hand them out. -/
theorem out_gain (q : Fin 1024) : Pipeline.afterTail₀ cfgs (dats m) 0 (V0 m) [hostOps1] c main_v3 (ix1 q)
    = ∑ r : Fin 2048, (whole m c).gGain r q := by
  refine Eq.trans (b := (dats m 0 c).arrAt 7 (cfgs 0).N (ix2 0 q)) ?_ (congrFun (all_gain m c) _)
  show StableHlo.after hostOps1 _ main_v3 (ix1 q) = _
  entry_read
  pointwise
  exact congrFun (Pipeline.withArrays_arr spec0 winFacts0.arr_inj c (V0 m c) _ 7) _

@[inherit_doc out_gain]
theorem out_loss (i : S_.Idx) : Pipeline.afterTail₀ cfgs (dats m) 0 (V0 m) [hostOps1] c main_v5 i
    = ∑ r : Fin 2048, (whole m c).loss r := by
  refine Eq.trans (b := (dats m 0 c).arrAt 8 (cfgs 0).N (ix2 0 0)) ?_ (congrFun (all_loss m c) _)
  show StableHlo.after hostOps1 _ main_v5 i = _
  obtain rfl : i = ix0 := funext fun a => a.elim0
  entry_read
  pointwise
  exact congrFun (Pipeline.withArrays_arr spec0 winFacts0.arr_inj c (V0 m c) _ 8) _

end Cert.Kernel7Ideal.Value

end
-- ==== Proof.LossClaim.lean ====
/- The loss with the last norm and the branch below it computes the reference's loss and four gradients. -/
module

public import proofs.«01_k».proof.Defs
public import proofs.«01_k».proof.Proof.LossHead
public import proofs.«01_k».proof.Proof.RefNorm
public import proofs.«01_k».proof.Proof.Gen.Reference7Ideal
public import proofs.«01_k».proof.Proof.Gen.Reference7Ideal.Run

@[expose] public section

set_option maxRecDepth 16384

noncomputable section

open Idealize.ShloMosaic Idealize.ShloMosaic.TcCoe Idealize.SL.Sem

namespace Cert.Kernel7Ideal.Value

open Cert.Kernel7Ideal Cert.Kernel7Ideal.Gen Cert.RowNorm Cert.Loss
open Cert.Reference8Ideal.Norm (refInv refPull refSum down across across1 inv_at pull_at sum_at ref_branch ref_gate)
open Cert.Reference7Ideal.Gen (bcast_S1024_S1x1024_1 bcast_S2048_S2048x1024_0 bcast_S_S2048 bcast_S_S2048x1024
  reducesTo_S2048x1024_S2048_d1 reducesTo_S1x1024_S1024_d0)

section stages
variable (x y : FVec Ideal S2048x1024 .f32) (g : FVec Ideal S1024 .f32)

/-- A number in every row, and in every entry. -/
abbrev rows (b : BitVec 32) : FVec Ideal Cert.Reference7Ideal.S2048 .f32 :=
  broadcastInDim Cert.Reference7Ideal.S2048 ![] bcast_S_S2048 (constant (F := Ideal) S_ .f32 b)

/-- The reference's gain as a row. -/
abbrev gainRow : FVec Ideal S1x1024 .f32 := broadcastInDim S1x1024 ![1] bcast_S1024_S1x1024_1 g

/-- The reference's error, and its cotangent. -/
def refErr : FVec Ideal S2048x1024 .f32 := subf (mulf (mulf x (across1 (refInv x))) (down (gainRow g))) y
@[inherit_doc refErr]
def refCot : FVec Ideal S2048x1024 .f32 :=
  mulf (across (Host.divf (broadcastInDim Cert.Reference7Ideal.S2048 ![] bcast_S_S2048
      (mulf (constant (F := Ideal) S_ .f32 0x3F000000#32) (constant S_ .f32 0x3F800000#32))) (rows 0x44800000#32)))
    (mulf (broadcastInDim S2048x1024 ![] bcast_S_S2048x1024 (constant (F := Ideal) S_ .f32 0x40000000#32)) (refErr x y g))

/-- The reference's gradient of the input, over the cotangent `w` of the normed input. -/
def refBack (w : FVec Ideal S2048x1024 .f32) : FVec Ideal S2048x1024 .f32 :=
  addf (addf (mulf w (across1 (refInv x))) (mulf x (across (refPull x w)))) (mulf (across (refPull x w)) x)

/-- What the reference works on. -/
def holding : Head 2048 where
  X r q := x (ix2 r q)
  T r q := y (ix2 r q)
  g q := g (ix1 q)

theorem err_at (r : Fin 2048) (q : Fin 1024) : refErr x y g (ix2 r q) = (holding x y g).err r q := by
  pointwise [refErr, inv_at, Head.err, holding]

theorem cot_at (r : Fin 2048) (q : Fin 1024) : refCot x y g (ix2 r q) = (holding x y g).cot r q := by
  pointwise [refCot, err_at, Head.cot]

theorem back_at (w : FVec Ideal S2048x1024 .f32) (r : Fin 2048) (q : Fin 1024) :
    refBack x w (ix2 r q) = back (fun k => x (ix2 r k)) (fun k => w (ix2 r k)) q := by
  pointwise [refBack, inv_at, pull_at, back]

theorem gX_at (r : Fin 2048) (q : Fin 1024) :
    refBack x (mulf (refCot x y g) (down (gainRow g))) (ix2 r q) = (holding x y g).gX r q := by
  rw [back_at, Head.gX]
  refine congrArg (fun w => back _ w q) (funext fun k => ?_)
  pointwise [cot_at, holding]

theorem gGain_at (q : Fin 1024) :
    Host.reduceAdd (refSum (mulf (mulf x (across1 (refInv x))) (refCot x y g))) (constant (F := Ideal) S_ .f32 0x00000000#32)
      reducesTo_S1x1024_S1024_d0 Cert.Reference7Ideal.Gen.h_S_ (ix1 q) = ∑ r : Fin 2048, (holding x y g).gGain r q := by
  refine Eq.trans (b := refSum (mulf (mulf x (across1 (refInv x))) (refCot x y g)) (ix2 0 q)) ?_ ?_
  · pointwise
    rw [Fin.sum_univ_one]
  · rw [sum_at]
    pointwise [inv_at, cot_at, Head.gGain, holding]

theorem loss_ref (i : S_.Idx) :
    mulf (constant (F := Ideal) S_ .f32 0x3F000000#32) (Host.reduceAdd (Host.divf (Host.reduceAdd (mulf (refErr x y g) (refErr x y g))
      (constant S_ .f32 0x00000000#32) reducesTo_S2048x1024_S2048_d1 Cert.Reference7Ideal.Gen.h_S_) (rows 0x44800000#32))
      (constant S_ .f32 0x00000000#32) Cert.Reference7Ideal.Gen.reducesTo_S2048_S_d0 Cert.Reference7Ideal.Gen.h_S_) i
      = ∑ r : Fin 2048, (holding x y g).loss r := by
  refine Eq.trans (b := half * ∑ r : Fin 2048, Ideal.div (∑ k, (holding x y g).err r k * (holding x y g).err r k) kilo) ?_ (half_sum _ _)
  obtain rfl : i = ix0 := funext fun a => a.elim0
  pointwise [err_at]

end stages

variable (m : (ℓ : Loc nD τ sig) → Buf (Elt Ideal) ℓ) (c : Dev nD)
  (m' : (ℓ : Loc Cert.Reference7Ideal.nD Cert.Reference7Ideal.τ Cert.Reference7Ideal.sig) → Buf (Elt Ideal) ℓ)

/-- The loss's arrays among the reference's arguments. -/
abbrev theirs : Head 2048 :=
  holding (m' (c.tc.loc Cert.Reference7Ideal.main_arg0)) (m' (c.tc.loc Cert.Reference7Ideal.main_arg2))
    (m' (c.tc.loc Cert.Reference7Ideal.main_arg1))

/-- The two programs' arguments agree. -/
theorem same (h0 : m' (c.tc.loc Cert.Reference7Ideal.main_arg0) = m (c.tc.loc main_arg0))
    (h1 : m' (c.tc.loc Cert.Reference7Ideal.main_arg1) = m (c.tc.loc main_arg1))
    (h2 : m' (c.tc.loc Cert.Reference7Ideal.main_arg2) = m (c.tc.loc main_arg2)) : theirs c m' = whole m c := by
  rw [theirs, h0, h1, h2]
  rfl

/-- The reference's gradient of the input at an entry. -/
theorem ref_x (r : Fin 2048) (q : Fin 1024) : Cert.Reference7Ideal.Value.res_main_v50 m' c (ix2 r q) = (theirs c m').gX r q :=
  gX_at _ _ _ r q

set_option maxHeartbeats 4000000 in
theorem algebraic : Cert.algebraic_Kernel7Ideal_Reference7Ideal := by
  pair_intro
  · run_from Cert.Kernel7Ideal.Gen.run_main m g & Cert.Kernel7Ideal.Gen.unchanged m g
  · refine Idealize.ShloMosaic.θ_run_mono (Cert.Reference7Ideal.Value.run m' g') fun r hr c => ?_
    obtain ⟨h0, h1, h2, h3, h4⟩ := hagree c
    have hs := same m c m' h0 h1 h2
    obtain ⟨r0, r1, r2, r3, r4, ha⟩ := hr c
    refine ⟨r0.trans ?_, r1.trans ?_, r2.trans ?_, r3.trans ?_, r4.trans ?_, ha⟩
    · rw [all_x]
      funext i
      idx_vars i
      exact (ref_x c m' i0 i1).trans (congrArg (Head.gX · i0 i1) hs)
    · rw [all_branch]
      funext i
      idx_vars i
      refine (ref_branch (Cert.Reference7Ideal.Value.res_main_v50 m' c) _ _ i0 i1).trans ?_
      rw [ref_x, hs, h4]
      rfl
    · funext i
      idx_vars i
      rw [out_gain]
      exact (gGain_at _ _ _ i0).trans (congrArg (fun n => ∑ r : Fin 2048, Head.gGain n r i0) hs)
    · funext i
      rw [out_loss]
      exact (loss_ref _ _ _ i).trans (congrArg (fun n => ∑ r : Fin 2048, Head.loss n r) hs)
    · rw [all_gate]
      funext i
      idx_vars i
      obtain rfl := Fin.fin_one_eq_zero i0
      refine (ref_gate (Cert.Reference7Ideal.Value.res_main_v50 m' c) _ i1).trans (Finset.sum_congr rfl fun r _ => ?_)
      rw [ref_x, hs, h3]
      rfl

end Cert.Kernel7Ideal.Value

end
-- ==== Proof.Norm1Claim.lean ====
/- The first feed-forward's norm, backward, computes the reference's four gradients. -/
module

public import proofs.«01_k».proof.Defs
public import proofs.«01_k».proof.Proof.Norm1
public import proofs.«01_k».proof.Proof.RefNorm
public import proofs.«01_k».proof.Proof.Gen.Reference8Ideal
public import proofs.«01_k».proof.Proof.Gen.Reference8Ideal.Run

@[expose] public section

set_option maxRecDepth 16384

noncomputable section

open Idealize.ShloMosaic Idealize.ShloMosaic.TcCoe Idealize.SL.Sem

namespace Cert.Kernel8Ideal.Value

open Cert.Kernel8Ideal Cert.Kernel8Ideal.Gen Cert.RowNorm

open Cert.Reference8Ideal.Norm (refX refScaled refInv refSum down across1 holding gX_at gGain_at gScale_at sum_at)

/-- The two programs' arguments agree. -/
theorem same (m : (ℓ : Loc nD τ sig) → Buf (Elt Ideal) ℓ) (c : Dev nD)
    (m' : (ℓ : Loc Cert.Reference8Ideal.nD Cert.Reference8Ideal.τ Cert.Reference8Ideal.sig) → Buf (Elt Ideal) ℓ)
    (h0 : m' (c.tc.loc Cert.Reference8Ideal.main_arg0) = m (c.tc.loc main_arg0))
    (h1 : m' (c.tc.loc Cert.Reference8Ideal.main_arg1) = m (c.tc.loc main_arg1))
    (h2 : m' (c.tc.loc Cert.Reference8Ideal.main_arg2) = m (c.tc.loc main_arg2))
    (h4 : m' (c.tc.loc Cert.Reference8Ideal.main_arg4) = m (c.tc.loc main_arg4))
    (h5 : m' (c.tc.loc Cert.Reference8Ideal.main_arg5) = m (c.tc.loc main_arg5)) :
    holding (m' (c.tc.loc Cert.Reference8Ideal.main_arg0)) (m' (c.tc.loc Cert.Reference8Ideal.main_arg4))
      (m' (c.tc.loc Cert.Reference8Ideal.main_arg5)) (m' (c.tc.loc Cert.Reference8Ideal.main_arg1))
      (m' (c.tc.loc Cert.Reference8Ideal.main_arg2)) = whole m c := by
  rw [h0, h1, h2, h4, h5]
  rfl

set_option maxHeartbeats 400000 in
theorem algebraic : Cert.algebraic_Kernel8Ideal_Reference8Ideal := by
  pair_intro
  · run_from Cert.Kernel8Ideal.Gen.run_main m g & Cert.Kernel8Ideal.Gen.unchanged m g
  · refine Idealize.ShloMosaic.θ_run_mono (Cert.Reference8Ideal.Value.run m' g') fun r hr c => ?_
    have hs := same m c m' (hagree c).1 (hagree c).2.1 (hagree c).2.2.1 (hagree c).2.2.2.2.1 (hagree c).2.2.2.2.2
    obtain ⟨r0, r1, r2, r3, ha⟩ := hr c
    refine ⟨r0.trans ?_, r1.trans ?_, r2.trans ?_, r3.trans ?_, ha⟩
    · rw [all_x]
      funext i
      idx_vars i
      exact (gX_at _ _ _ _ _ i0 i1).trans (congrArg (Norm.gX · i0 i1) hs)
    · rw [all_gain]
      funext i
      idx_vars i
      obtain rfl := Fin.fin_one_eq_zero i0
      exact (gGain_at _ _ _ _ _ i1).trans (congrArg (fun n => ∑ r : Fin 2048, Norm.gGain n r i1) hs)
    · rw [all_scale]
      funext i
      idx_vars i
      obtain rfl := Fin.fin_one_eq_zero i0
      exact (gScale_at _ _ _ _ _ i1).trans (congrArg (fun n => ∑ r : Fin 2048, Norm.gScale n r i1) hs)
    · rw [all_shift]
      funext i
      idx_vars i
      obtain rfl := Fin.fin_one_eq_zero i0
      exact (sum_at _ i1).trans (congrArg (fun n => ∑ r : Fin 2048, Norm.D n r i1) hs)

end Cert.Kernel8Ideal.Value

end
-- ==== Proof.SguFwd.lean ====
/- The spatial gating unit, forward: what one point of the kernel computes of its blocks, what the blocks hold, and the
   result array's entries. -/
module

public import proofs.«01_k».proof.Proof.Gen.Kernel10Ideal.Frame
public import proofs.«01_k».proof.Proof.SguMix
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Norm Cert.Sgu
open Cert.Kernel2Ideal.Pay (causal ladder)

section payloads

variable (a : Vec Ideal S128x1024 .bf16) (b p q : Vec Ideal S1x1024 .f32) (t : Fin 128) (j : Fin 1024)

/-- An activation with its bias. -/
def biased : EReal := a (ix2 t j) + b (ix2 0 j)

/-- The gate, and the pieces of the value before the norm. -/
theorem gate_at : k0_pay2 (F := Ideal) a b (ix2 t j) = gelu (biased a b t j) := by
  pointwise [k0_pay2, gelu, half, th, biased]
  rw [mul_comm (a (ix2 t j) + b (ix2 0 j)) ((a (ix2 t j) + b (ix2 0 j)) * (a (ix2 t j) + b (ix2 0 j)))]
@[inherit_doc gate_at] theorem biased_at : k0_pay3 (F := Ideal) a b (ix2 t j) = biased a b t j := by
  pointwise [k0_pay3, biased]
@[inherit_doc gate_at] theorem half_at : k0_pay4 (F := Ideal) a b (ix2 t j) = half (biased a b t j) := by
  pointwise [k0_pay4, biased_at, half, th]
  rw [mul_comm (biased a b t j) (biased a b t j * biased a b t j)]

/-- The value, normed. -/
theorem value_at (x y : FVec Ideal S128x1024 .f32) : k0_pay5 (F := Ideal) p q x y (ix2 t j)
    = layerNorm (fun k => x (ix2 t k) * y (ix2 t k)) (fun k => p (ix2 0 k)) (fun k => q (ix2 0 k)) j := by
  pointwise [k0_pay5, layerNorm, normed, rinv, spread, centred, mean]

end payloads

variable (m : (ℓ : Loc nD τ sig) → Buf (Elt Ideal) ℓ) (c : Dev nD)

/-- The layer's input and the weights: `w_in`, `b_in`, the norm's gain and bias, the mixing matrix and bias. -/
abbrev input : Vec Ideal S2048x1024 .f32 := m ((c : Thread nD τ).loc main_arg0)
@[inherit_doc input] abbrev wIn : Vec Ideal S1024x6144 .f32 := m ((c : Thread nD τ).loc main_arg1)
@[inherit_doc input] abbrev bIn : Vec Ideal S1x6144 .f32 := m ((c : Thread nD τ).loc main_arg2)
@[inherit_doc input] abbrev gain : Vec Ideal S1x1024 .f32 := m ((c : Thread nD τ).loc main_arg3)
@[inherit_doc input] abbrev shift : Vec Ideal S1x1024 .f32 := m ((c : Thread nD τ).loc main_arg4)
@[inherit_doc input] abbrev wMix : Vec Ideal S1x8x128x128 .f32 := m ((c : Thread nD τ).loc main_arg5)
@[inherit_doc input] abbrev bMix : Vec Ideal S1x8x128 .f32 := m ((c : Thread nD τ).loc main_arg6)

/-- Row `t` of a chunk. -/
abbrev rowOf (n : Fin 16) (t : Fin 128) : Fin 2048 := ⟨n.val * 128 + t.val, by omega⟩

/-- Chunk `n` of given arrays, without a cotangent. -/
def chunkOf (h : Vec Ideal S2048x1024 .f32) (w : Vec Ideal S1024x6144 .f32) (b : Vec Ideal S1x6144 .f32) (g s : Vec Ideal S1x1024 .f32)
    (W : Vec Ideal S1x8x128x128 .f32) (B : Vec Ideal S1x8x128 .f32) (n : Fin 16) : Chunk where
  U t j := (∑ k : Fin 1024, h (ix2 (rowOf n t) k) * w (ix2 k ⟨j.val, by omega⟩)) + b (ix2 0 ⟨j.val, by omega⟩)
  V t j := (∑ k : Fin 1024, h (ix2 (rowOf n t) k) * w (ix2 k ⟨1024 + j.val, by omega⟩)) + b (ix2 0 ⟨1024 + j.val, by omega⟩)
  g k := g (ix2 0 k)
  b k := s (ix2 0 k)
  W h t s := W (ix4 0 h t s)
  B t j := B (ix3 0 (head j) t)
  D _ _ := 0

/-- Chunk `n` of @main's arguments. -/
abbrev chunk (n : Fin 16) : Chunk := chunkOf (input m c) (wIn m c) (bIn m c) (gain m c) (shift m c) (wMix m c) (bMix m c) n

/-- Every window's block index in the point's number. -/
theorem idx : ∀ t : Fin cfg0.N, win0_0.index t = ![t.val, 0] ∧ win0_1.index t = ![t.val, 1] ∧ win0_2.index t = ![0, 0]
    ∧ win0_3.index t = ![0, 1] ∧ win0_4.index t = ![0, 0] ∧ win0_5.index t = ![0, 0] ∧ win0_6.index t = ![0, 0, 0]
    ∧ win0_7.index t = ![0, 0] ∧ win0_8.index t = ![t.val, 0] :=
  (by decide +kernel : ∀ t : Fin grid0.N, _)

/-- The operands the host makes. -/
theorem made_proj (r : Fin 2048) (q : Fin 6144) : V m c main_v1 (ix2 r q) = ∑ k : Fin 1024, input m c (ix2 r k) * wIn m c (ix2 k q) := by
  entry_read
  pointwise
@[inherit_doc made_proj] theorem made_mix (h : Fin 8) (t s : Fin 128) : V m c main_v6 (ix3 h t s) = wMix m c (ix4 0 h t s) := by
  entry_read
  pointwise
@[inherit_doc made_proj] theorem made_bias (t : Fin 128) (j : Fin 1024) : V m c main_v5 (ix2 t j) = bMix m c (ix3 0 (head j) t) := by
  entry_read
  pointwise [head]

section point

variable (i : Fin cfg0.N) (t s : Fin 128) (j : Fin 1024)

/-- The chunk a point works on. -/
abbrev num : Fin 16 := ⟨i.val, lt_of_lt_of_eq i.isLt N_0⟩

theorem read_u : biased (iblk m c 0 i) (iblk m c 2 i) t j = (chunk m c (num i)).U t j := by
  have e : iblk m c 0 i (ix2 t j) = V m c main_v1 (ix2 (rowOf (num i) t) ⟨j.val, by omega⟩) := by
    unfold iblk
    blk_ext [idx i]
  have e' : iblk m c 2 i (ix2 0 j) = bIn m c (ix2 0 ⟨j.val, by omega⟩) := by
    blk_point [iblk, V, idx i]
  rw [biased, e, e', made_proj]
  rfl

theorem read_v : biased (iblk m c 1 i) (iblk m c 3 i) t j = (chunk m c (num i)).V t j := by
  have e : iblk m c 1 i (ix2 t j) = V m c main_v1 (ix2 (rowOf (num i) t) ⟨1024 + j.val, by omega⟩) := by
    unfold iblk
    blk_ext [idx i]
  have e' : iblk m c 3 i (ix2 0 j) = bIn m c (ix2 0 ⟨1024 + j.val, by omega⟩) := by
    blk_point [iblk, V, idx i]
  rw [biased, e, e', made_proj]
  rfl

theorem read_gain : iblk m c 4 i (ix2 0 j) = gain m c (ix2 0 j) := by
  blk_point [iblk, V, idx i]

theorem read_shift : iblk m c 5 i (ix2 0 j) = shift m c (ix2 0 j) := by
  blk_point [iblk, V, idx i]

theorem read_mix (h : Fin 8) : iblk m c 6 i (ix3 h t s) = wMix m c (ix4 0 h t s) := by
  refine Eq.trans ?_ (made_mix m c h t s)
  unfold iblk
  blk_ext [idx i]

theorem read_bias : iblk m c 7 i (ix2 t j) = bMix m c (ix3 0 (head j) t) := by
  refine Eq.trans ?_ (made_bias m c t j)
  unfold iblk
  blk_ext [idx i]

/-- The normed value of the point's blocks. -/
abbrev normedBlock : FVec Ideal S128x1024 .bf16 :=
  k0_pay5 (F := Ideal) (iblk m c 4 i) (iblk m c 5 i) (k0_pay3 (F := Ideal) (iblk m c 1 i) (iblk m c 3 i)) (k0_pay4 (F := Ideal) (iblk m c 1 i) (iblk m c 3 i))

theorem normed_at : normedBlock m c i (ix2 t j) = v (chunk m c (num i)) t j := by
  refine (value_at _ _ t j _ _).trans ?_
  rw [v]
  congr 1
  · funext k
    rw [biased_at, half_at, read_v]
    rfl
  · funext k
    exact read_gain m c i k
  · funext k
    exact read_shift m c i k

/-- A whole block or row, loaded. -/
theorem load_block {φ : EltTy} (x : Vec Ideal S128x1024 φ) : View.ld x r0_0 = x := by
  funext y
  idx_vars y
  pointwise
@[inherit_doc load_block] theorem load_row (x : Vec Ideal S1x1024 .f32) : View.ld x r0_1 = x := by
  funext y
  idx_vars y
  obtain rfl := Fin.fin_one_eq_zero y0
  pointwise

/-- The block a point leaves. -/
theorem left : (dats m 0 c).after 8 i (ix2 t j) = u (chunk m c (num i)) t j * mix (chunk m c (num i)) t j := by
  rw [after0_8]
  frame_out
  pointwise [k0_pay1, k0_pay6, k0_pay7, k0_pay8, k0_pay9, k0_pay10, k0_pay11, k0_pay12, k0_pay13, k0_pay14, gate_at, read_u, read_bias, read_mix, causal]
  simp only [load_block, load_row]
  refine congrArg₂ (· * ·) rfl (congrArg₂ (· + ·) ((ladder (fun h j => ∑ s : Fin 128, (if s.val ≤ t.val then wMix m c (ix4 0 h t s) else 0)
    * normedBlock m c i (ix2 s j)) j).trans (Finset.sum_congr rfl fun s _ => ?_)) rfl)
  rw [normed_at]
  rfl

end point

/-- The unit's result at a row and a column of all chunks. -/
def gated (C : Fin 16 → Chunk) (r : Fin 2048) (j : Fin 1024) : EReal :=
  u (C ⟨r.val / 128, by omega⟩) ⟨r.val % 128, by omega⟩ j * mix (C ⟨r.val / 128, by omega⟩) ⟨r.val % 128, by omega⟩ j

theorem gated_at (C : Fin 16 → Chunk) (n : Fin 16) (t : Fin 128) (j : Fin 1024) : gated C (rowOf n t) j = u (C n) t j * mix (C n) t j := by
  have e : (⟨(rowOf n t).val / 128, by omega⟩ : Fin 16) = n := Fin.ext (by show (n.val * 128 + t.val) / 128 = n.val; omega)
  have e' : (⟨(rowOf n t).val % 128, by omega⟩ : Fin 128) = t := Fin.ext (by show (n.val * 128 + t.val) % 128 = t.val; omega)
  rw [gated, e, e']

/-- The result array. -/
theorem all : (dats m 0 c).arrAt 8 (cfgs 0).N = fun i : S2048x1024.Idx => gated (chunk m c) (i 0) (i 1) := by
  refine (dats m 0 c).arrAt_eq_of_covers 8 _ (by decide +kernel) fun t hf y => ?_
  obtain ⟨e0, e1, e2, e3, e4, e5, e6, e7, e8⟩ := idx t
  idx_vars y
  blk_simp
  rw [left, ← gated_at]
  refine congrArg₂ (gated (chunk m c)) (Fin.ext ?_) (Fin.ext ?_) <;> blk_simp [e8]

end Cert.Kernel10Ideal.Value

end
-- ==== Proof.SguFwdClaim.lean ====
/- The spatial gating unit, forward: what the reference computes, in stages over arbitrary arrays, and the equation of the
   two programs. -/
module

public import proofs.«01_k».proof.Defs
public import proofs.«01_k».proof.Proof.SguFwd
public import proofs.«01_k».proof.Proof.SguRef
public import proofs.«01_k».proof.Proof.Gen.Reference10Ideal
public import proofs.«01_k».proof.Proof.Gen.Reference10Ideal.Run

@[expose] public section

set_option maxRecDepth 16384

noncomputable section

open Idealize.ShloMosaic Idealize.ShloMosaic.TcCoe Idealize.SL.Sem

namespace Cert.Kernel10Ideal.Value

open Cert.Norm Cert.Sgu
open Cert.Reference2Ideal.Value (chunk_of row_of col_of swap)

section stages

open Cert.Reference10Ideal Cert.Reference10Ideal.Gen

variable (h : FVec Ideal S2048x1024 .f32) (w : FVec Ideal S1024x6144 .f32) (b : FVec Ideal S1x6144 .f32) (g s : FVec Ideal S1x1024 .f32)
  (W : FVec Ideal S1x8x128x128 .f32) (B : FVec Ideal S1x8x128 .f32)

/-- The projection's first two parts with their biases. -/
def refProj : FVec Ideal S2048x2048 .f32 :=
  addf (Host.dotGeneral dot_S2048x1024_S1024x2048_S2048x2048_1_0_0_1_n_n none h (extractStridedSlice S1024x2048 ![0, 0] w slices_S1024x6144_S1024x2048_0_0))
    (broadcastInDim S2048x2048 ![0, 1] bcast_S1x2048_S2048x2048_0_1 (extractStridedSlice S1x2048 ![0, 0] b slices_S1x6144_S1x2048_0_0))

/-- The rectifier. -/
def refGelu (x : FVec Ideal S2048x1024 .f32) : FVec Ideal S2048x1024 .f32 :=
  mulf x (mulf (broadcastInDim S2048x1024 ![] bcast_S_S2048x1024 (constant S_ .f32 0x3F000000#32))
    (addf (broadcastInDim S2048x1024 ![] bcast_S_S2048x1024 (constant S_ .f32 0x3F800000#32))
      (Host.tanh (mulf (broadcastInDim S2048x1024 ![] bcast_S_S2048x1024 (constant S_ .f32 0x3F4C422A#32))
        (addf x (mulf (broadcastInDim S2048x1024 ![] bcast_S_S2048x1024 (constant S_ .f32 0x3D372713#32)) (mulf (mulf x x) x)))))))

/-- A row's average, in every column. -/
def refMean (x : FVec Ideal S2048x1024 .f32) : FVec Ideal S2048x1 .f32 :=
  Host.divf (broadcastInDim S2048x1 ![0] bcast_S2048_S2048x1_0 (Host.reduceAdd x (constant S_ .f32 0x00000000#32) reducesTo_S2048x1024_S2048_d1 h_S_))
    (broadcastInDim S2048x1 ![] bcast_S_S2048x1 (constant S_ .f32 0x44800000#32))
/-- A row less its average. -/
def refCentred (x : FVec Ideal S2048x1024 .f32) : FVec Ideal S2048x1024 .f32 :=
  subf x (broadcastInDim S2048x1024 ![0, 1] bcast_S2048x1_S2048x1024_0_1 (refMean x))

/-- The norm. -/
def refNorm (x : FVec Ideal S2048x1024 .f32) : FVec Ideal S2048x1024 .f32 :=
  addf (mulf (mulf (refCentred x) (broadcastInDim S2048x1024 ![0, 1] bcast_S2048x1_S2048x1024_0_1
      (Host.rsqrt (addf (refMean (mulf (refCentred x) (refCentred x))) (broadcastInDim S2048x1 ![] bcast_S_S2048x1 (constant S_ .f32 0x358637BD#32))))))
    (broadcastInDim S2048x1024 ![0, 1] bcast_S1x1024_S2048x1024_0_1 g)) (broadcastInDim S2048x1024 ![0, 1] bcast_S1x1024_S2048x1024_0_1 s)

/-- The causal mixing matrix. -/
def refMask : FVec Ideal S8x128x128 .f32 :=
  select (broadcastInDim S8x128x128 ![0, 1, 2] bcast_S1x128x128_S8x128x128_0_1_2 (broadcastInDim S1x128x128 ![1, 2] bcast_S128x128_S1x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1)))))
    (shapeCast S8x128x128 W shapeCasts_S1x8x128x128_S8x128x128) (broadcastInDim S8x128x128 ![] bcast_S_S8x128x128 (constant S_ .f32 0x00000000#32))

/-- The mixed value, of the value `y`. -/
def refMix (y : FVec Ideal S2048x1024 .f32) : FVec Ideal S2048x1024 .f32 :=
  shapeCast S2048x1024 (addf (transpose S16x128x8x128 [1, 3, 0, 2]
      (Host.dotGeneral dot_S16x128x8x128_S8x128x128_S8x16x128x128_1_2_03_1_2_0 none (shapeCast S16x128x8x128 y shapeCasts_S2048x1024_S16x128x8x128) (refMask W))
      transposes_S8x16x128x128_S16x128x8x128_1_3_0_2)
    (broadcastInDim S16x128x8x128 ![0, 1, 2, 3] bcast_S1x128x8x1_S16x128x8x128_0_1_2_3 (broadcastInDim S1x128x8x1 ![1, 2] bcast_S128x8_S1x128x8x1_1_2
      (transpose S128x8 [1, 0] (shapeCast S8x128 B shapeCasts_S1x8x128_S8x128) transposes_S8x128_S128x8_1_0)))) shapeCasts_S16x128x8x128_S2048x1024

/-- The gate's and the value's activation. -/
def refU : FVec Ideal S2048x1024 .f32 := extractStridedSlice S2048x1024 ![0, 0] (refProj h w b) slices_S2048x2048_S2048x1024_0_0
@[inherit_doc refU] def refV : FVec Ideal S2048x1024 .f32 := extractStridedSlice S2048x1024 ![0, 1024] (refProj h w b) slices_S2048x2048_S2048x1024_0_1024

/-- The reference's result. -/
def refOut (lt : FTy.bits .bf16 < FTy.bits .f32) : FVec Ideal S2048x1024 .bf16 :=
  truncf .bf16 (mulf (refGelu (refU h w b)) (refMix W B (refNorm g s (refGelu (refV h w b))))) lt

variable (n : Fin 16) (t k : Fin 128) (j : Fin 1024) (hd : Fin 8) (r : Fin 2048) (x : FVec Ideal S2048x1024 .f32)

theorem u_at : refU h w b (ix2 (rowOf n t) j) = (chunkOf h w b g s W B n).U t j := by
  pointwise [refU, refProj, chunkOf]
@[inherit_doc u_at] theorem v_at : refV h w b (ix2 (rowOf n t) j) = (chunkOf h w b g s W B n).V t j := by
  pointwise [refV, refProj, chunkOf]

theorem gelu_at : refGelu x (ix2 r j) = gelu (x (ix2 r j)) := by
  pointwise [refGelu, gelu, half, th]
theorem mean_at : refMean x (ix2 r 0) = mean (fun k => x (ix2 r k)) := by
  pointwise [refMean, mean]
theorem centred_at : refCentred x (ix2 r j) = centred (fun k => x (ix2 r k)) j := by
  pointwise [refCentred, mean_at, centred]
theorem norm_at : refNorm g s x (ix2 r j) = layerNorm (fun k => x (ix2 r k)) (fun k => g (ix2 0 k)) (fun k => s (ix2 0 k)) j := by
  pointwise [refNorm, centred_at, mean_at, layerNorm, normed, rinv, spread]
  rfl

/-- The comparison that keeps the causal half. -/
theorem keeps (a : EReal) : Scalar.select (Scalar.select (IntOp.cmpi .sge (IntOp.addi (BitVec.ofNat 32 t.val) 0#32) (BitVec.ofNat 32 k.val)) 1#1 0#1) a 0
    = if k.val ≤ t.val then a else 0 := by
  rw [show IntOp.addi (BitVec.ofNat 32 t.val) 0#32 = BitVec.ofNat 32 t.val from BitVec.add_zero _]
  word_cmp
  split <;> rfl
theorem mask_at : refMask W (ix3 hd t k) = mask (chunkOf h w b g s W B n) hd t k := by
  pointwise [refMask, mask, chunkOf]
  exact keeps t k _

theorem mix_at (y : FVec Ideal S2048x1024 .f32) (hy : ∀ k j, y (ix2 (rowOf n k) j) = v (chunkOf h w b g s W B n) k j) :
    refMix W B y (ix2 (rowOf n t) j) = mix (chunkOf h w b g s W B n) t j := by
  pointwise [refMix, mask_at h w b g s W B n, mix]
  simp only [chunk_of, row_of, col_of]
  refine congrArg₂ (· + ·) ((Finset.sum_congr rfl fun x _ => ?_).trans (swap _ _)) rfl
  exact congrArg (· * _) ((congrArg (fun r => y (ix2 r j)) (Fin.ext (by
    show (n.val * 128 + t.val) / 128 * 128 + x.val = n.val * 128 + x.val
    omega))).trans (hy x j))

theorem out_at (lt : FTy.bits .bf16 < FTy.bits .f32) :
    refOut h w b g s W B lt (ix2 (rowOf n t) j) = u (chunkOf h w b g s W B n) t j * mix (chunkOf h w b g s W B n) t j := by
  pointwise [refOut, gelu_at, u_at h w b g s W B n]
  rw [mix_at h w b g s W B n t j _ fun k j => ?_]
  · rfl
  · rw [norm_at]
    simp only [gelu_at, v_at h w b g s W B n]
    rfl

end stages

open Cert.Kernel10Ideal Cert.Kernel10Ideal.Gen

set_option maxHeartbeats 4000000 in
theorem algebraic : Cert.algebraic_Kernel10Ideal_Reference10Ideal := by
  pair_intro
  · run_from Cert.Kernel10Ideal.Gen.run_main m g & Cert.Kernel10Ideal.Gen.unchanged m g
  · refine Idealize.ShloMosaic.θ_run_mono (Cert.Reference10Ideal.Value.run m' g') fun r hr c => ?_
    obtain ⟨h0, h1, h2, h3, h4, h5, h6⟩ := hagree c
    obtain ⟨r0, ha⟩ := hr c
    refine ⟨r0.trans ?_, ha⟩
    rw [all]
    unfold Cert.Reference10Ideal.Value.res_main_v72
    rw [h0, h1, h2, h3, h4, h5, h6]
    funext i
    idx_vars i
    have er : i0 = rowOf ⟨i0.val / 128, by omega⟩ ⟨i0.val % 128, by omega⟩ := Fin.ext (by show i0.val = i0.val / 128 * 128 + i0.val % 128; omega)
    rw [er]
    exact (out_at (input m c) (wIn m c) (bIn m c) (gain m c) (shift m c) (wMix m c) (bMix m c) _ _ i1 _).trans (gated_at (chunk m c) _ _ i1).symm

end Cert.Kernel10Ideal.Value

end
-- ==== Proof.Ada.lean ====
/- The modulation's weight update: its gradient as a sum of outer products, the optimiser's three values of one entry,
   and what the four result arrays hold. -/
module

public import proofs.«01_k».proof.Proof.Gen.Kernel9Ideal.Frame
public import proofs.«01_k».proof.Proof.Scalars
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Adam

/-- The first moment of one entry after the step. -/
def mean (m g : EReal) : EReal := Ideal.ofBits .f32 0x3F666666#32 * m + Ideal.ofBits .f32 0x3DCCCCCD#32 * g
/-- The second moment. -/
def square (v g : EReal) : EReal := Ideal.ofBits .f32 0x3F7FBE77#32 * v + Ideal.ofBits .f32 0x3A83126F#32 * (g * g)
/-- The change of the weight. -/
def delta (w m v g : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

end Cert.Adam

namespace Cert.Kernel9Ideal.Value

open Cert.Kernel9Ideal Cert.Kernel9Ideal.Gen Cert.Adam Cert.Tiles

section payloads
variable (x : Vec Ideal S256x8 .f32) (d e : Vec Ideal S8x1152 .f32) (w m v : Vec Ideal S256x1152 .f32) (r : Fin 256) (q : Fin 1152)

/-- The gradient of a point's blocks. -/
def blockGrad : EReal := ∑ k : Fin 8, x (ix2 r k) * Ideal.logistic (x (ix2 r k)) * (d (ix2 k q) + e (ix2 k q))

theorem pay_grad : k0_pay5 (F := Ideal) (k0_pay3 x d e) (k0_pay4 x d e) (ix2 r q) = blockGrad x d e r q := by
  pointwise [k0_pay5, k0_pay3, k0_pay4, k0_pay1, k0_pay2, blockGrad, Fin.sum_univ_eight]

theorem pay_mean : k0_pay6 (F := Ideal) (k0_pay3 x d e) (k0_pay4 x d e) m (ix2 r q) = mean (m (ix2 r q)) (blockGrad x d e r q) := by
  pointwise [k0_pay6, pay_grad, mean]

theorem pay_square : k0_pay7 (F := Ideal) (k0_pay3 x d e) (k0_pay4 x d e) v (ix2 r q) = square (v (ix2 r q)) (blockGrad x d e r q) := by
  pointwise [k0_pay7, pay_grad, square]

theorem pay_delta : k0_pay8 (F := Ideal) (k0_pay3 x d e) (k0_pay4 x d e) w m v (ix2 r q)
    = delta (w (ix2 r q)) (m (ix2 r q)) (v (ix2 r q)) (blockGrad x d e r q) := by
  pointwise [k0_pay8, pay_mean, pay_square, delta]

end payloads

/-- The gradient of given arrays. -/
def gradOf (C : Vec Ideal S8x1024 .f32) (d e : Vec Ideal S8x1152 .f32) (r : Fin 1024) (q : Fin 1152) : EReal :=
  ∑ k : Fin 8, C (ix2 k r) * Ideal.logistic (C (ix2 k r)) * (d (ix2 k q) + e (ix2 k q))

variable (m : (ℓ : Loc nD τ sig) → Buf (Elt Ideal) ℓ) (c : Dev nD)

/-- The gradient of @main's arguments, and the weight and its moments. -/
def grad (r : Fin 1024) (q : Fin 1152) : EReal :=
  gradOf (m (c.tc.loc main_arg0)) (m (c.tc.loc main_arg1)) (m (c.tc.loc main_arg2)) r q
@[inherit_doc grad] def weight (r : Fin 1024) (q : Fin 1152) : EReal := (m (c.tc.loc main_arg3) : Vec Ideal S1x1024x1152 .f32) (ix3 0 r q)
@[inherit_doc grad] def first (r : Fin 1024) (q : Fin 1152) : EReal := (m (c.tc.loc main_arg4) : Vec Ideal S1x1024x1152 .f32) (ix3 0 r q)
@[inherit_doc grad] def second (r : Fin 1024) (q : Fin 1152) : EReal := (m (c.tc.loc main_arg5) : Vec Ideal S1x1024x1152 .f32) (ix3 0 r q)

/-- Every window's block index in the point's number. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The operands the host makes. -/
theorem made_c (r : Fin 1024) (k : Fin 8) : V m c main_v0 (ix2 r k) = (m (c.tc.loc main_arg0) : Vec Ideal S8x1024 .f32) (ix2 k r) := by
  entry_read
  pointwise
@[inherit_doc made_c] theorem made_w (r : Fin 1024) (q : Fin 1152) : V m c main_v1 (ix2 r q) = weight m c r q := by
  entry_read
  pointwise [weight]
@[inherit_doc made_c] theorem made_m (r : Fin 1024) (q : Fin 1152) : V m c main_v2 (ix2 r q) = first m c r q := by
  entry_read
  pointwise [first]
@[inherit_doc made_c] theorem made_v (r : Fin 1024) (q : Fin 1152) : V m c main_v3 (ix2 r q) = second m c r q := by
  entry_read
  pointwise [second]

theorem tall : cfg0.N * 256 = 1024 := congrArg (· * 256) N_0

variable (t : Fin cfg0.N) (r : Fin 256) (q : Fin 1152)

theorem lt4 : t.val < 4 := lt_of_lt_of_eq t.isLt N_0

theorem read_c (k : Fin 8) : iblk m c 0 t (ix2 r k) = (m (c.tc.loc main_arg0) : Vec Ideal S8x1024 .f32) (ix2 k (row tall t r)) := by
  refine Eq.trans ?_ (made_c m c (row tall t r) k)
  unfold iblk
  blk_ext [idx t]

theorem read_d (k : Fin 8) : iblk m c 1 t (ix2 k q) = (m (c.tc.loc main_arg1) : Vec Ideal S8x1152 .f32) (ix2 k q)
    ∧ iblk m c 2 t (ix2 k q) = (m (c.tc.loc main_arg2) : Vec Ideal S8x1152 .f32) (ix2 k q) := by
  constructor <;> blk_point [iblk, V, idx t]

theorem read_w : iblk m c 3 t (ix2 r q) = weight m c (row tall t r) q := by
  refine Eq.trans ?_ (made_w m c (row tall t r) q)
  unfold iblk
  blk_ext [idx t]

theorem read_m : iblk m c 4 t (ix2 r q) = first m c (row tall t r) q := by
  refine Eq.trans ?_ (made_m m c (row tall t r) q)
  unfold iblk
  blk_ext [idx t]

theorem read_v : iblk m c 5 t (ix2 r q) = second m c (row tall t r) q := by
  refine Eq.trans ?_ (made_v m c (row tall t r) q)
  unfold iblk
  blk_ext [idx t]

/-- A point's gradient is its rows of the whole. -/
theorem block_grad : blockGrad (iblk m c 0 t) (iblk m c 1 t) (iblk m c 2 t) r q = grad m c (row tall t r) q := by
  unfold blockGrad grad gradOf
  congr 1
  funext k
  rw [read_c, (read_d m c t q k).1, (read_d m c t q k).2]

/-- A whole block, loaded. -/
theorem load_c (x : Vec Ideal S256x8 .f32) : View.ld x r0_0 = x := by
  funext y
  idx_vars y
  pointwise
@[inherit_doc load_c] theorem load_d (x : Vec Ideal S8x1152 .f32) : View.ld x r0_1 = x := by
  funext y
  idx_vars y
  pointwise
@[inherit_doc load_c] theorem load_w (x : Vec Ideal S256x1152 .f32) : View.ld x r0_2 = x := by
  funext y
  idx_vars y
  pointwise

/-- What a point leaves. -/
theorem left_grad : (dats m 0 c).after 6 t (ix2 r q) = grad m c (row tall t r) q := by
  rw [after0_6]
  frame_out
  simp only [k0_pay9, k0_pay10, load_c, load_d, load_w]
  rw [pay_grad, block_grad]

@[inherit_doc left_grad]
theorem left_delta : (dats m 0 c).after 7 t (ix2 r q)
    = delta (weight m c (row tall t r) q) (first m c (row tall t r) q) (second m c (row tall t r) q) (grad m c (row tall t r) q) := by
  rw [after0_7]
  frame_out
  simp only [k0_pay9, k0_pay10, load_c, load_d, load_w]
  rw [pay_delta, block_grad, read_w, read_m, read_v]

@[inherit_doc left_grad]
theorem left_mean : (dats m 0 c).after 8 t (ix2 r q) = mean (first m c (row tall t r) q) (grad m c (row tall t r) q) := by
  rw [after0_8]
  frame_out
  simp only [k0_pay9, k0_pay10, load_c, load_d, load_w]
  rw [pay_mean, block_grad, read_m]

@[inherit_doc left_grad]
theorem left_square : (dats m 0 c).after 9 t (ix2 r q) = square (second m c (row tall t r) q) (grad m c (row tall t r) q) := by
  rw [after0_9]
  frame_out
  simp only [k0_pay9, k0_pay10, load_c, load_d, load_w]
  rw [pay_square, block_grad, read_v]

/-- The four result arrays at a row and a column. -/
def newDelta (r : Fin 1024) (q : Fin 1152) : EReal := delta (weight m c r q) (first m c r q) (second m c r q) (grad m c r q)
@[inherit_doc newDelta] def newMean (r : Fin 1024) (q : Fin 1152) : EReal := mean (first m c r q) (grad m c r q)
@[inherit_doc newDelta] def newSquare (r : Fin 1024) (q : Fin 1152) : EReal := square (second m c r q) (grad m c r q)

/-- The result arrays, whole. -/
theorem all_grad : (dats m 0 c).arrAt 6 (cfgs 0).N = fun i : S1024x1152.Idx => grad m c (i 0) (i 1) := by
  refine (dats m 0 c).arrAt_eq_of_covers 6 _ (by decide +kernel) fun t hf y => ?_
  obtain ⟨-, -, -, -, -, -, e, -⟩ := idx t
  idx_vars y
  blk_simp
  rw [left_grad]
  refine congrArg₂ (grad m c) (Fin.ext ?_) (Fin.ext ?_) <;> blk_simp [e]

@[inherit_doc all_grad]
theorem all_delta : (dats m 0 c).arrAt 7 (cfgs 0).N = fun i : S1024x1152.Idx => newDelta m c (i 0) (i 1) := by
  refine (dats m 0 c).arrAt_eq_of_covers 7 _ (by decide +kernel) fun t hf y => ?_
  obtain ⟨-, -, -, -, -, -, -, e, -⟩ := idx t
  idx_vars y
  blk_simp
  refine (left_delta m c t _ _).trans ?_
  refine congrArg₂ (newDelta m c) (Fin.ext ?_) (Fin.ext ?_) <;> blk_simp [e]

@[inherit_doc all_grad]
theorem all_mean : (dats m 0 c).arrAt 8 (cfgs 0).N = fun i : S1024x1152.Idx => newMean m c (i 0) (i 1) := by
  refine (dats m 0 c).arrAt_eq_of_covers 8 _ (by decide +kernel) fun t hf y => ?_
  obtain ⟨-, -, -, -, -, -, -, -, e, -⟩ := idx t
  idx_vars y
  blk_simp
  refine (left_mean m c t _ _).trans ?_
  refine congrArg₂ (newMean m c) (Fin.ext ?_) (Fin.ext ?_) <;> blk_simp [e]

@[inherit_doc all_grad]
theorem all_square : (dats m 0 c).arrAt 9 (cfgs 0).N = fun i : S1024x1152.Idx => newSquare m c (i 0) (i 1) := by
  refine (dats m 0 c).arrAt_eq_of_covers 9 _ (by decide +kernel) fun t hf y => ?_
  obtain ⟨-, -, -, -, -, -, -, -, -, e⟩ := idx t
  idx_vars y
  blk_simp
  refine (left_square m c t _ _).trans ?_
  refine congrArg₂ (newSquare m c) (Fin.ext ?_) (Fin.ext ?_) <;> blk_simp [e]

end Cert.Kernel9Ideal.Value

end
-- ==== Proof.AdaClaim.lean ====
/- The modulation's weight update computes the reference's gradient and its three optimiser values. -/
module

public import proofs.«01_k».proof.Defs
public import proofs.«01_k».proof.Proof.Ada
public import proofs.«01_k».proof.Proof.Gen.Reference9Ideal
public import proofs.«01_k».proof.Proof.Gen.Reference9Ideal.Run

@[expose] public section

set_option maxRecDepth 16384

noncomputable section

open Idealize.ShloMosaic Idealize.ShloMosaic.TcCoe Idealize.SL.Sem

namespace Cert.Reference9Ideal.Update

open Cert.Reference9Ideal Cert.Reference9Ideal.Gen Cert.Adam

variable (C : FVec Ideal S8x1024 .f32) (d e : FVec Ideal S8x1152 .f32) (g : FVec Ideal S1024x1152 .f32)
  (w m v : FVec Ideal S1x1024x1152 .f32) (r : Fin 1024) (q : Fin 1152)

/-- The reference's gradient, as its lines compute it. -/
def refGrad : FVec Ideal S1024x1152 .f32 :=
  transpose S1024x1152 [1, 0] (Host.dotGeneral dot_S8x1152_S8x1024_S1152x1024_0_0_1_1_n_n none (addf d e) (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C)))))) transposes_S1152x1024_S1024x1152_1_0

/-- The constant array the reference makes of one number. -/
def refConst (b : BitVec 32) : FVec Ideal S1024x1152 .f32 := broadcastInDim S1024x1152 ![] bcast_S_S1024x1152 (constant S_ .f32 b)

/-- The reference's weight or moment. -/
def refTake : FVec Ideal S1024x1152 .f32 := shapeCast _ m shapeCasts_S1x1024x1152_S1024x1152

/-- The reference's new moments, and the change of the weight. -/
def refMean : FVec Ideal S1024x1152 .f32 := addf (mulf (refConst 0x3F666666#32) (refTake m)) (mulf (refConst 0x3DCCCCCD#32) g)
@[inherit_doc refMean]
def refSquare : FVec Ideal S1024x1152 .f32 := addf (mulf (refConst 0x3F7FBE77#32) (refTake v)) (mulf (refConst 0x3A83126F#32) (mulf g g))
@[inherit_doc refMean]
def refDelta : FVec Ideal S1024x1152 .f32 :=
  mulf (refConst 0xBA83126F#32) (addf (Host.divf (Host.divf (refMean g m) (refConst 0x3F26BD02#32))
    (addf (Host.sqrt (Host.divf (refSquare g v) (refConst 0x3C231ACC#32))) (refConst 0x322BCC77#32)))
    (mulf (refConst 0x3C23D70A#32) (refTake w)))

theorem grad_at : refGrad C d e (ix2 r q) = Cert.Kernel9Ideal.Value.gradOf C d e r q := by
  unfold refGrad Cert.Kernel9Ideal.Value.gradOf
  pointwise [Scalars.div_one_add_exp]
  exact Finset.sum_congr rfl fun k _ => mul_comm _ _

theorem const_at (b : BitVec 32) : refConst b (ix2 r q) = Ideal.ofBits .f32 b := by
  pointwise [refConst]

theorem take_at : refTake m (ix2 r q) = m (ix3 0 r q) := by
  pointwise [refTake]

theorem mean_at : refMean g m (ix2 r q) = mean (m (ix3 0 r q)) (g (ix2 r q)) := by
  pointwise [refMean, mean, const_at, take_at]

theorem square_at : refSquare g v (ix2 r q) = square (v (ix3 0 r q)) (g (ix2 r q)) := by
  pointwise [refSquare, square, const_at, take_at]

theorem delta_at : refDelta g w m v (ix2 r q) = delta (w (ix3 0 r q)) (m (ix3 0 r q)) (v (ix3 0 r q)) (g (ix2 r q)) := by
  pointwise [refDelta, delta, const_at, take_at, mean_at, square_at]

end Cert.Reference9Ideal.Update

namespace Cert.Kernel9Ideal.Value

open Cert.Kernel9Ideal Cert.Kernel9Ideal.Gen Cert.Adam
open Cert.Reference9Ideal.Update (refGrad refMean refSquare refDelta grad_at mean_at square_at delta_at)

set_option maxHeartbeats 1000000 in
theorem algebraic : Cert.algebraic_Kernel9Ideal_Reference9Ideal := by
  pair_intro
  · run_from Cert.Kernel9Ideal.Gen.run_main m g & Cert.Kernel9Ideal.Gen.unchanged m g
  · refine Idealize.ShloMosaic.θ_run_mono (Cert.Reference9Ideal.Value.run m' g') fun r hr c => ?_
    obtain ⟨h0, h1, h2, h3, h4, h5⟩ := hagree c
    obtain ⟨r0, r1, r2, r3, ha⟩ := hr c
    refine ⟨r0.trans ?_, r1.trans ?_, r2.trans ?_, r3.trans ?_, ha⟩
    · rw [all_grad, h0, h1, h2]
      funext i
      idx_vars i
      exact grad_at _ _ _ i0 i1
    · rw [all_delta, h0, h1, h2, h3, h4, h5]
      funext i
      idx_vars i
      exact (delta_at (refGrad _ _ _) _ _ _ i0 i1).trans (congrArg (delta _ _ _) (grad_at _ _ _ i0 i1))
    · rw [all_mean, h0, h1, h2, h4]
      funext i
      idx_vars i
      exact (mean_at (refGrad _ _ _) _ i0 i1).trans (congrArg (mean _) (grad_at _ _ _ i0 i1))
    · rw [all_square, h0, h1, h2, h5]
      funext i
      idx_vars i
      exact (square_at (refGrad _ _ _) _ i0 i1).trans (congrArg (square _) (grad_at _ _ _ i0 i1))

end Cert.Kernel9Ideal.Value

end
-- ==== Proof.NormFwd.lean ====
/- The modulated root-mean-square norm, forward: its value, and what the reference computes of it. -/
module

public import proofs.«01_k».proof.Proof.RefNorm

@[expose] public section

set_option maxRecDepth 16384

noncomputable section

open Idealize.ShloMosaic Idealize.ShloMosaic.TcCoe Idealize.SL.Sem

namespace Cert.RowNorm

/-- The norm of the row `x`, with gain `g`, scale `s` and shift `h`. -/
def modded (x g s h : Fin 1024 → EReal) (q : Fin 1024) : EReal := x q * rinv x * g q * (1 + s q) + h q

end Cert.RowNorm

namespace Cert.Reference8Ideal.Norm

open Cert.Reference8Ideal Cert.Reference8Ideal.Gen Cert.RowNorm

variable (x : FVec Ideal S2048x1024 .f32) (g s h : FVec Ideal S1x1024 .f32)

/-- The reference's norm. -/
def refMod : FVec Ideal S2048x1024 .f32 :=
  addf (mulf (mulf (mulf x (across1 (refInv x))) (down g)) (down (addf (broadcastInDim S1x1024 ![] bcast_S_S1x1024 (constant S_ .f32 0x3F800000#32)) s))) (down h)

theorem mod_at (r : Fin 2048) (q : Fin 1024) :
    refMod x g s h (ix2 r q) = modded (fun k => x (ix2 r k)) (fun k => g (ix2 0 k)) (fun k => s (ix2 0 k)) (fun k => h (ix2 0 k)) q := by
  pointwise [refMod, inv_at, modded]

end Cert.Reference8Ideal.Norm

end
-- ==== Proof.MixFwd.lean ====
/- The branches' merge, forward, with the residual and the next norm: what a point computes and what the six result
   arrays hold. -/
module

public import proofs.«01_k».proof.Proof.Gen.Kernel12Ideal.Frame
public import proofs.«01_k».proof.Proof.NormFwd
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Mix

open Cert.RowNorm

/-- The merge's arrays on `R` rows: the two branches' values and their last matrices, the gates before their sigmoid,
    the output matrix, the residual and its gate, and the next norm's rows. -/
structure Tail (R : Nat) where
  U : Fin 2 → Fin R → Fin 1024 → EReal
  Z : Fin 2 → Fin R → Fin 1024 → EReal
  W : Fin 2 → Fin 1024 → Fin 1024 → EReal
  O : Fin 1024 → Fin 1024 → EReal
  X : Fin R → Fin 1024 → EReal
  G : Fin 4 → Fin 1024 → EReal

variable {R S : Nat} (n : Tail R)

/-- The rows `f` picks. -/
def Tail.pick (f : Fin S → Fin R) : Tail S where
  U p r := n.U p (f r)
  Z p r := n.Z p (f r)
  W := n.W
  O := n.O
  X r := n.X (f r)
  G := n.G

/-- A branch behind its last matrix. -/
def Tail.branch (p : Fin 2) (r : Fin R) (q : Fin 1024) : EReal := ∑ k, n.U p r k * n.W p k q
/-- The merged branches. -/
def Tail.merged (r : Fin R) (q : Fin 1024) : EReal :=
  Ideal.logistic (n.Z 0 r q) * n.branch 0 r q + Ideal.logistic (n.Z 1 r q) * n.branch 1 r q
/-- The mixer's output. -/
def Tail.out (r : Fin R) (q : Fin 1024) : EReal := ∑ k, n.merged r k * n.O k q
/-- The residual stream behind it. -/
def Tail.res (r : Fin R) (q : Fin 1024) : EReal := n.X r q + n.G 0 q * n.out r q
/-- The next norm. -/
def Tail.next (r : Fin R) (q : Fin 1024) : EReal := modded (n.res r) (n.G 1) (n.G 2) (n.G 3) q

end Cert.Mix

namespace Cert.Kernel12Ideal.Value

open Cert.Kernel12Ideal Cert.Kernel12Ideal.Gen Cert.Mix Cert.Tiles Cert.RowNorm

section payloads
variable (x0 x1 x2 x3 : Vec Ideal S256x1024 .bf16) (x4 x5 : Vec Ideal S1x1024 .f32) (x6 x7 x8 : Vec Ideal S1024x1024 .bf16)
  (x9 : Vec Ideal S256x1024 .f32) (x10 x11 x12 x13 : Vec Ideal S1x1024 .f32) (r : Fin 256) (q : Fin 1024)

/-- What a point's blocks hold. -/
def held : Tail 256 where
  U p r q := ![x0 (ix2 r q), x1 (ix2 r q)] p
  Z p r q := ![x2 (ix2 r q) + x4 (ix2 0 q), x3 (ix2 r q) + x5 (ix2 0 q)] p
  W p k q := ![x6 (ix2 k q), x7 (ix2 k q)] p
  O k q := x8 (ix2 k q)
  X r q := x9 (ix2 r q)
  G p q := ![x10 (ix2 0 q), x11 (ix2 0 q), x12 (ix2 0 q), x13 (ix2 0 q)] p

/-- What it stores of each result, entry by entry. -/
theorem pay_a : k0_pay1 (F := Ideal) x0 x6 (ix2 r q) = (held x0 x1 x2 x3 x4 x5 x6 x7 x8 x9 x10 x11 x12 x13).branch 0 r q := by
  pointwise [k0_pay1, Tail.branch, held]

@[inherit_doc pay_a]
theorem pay_b : k0_pay2 (F := Ideal) x1 x7 (ix2 r q) = (held x0 x1 x2 x3 x4 x5 x6 x7 x8 x9 x10 x11 x12 x13).branch 1 r q := by
  pointwise [k0_pay2, Tail.branch, held]

@[inherit_doc pay_a]
theorem pay_merged : k0_pay3 (F := Ideal) x0 x6 x1 x7 x2 x3 x4 x5 (ix2 r q) = (held x0 x1 x2 x3 x4 x5 x6 x7 x8 x9 x10 x11 x12 x13).merged r q := by
  pointwise [k0_pay3, pay_a x0 x1 x2 x3 x4 x5 x6 x7 x8 x9 x10 x11 x12 x13, pay_b x0 x1 x2 x3 x4 x5 x6 x7 x8 x9 x10 x11 x12 x13, Tail.merged]
  rfl

@[inherit_doc pay_a]
theorem pay_out : k0_pay4 (F := Ideal) x0 x6 x1 x7 x2 x3 x4 x5 x8 (ix2 r q) = (held x0 x1 x2 x3 x4 x5 x6 x7 x8 x9 x10 x11 x12 x13).out r q := by
  pointwise [k0_pay4, pay_merged x0 x1 x2 x3 x4 x5 x6 x7 x8 x9 x10 x11 x12 x13, Tail.out]
  rfl

@[inherit_doc pay_a]
theorem pay_res : k0_pay6 (F := Ideal) (k0_pay4 x0 x6 x1 x7 x2 x3 x4 x5 x8) x9 (k0_pay5 x10) (ix2 r q)
    = (held x0 x1 x2 x3 x4 x5 x6 x7 x8 x9 x10 x11 x12 x13).res r q := by
  pointwise [k0_pay6, k0_pay5, pay_out x0 x1 x2 x3 x4 x5 x6 x7 x8 x9 x10 x11 x12 x13, Tail.res]
  rfl

@[inherit_doc pay_a]
theorem pay_next : k0_pay10 (F := Ideal) (k0_pay4 x0 x6 x1 x7 x2 x3 x4 x5 x8) x9 (k0_pay5 x10) x11 x12 x13 (ix2 r q)
    = (held x0 x1 x2 x3 x4 x5 x6 x7 x8 x9 x10 x11 x12 x13).next r q := by
  pointwise [k0_pay10, pay_res x0 x1 x2 x3 x4 x5 x6 x7 x8 x9 x10 x11 x12 x13, Tail.next, modded, rinv, ms]
  rfl

/-- The blocks it leaves are these. -/
theorem left_eq :
    out0_14 x0 x1 x2 x3 x4 x5 x6 x7 x8 x9 x10 x11 x12 x13 (ix2 r q) = (held x0 x1 x2 x3 x4 x5 x6 x7 x8 x9 x10 x11 x12 x13).branch 0 r q
    ∧ out0_15 x0 x1 x2 x3 x4 x5 x6 x7 x8 x9 x10 x11 x12 x13 (ix2 r q) = (held x0 x1 x2 x3 x4 x5 x6 x7 x8 x9 x10 x11 x12 x13).branch 1 r q
    ∧ out0_16 x0 x1 x2 x3 x4 x5 x6 x7 x8 x9 x10 x11 x12 x13 (ix2 r q) = (held x0 x1 x2 x3 x4 x5 x6 x7 x8 x9 x10 x11 x12 x13).merged r q
    ∧ out0_17 x0 x1 x2 x3 x4 x5 x6 x7 x8 x9 x10 x11 x12 x13 (ix2 r q) = (held x0 x1 x2 x3 x4 x5 x6 x7 x8 x9 x10 x11 x12 x13).out r q
    ∧ out0_18 x0 x1 x2 x3 x4 x5 x6 x7 x8 x9 x10 x11 x12 x13 (ix2 r q) = (held x0 x1 x2 x3 x4 x5 x6 x7 x8 x9 x10 x11 x12 x13).res r q
    ∧ out0_19 x0 x1 x2 x3 x4 x5 x6 x7 x8 x9 x10 x11 x12 x13 (ix2 r q) = (held x0 x1 x2 x3 x4 x5 x6 x7 x8 x9 x10 x11 x12 x13).next r q := by
  refine ⟨?_, ?_, ?_, ?_, ?_, ?_⟩
  · rw [show out0_14 x0 x1 x2 x3 x4 x5 x6 x7 x8 x9 x10 x11 x12 x13 = k0_pay7 (F := Ideal) (k0_pay1 x0 x6) by frame_out]
    exact pay_a x0 x1 x2 x3 x4 x5 x6 x7 x8 x9 x10 x11 x12 x13 r q
  · rw [show out0_15 x0 x1 x2 x3 x4 x5 x6 x7 x8 x9 x10 x11 x12 x13 = k0_pay8 (F := Ideal) (k0_pay2 x1 x7) by frame_out]
    exact pay_b x0 x1 x2 x3 x4 x5 x6 x7 x8 x9 x10 x11 x12 x13 r q
  · rw [show out0_16 x0 x1 x2 x3 x4 x5 x6 x7 x8 x9 x10 x11 x12 x13 = k0_pay3 (F := Ideal) x0 x6 x1 x7 x2 x3 x4 x5 by frame_out]
    exact pay_merged x0 x1 x2 x3 x4 x5 x6 x7 x8 x9 x10 x11 x12 x13 r q
  · rw [show out0_17 x0 x1 x2 x3 x4 x5 x6 x7 x8 x9 x10 x11 x12 x13 = k0_pay9 (F := Ideal) (k0_pay4 x0 x6 x1 x7 x2 x3 x4 x5 x8) by
      simp only [out0_17, k0_pay11]; frame_out]
    exact pay_out x0 x1 x2 x3 x4 x5 x6 x7 x8 x9 x10 x11 x12 x13 r q
  · rw [show out0_18 x0 x1 x2 x3 x4 x5 x6 x7 x8 x9 x10 x11 x12 x13 = k0_pay6 (F := Ideal) (k0_pay4 x0 x6 x1 x7 x2 x3 x4 x5 x8) x9 (k0_pay5 x10) by
      simp only [out0_18, k0_pay11, k0_pay12]; frame_out]
    exact pay_res x0 x1 x2 x3 x4 x5 x6 x7 x8 x9 x10 x11 x12 x13 r q
  · rw [show out0_19 x0 x1 x2 x3 x4 x5 x6 x7 x8 x9 x10 x11 x12 x13
        = k0_pay10 (F := Ideal) (k0_pay4 x0 x6 x1 x7 x2 x3 x4 x5 x8) x9 (k0_pay5 x10) x11 x12 x13 by
      simp only [out0_19, k0_pay11, k0_pay12]; frame_out]
    exact pay_next x0 x1 x2 x3 x4 x5 x6 x7 x8 x9 x10 x11 x12 x13 r q

end payloads

/-- The projected input. -/
def proj (a2 : Vec Ideal S2048x1024 .f32) (a3 : Vec Ideal S1024x6144 .f32) (r : Fin 2048) (q : Fin 6144) : EReal :=
  ∑ k : Fin 1024, a2 (ix2 r k) * a3 (ix2 k q)

/-- The merge of @main's arguments. -/
def ofArgs (a0 a1 a2 : Vec Ideal S2048x1024 .f32) (a3 : Vec Ideal S1024x6144 .f32) (a4 : Vec Ideal S1x6144 .f32)
    (a5 a6 a7 : Vec Ideal S1024x1024 .f32) (a8 : Vec Ideal S2048x1024 .f32) (a9 a10 a11 a12 : Vec Ideal S1x1024 .f32) : Tail 2048 where
  U p r q := ![a0 (ix2 r q), a1 (ix2 r q)] p
  Z p r q := ![proj a2 a3 r ⟨4096 + q.val, by omega⟩ + a4 (ix2 0 ⟨4096 + q.val, by omega⟩),
    proj a2 a3 r ⟨5120 + q.val, by omega⟩ + a4 (ix2 0 ⟨5120 + q.val, by omega⟩)] p
  W p k q := ![a5 (ix2 k q), a6 (ix2 k q)] p
  O k q := a7 (ix2 k q)
  X r q := a8 (ix2 r q)
  G p q := ![a9 (ix2 0 q), a10 (ix2 0 q), a11 (ix2 0 q), a12 (ix2 0 q)] p

variable (m : (ℓ : Loc nD τ sig) → Buf (Elt Ideal) ℓ) (c : Dev nD)

@[inherit_doc ofArgs]
def whole : Tail 2048 :=
  ofArgs (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8)) (m (c.tc.loc main_arg9))
    (m (c.tc.loc main_arg10)) (m (c.tc.loc main_arg11)) (m (c.tc.loc main_arg12))

/-- Every window's block index in the point's number. -/
theorem idx : ∀ t : Fin cfg0.N, win0_0.index t = ![t.val, 0] ∧ win0_1.index t = ![t.val, 0] ∧ win0_2.index t = ![t.val, 4]
    ∧ win0_3.index t = ![t.val, 5] ∧ win0_4.index t = ![0, 4] ∧ win0_5.index t = ![0, 5] ∧ win0_6.index t = ![0, 0] ∧ win0_7.index t = ![0, 0]
    ∧ win0_8.index t = ![0, 0] ∧ win0_9.index t = ![t.val, 0] ∧ win0_10.index t = ![0, 0] ∧ win0_11.index t = ![0, 0]
    ∧ win0_12.index t = ![0, 0] ∧ win0_13.index t = ![0, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0] :=
  (by decide +kernel : ∀ t : Fin grid0.N, _)

/-- What the host's lines hand to the kernel: the projected input, and casts of arguments. -/
theorem V_proj (r : Fin 2048) (q : Fin 6144) : V m c main_v1 (ix2 r q)
    = proj (m (c.tc.loc main_arg2)) (m (c.tc.loc main_arg3)) r q := by
  show StableHlo.after hostOps0 (fun b => m (c, b)) main_v1 (ix2 r q) = _
  entry_read
  pointwise [proj]

@[inherit_doc V_proj]
theorem V_tall (r : Fin 2048) (q : Fin 1024) : V m c main_v2 (ix2 r q) = (whole m c).U 0 r q ∧ V m c main_v3 (ix2 r q) = (whole m c).U 1 r q := by
  constructor
  · show StableHlo.after hostOps0 (fun b => m (c, b)) main_v2 (ix2 r q) = _
    entry_read
    pointwise [whole, ofArgs]
  · show StableHlo.after hostOps0 (fun b => m (c, b)) main_v3 (ix2 r q) = _
    entry_read
    pointwise [whole, ofArgs]

@[inherit_doc V_proj]
theorem V_mat (k q : Fin 1024) : V m c main_v4 (ix2 k q) = (whole m c).W 0 k q ∧ V m c main_v5 (ix2 k q) = (whole m c).W 1 k q
    ∧ V m c main_v6 (ix2 k q) = (whole m c).O k q := by
  refine ⟨?_, ?_, ?_⟩
  · show StableHlo.after hostOps0 (fun b => m (c, b)) main_v4 (ix2 k q) = _
    entry_read
    pointwise [whole, ofArgs]
  · show StableHlo.after hostOps0 (fun b => m (c, b)) main_v5 (ix2 k q) = _
    entry_read
    pointwise [whole, ofArgs]
  · show StableHlo.after hostOps0 (fun b => m (c, b)) main_v6 (ix2 k q) = _
    entry_read
    pointwise [whole, ofArgs]

theorem tall : cfg0.N * 256 = 2048 := congrArg (· * 256) N_0

variable (t : Fin cfg0.N)

theorem lt8 : t.val < 8 := lt_of_lt_of_eq t.isLt N_0

theorem read_u (r : Fin 256) (q : Fin 1024) : iblk m c 0 t (ix2 r q) = (whole m c).U 0 (row tall t r) q
    ∧ iblk m c 1 t (ix2 r q) = (whole m c).U 1 (row tall t r) q := by
  obtain ⟨a, b⟩ := V_tall m c (row tall t r) q
  refine ⟨Eq.trans ?_ a, Eq.trans ?_ b⟩ <;> unfold iblk <;> blk_ext [idx t]

theorem read_za (r : Fin 256) (q : Fin 1024) : @HAdd.hAdd EReal EReal EReal _ (iblk m c 2 t (ix2 r q)) (iblk m c 4 t (ix2 0 q)) = (whole m c).Z 0 (row tall t r) q := by
  have a : iblk m c 2 t (ix2 r q) = V m c main_v1 (ix2 (row tall t r) ⟨4096 + q.val, by omega⟩) := by
    unfold iblk
    blk_ext [idx t]
  have b : iblk m c 4 t (ix2 0 q) = (m (c.tc.loc main_arg4) : Vec Ideal S1x6144 .f32) (ix2 0 ⟨4096 + q.val, by omega⟩) := by
    blk_point [iblk, V, idx t]
  rw [a, b, V_proj]
  rfl

theorem read_zb (r : Fin 256) (q : Fin 1024) : @HAdd.hAdd EReal EReal EReal _ (iblk m c 3 t (ix2 r q)) (iblk m c 5 t (ix2 0 q)) = (whole m c).Z 1 (row tall t r) q := by
  have a : iblk m c 3 t (ix2 r q) = V m c main_v1 (ix2 (row tall t r) ⟨5120 + q.val, by omega⟩) := by
    unfold iblk
    blk_ext [idx t]
  have b : iblk m c 5 t (ix2 0 q) = (m (c.tc.loc main_arg4) : Vec Ideal S1x6144 .f32) (ix2 0 ⟨5120 + q.val, by omega⟩) := by
    blk_point [iblk, V, idx t]
  rw [a, b, V_proj]
  rfl

theorem read_w (k q : Fin 1024) : iblk m c 6 t (ix2 k q) = (whole m c).W 0 k q ∧ iblk m c 7 t (ix2 k q) = (whole m c).W 1 k q
    ∧ iblk m c 8 t (ix2 k q) = (whole m c).O k q := by
  obtain ⟨a, b, d⟩ := V_mat m c k q
  refine ⟨Eq.trans ?_ a, Eq.trans ?_ b, Eq.trans ?_ d⟩ <;> unfold iblk <;> blk_ext [idx t]

theorem read_x (r : Fin 256) (q : Fin 1024) : iblk m c 9 t (ix2 r q) = (whole m c).X (row tall t r) q := by
  blk_point [iblk, V, idx t, whole, ofArgs]

theorem read_g (q : Fin 1024) : iblk m c 10 t (ix2 0 q) = (whole m c).G 0 q ∧ iblk m c 11 t (ix2 0 q) = (whole m c).G 1 q
    ∧ iblk m c 12 t (ix2 0 q) = (whole m c).G 2 q ∧ iblk m c 13 t (ix2 0 q) = (whole m c).G 3 q := by
  refine ⟨?_, ?_, ?_, ?_⟩ <;> blk_point [iblk, V, idx t, whole, ofArgs]

/-- A point's blocks hold its rows of the merge. -/
theorem held_eq : held (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) = (whole m c).pick (row tall t) := by
  unfold held Tail.pick
  congr
  · funext p r q
    fin_cases p
    · exact (read_u m c t r q).1
    · exact (read_u m c t r q).2
  · funext p r q
    fin_cases p
    · exact read_za m c t r q
    · exact read_zb m c t r q
  · funext p k q
    fin_cases p
    · exact (read_w m c t k q).1
    · exact (read_w m c t k q).2.1
  · funext k q; exact (read_w m c t k q).2.2
  · funext r q; exact read_x m c t r q
  · funext p q
    fin_cases p
    · exact (read_g m c t q).1
    · exact (read_g m c t q).2.1
    · exact (read_g m c t q).2.2.1
    · exact (read_g m c t q).2.2.2

/-- What a point leaves, in the whole merge's terms. -/
theorem left (r : Fin 256) (q : Fin 1024) :
    (dats m 0 c).after 14 t (ix2 r q) = (whole m c).branch 0 (row tall t r) q
    ∧ (dats m 0 c).after 15 t (ix2 r q) = (whole m c).branch 1 (row tall t r) q
    ∧ (dats m 0 c).after 16 t (ix2 r q) = (whole m c).merged (row tall t r) q
    ∧ (dats m 0 c).after 17 t (ix2 r q) = (whole m c).out (row tall t r) q
    ∧ (dats m 0 c).after 18 t (ix2 r q) = (whole m c).res (row tall t r) q
    ∧ (dats m 0 c).after 19 t (ix2 r q) = (whole m c).next (row tall t r) q := by
  rw [after0_14, after0_15, after0_16, after0_17, after0_18, after0_19]
  have h := left_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) r q
  rw [held_eq] at h
  exact h

/-- The result arrays, whole. -/
theorem all_a : (dats m 0 c).arrAt 14 (cfgs 0).N = fun i : S2048x1024.Idx => (whole m c).branch 0 (i 0) (i 1) := by
  refine (dats m 0 c).arrAt_eq_of_covers 14 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).1.trans ?_
  refine congrArg₂ ((whole m c).branch 0) (Fin.ext ?_) (Fin.ext ?_) <;> blk_simp [e14]

@[inherit_doc all_a]
theorem all_b : (dats m 0 c).arrAt 15 (cfgs 0).N = fun i : S2048x1024.Idx => (whole m c).branch 1 (i 0) (i 1) := by
  refine (dats m 0 c).arrAt_eq_of_covers 15 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).2.1.trans ?_
  refine congrArg₂ ((whole m c).branch 1) (Fin.ext ?_) (Fin.ext ?_) <;> blk_simp [e15]

@[inherit_doc all_a]
theorem all_merged : (dats m 0 c).arrAt 16 (cfgs 0).N = fun i : S2048x1024.Idx => (whole m c).merged (i 0) (i 1) := by
  refine (dats m 0 c).arrAt_eq_of_covers 16 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).2.2.1.trans ?_
  refine congrArg₂ (whole m c).merged (Fin.ext ?_) (Fin.ext ?_) <;> blk_simp [e16]

@[inherit_doc all_a]
theorem all_out : (dats m 0 c).arrAt 17 (cfgs 0).N = fun i : S2048x1024.Idx => (whole m c).out (i 0) (i 1) := by
  refine (dats m 0 c).arrAt_eq_of_covers 17 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).2.2.2.1.trans ?_
  refine congrArg₂ (whole m c).out (Fin.ext ?_) (Fin.ext ?_) <;> blk_simp [e17]

@[inherit_doc all_a]
theorem all_res : (dats m 0 c).arrAt 18 (cfgs 0).N = fun i : S2048x1024.Idx => (whole m c).res (i 0) (i 1) := by
  refine (dats m 0 c).arrAt_eq_of_covers 18 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).2.2.2.2.1.trans ?_
  refine congrArg₂ (whole m c).res (Fin.ext ?_) (Fin.ext ?_) <;> blk_simp [e18]

@[inherit_doc all_a]
theorem all_next : (dats m 0 c).arrAt 19 (cfgs 0).N = fun i : S2048x1024.Idx => (whole m c).next (i 0) (i 1) := by
  refine (dats m 0 c).arrAt_eq_of_covers 19 _ (by decide +kernel) fun t hf y => ?_
  obtain ⟨e0, e1, e2, e3, e4, e5, e6, e7, e8, e9, e10, e11, e12, e13, e14, e15, e16, e17, e18, e19⟩ := idx t
  idx_vars y
  blk_simp
  refine (left m c t _ _).2.2.2.2.2.trans ?_
  refine congrArg₂ (whole m c).next (Fin.ext ?_) (Fin.ext ?_) <;> blk_simp [e19]

end Cert.Kernel12Ideal.Value

end
-- ==== Proof.MixFwdClaim.lean ====
/- The branches' merge, forward: what the reference computes, in stages over arbitrary arrays, and the equation of the two
   programs. -/
module

public import proofs.«01_k».proof.Defs
public import proofs.«01_k».proof.Proof.MixFwd
public import proofs.«01_k».proof.Proof.Gen.Reference12Ideal
public import proofs.«01_k».proof.Proof.Gen.Reference12Ideal.Run

@[expose] public section

set_option maxRecDepth 16384

noncomputable section

open Idealize.ShloMosaic Idealize.ShloMosaic.TcCoe Idealize.SL.Sem

namespace Cert.Kernel12Ideal.Value

open Cert.Mix Cert.RowNorm Cert.Scalars
open Cert.Reference8Ideal.Norm (refMod mod_at)

section stages

open Cert.Reference12Ideal Cert.Reference12Ideal.Gen

variable (a0 a1 a2 : FVec Ideal S2048x1024 .f32) (a3 : FVec Ideal S1024x6144 .f32) (a4 : FVec Ideal S1x6144 .f32)
  (a5 a6 a7 : FVec Ideal S1024x1024 .f32) (a8 : FVec Ideal S2048x1024 .f32) (a9 a10 a11 a12 : FVec Ideal S1x1024 .f32)
  (r : Fin 2048) (q : Fin 1024)

/-- A product of a tall array with a matrix. -/
def refBy (x : FVec Ideal S2048x1024 .f32) (w : FVec Ideal S1024x1024 .f32) : FVec Ideal S2048x1024 .f32 :=
  Host.dotGeneral dot_S2048x1024_S1024x1024_S2048x1024_1_0_0_1_n_n none x w

/-- The gates before their sigmoid. -/
def refGates : FVec Ideal S2048x2048 .f32 :=
  addf (Host.dotGeneral dot_S2048x1024_S1024x2048_S2048x2048_1_0_0_1_n_n none a2 (extractStridedSlice S1024x2048 ![0, 4096] a3 slices_S1024x6144_S1024x2048_0_4096))
    (broadcastInDim S2048x2048 ![0, 1] bcast_S1x2048_S2048x2048_0_1 (extractStridedSlice S1x2048 ![0, 4096] a4 slices_S1x6144_S1x2048_0_4096))

/-- The sigmoid. -/
def refSig (x : FVec Ideal S2048x1024 .f32) : FVec Ideal S2048x1024 .f32 :=
  Host.divf (broadcastInDim S2048x1024 ![] bcast_S_S2048x1024 (constant S_ .f32 0x3F800000#32))
    (addf (broadcastInDim S2048x1024 ![] bcast_S_S2048x1024 (constant S_ .f32 0x3F800000#32)) (Host.exp (Host.negf x)))

/-- The merged branches. -/
def refMerged : FVec Ideal S2048x1024 .f32 :=
  addf (mulf (refSig (extractStridedSlice S2048x1024 ![0, 0] (refGates a2 a3 a4) slices_S2048x2048_S2048x1024_0_0)) (refBy a0 a5))
    (mulf (refSig (extractStridedSlice S2048x1024 ![0, 1024] (refGates a2 a3 a4) slices_S2048x2048_S2048x1024_0_1024)) (refBy a1 a6))

/-- The residual stream. -/
def refRes : FVec Ideal S2048x1024 .f32 :=
  addf a8 (mulf (broadcastInDim S2048x1024 ![0, 1] bcast_S1x1024_S2048x1024_0_1 a9) (refBy (refMerged a0 a1 a2 a3 a4 a5 a6) a7))

theorem by_at (x : FVec Ideal S2048x1024 .f32) (w : FVec Ideal S1024x1024 .f32) : refBy x w (ix2 r q) = ∑ k : Fin 1024, x (ix2 r k) * w (ix2 k q) := by
  pointwise [refBy]

theorem gates_at (j : Fin 2048) : refGates a2 a3 a4 (ix2 r j) = proj a2 a3 r ⟨4096 + j.val, by omega⟩ + a4 (ix2 0 ⟨4096 + j.val, by omega⟩) := by
  pointwise [refGates, proj]

theorem sig_at (x : FVec Ideal S2048x1024 .f32) : refSig x (ix2 r q) = Ideal.logistic (x (ix2 r q)) := by
  pointwise [refSig, div_one_add_exp]

theorem merged_at : refMerged a0 a1 a2 a3 a4 a5 a6 (ix2 r q) = (ofArgs a0 a1 a2 a3 a4 a5 a6 a7 a8 a9 a10 a11 a12).merged r q := by
  pointwise [refMerged, sig_at, by_at, gates_at, Tail.merged, Tail.branch, ofArgs]
  simp only [show 4096 + (1024 + q.val) = 5120 + q.val by omega]

theorem out_at : refBy (refMerged a0 a1 a2 a3 a4 a5 a6) a7 (ix2 r q) = (ofArgs a0 a1 a2 a3 a4 a5 a6 a7 a8 a9 a10 a11 a12).out r q := by
  pointwise [by_at, merged_at a0 a1 a2 a3 a4 a5 a6 a7 a8 a9 a10 a11 a12, Tail.out]
  rfl

theorem res_at : refRes a0 a1 a2 a3 a4 a5 a6 a7 a8 a9 (ix2 r q) = (ofArgs a0 a1 a2 a3 a4 a5 a6 a7 a8 a9 a10 a11 a12).res r q := by
  pointwise [refRes, out_at a0 a1 a2 a3 a4 a5 a6 a7 a8 a9 a10 a11 a12, Tail.res]
  rfl

theorem next_at : refMod (refRes a0 a1 a2 a3 a4 a5 a6 a7 a8 a9) a10 a11 a12 (ix2 r q) = (ofArgs a0 a1 a2 a3 a4 a5 a6 a7 a8 a9 a10 a11 a12).next r q := by
  rw [mod_at]
  simp only [res_at a0 a1 a2 a3 a4 a5 a6 a7 a8 a9 a10 a11 a12]
  rfl

end stages

open Cert.Kernel12Ideal Cert.Kernel12Ideal.Gen

set_option maxHeartbeats 4000000 in
theorem algebraic : Cert.algebraic_Kernel12Ideal_Reference12Ideal := by
  intro m g m' g' hpre hagree
  refine ⟨fun c => (dats m 0 c).arrAt 14 (cfgs 0).N, fun c => (dats m 0 c).arrAt 15 (cfgs 0).N, fun c => (dats m 0 c).arrAt 16 (cfgs 0).N,
    fun c => (dats m 0 c).arrAt 17 (cfgs 0).N, fun c => (dats m 0 c).arrAt 18 (cfgs 0).N, fun c => (dats m 0 c).arrAt 19 (cfgs 0).N, ?_, ?_⟩
  · refine Idealize.ShloMosaic.θ_run_mono (Idealize.ShloMosaic.θ_run_and (Cert.Kernel12Ideal.Gen.run_main m g) (Cert.Kernel12Ideal.Gen.unchanged m g))
      fun r hr c => ?_
    exact ⟨(hr.1 c).1 14, (hr.1 c).1 15, (hr.1 c).1 16, (hr.1 c).1 17, (hr.1 c).1 18, (hr.1 c).1 19, hr.2 c⟩
  · refine Idealize.ShloMosaic.θ_run_mono (Cert.Reference12Ideal.Value.run m' g') fun r hr c => ?_
    obtain ⟨h0, h1, h2, h3, h4, h5, h6, h7, h8, h9, h10, h11, h12⟩ := hagree c
    obtain ⟨r0, r1, r2, r3, r4, r5, ha⟩ := hr c
    rw [h0, h5] at r0
    rw [h1, h6] at r1
    rw [h0, h1, h2, h3, h4, h5, h6] at r2
    rw [h0, h1, h2, h3, h4, h5, h6, h7] at r3
    rw [h0, h1, h2, h3, h4, h5, h6, h7, h8, h9] at r4
    rw [show Cert.Reference12Ideal.Value.res_main_v50 m' c = truncf .bf16 (refMod (refRes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11)) (m (c.tc.loc main_arg12))) (by decide : FTy.bits .bf16 < FTy.bits .f32) from by
      rw [← h0, ← h1, ← h2, ← h3, ← h4, ← h5, ← h6, ← h7, ← h8, ← h9, ← h10, ← h11, ← h12]; rfl] at r5
    refine ⟨r0.trans ?_, r1.trans ?_, r2.trans ?_, r3.trans ?_, r4.trans ?_, r5.trans ?_, ha⟩
    · refine Eq.trans ?_ (all_a m c).symm; funext i; idx_vars i
      exact by_at _ _ _ _
    · refine Eq.trans ?_ (all_b m c).symm; funext i; idx_vars i
      exact by_at _ _ _ _
    · refine Eq.trans ?_ (all_merged m c).symm; funext i; idx_vars i
      exact merged_at _ _ _ _ _ _ _ _ _ _ _ _ _ _ _
    · refine Eq.trans ?_ (all_out m c).symm; funext i; idx_vars i
      exact out_at _ _ _ _ _ _ _ _ _ _ _ _ _ _ _
    · refine Eq.trans ?_ (all_res m c).symm; funext i; idx_vars i
      exact res_at _ _ _ _ _ _ _ _ _ _ _ _ _ _ _
    · refine Eq.trans ?_ (all_next m c).symm; funext i; idx_vars i
      exact next_at _ _ _ _ _ _ _ _ _ _ _ _ _ _ _

end Cert.Kernel12Ideal.Value

end
-- ==== Proof.FfnUp.lean ====
/- The feed-forward's hidden values, forward: what its blocks hold and what the three result arrays hold. -/
module

public import proofs.«01_k».proof.Proof.Gen.Kernel13Ideal.Frame
public import proofs.«01_k».proof.Proof.Scalars
public import proofs.«01_k».proof.Proof.Tiles

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen Cert.Scalars

/-- The hidden value of a gate and an up value. -/
def hidden (g u : EReal) : EReal := g * Ideal.logistic g * u

section payloads
variable (x : Vec Ideal S1024x1024 .bf16) (w v : Vec Ideal S1x1024x512 .bf16) (r : Fin 1024) (j : Fin 512)

/-- What a point computes of one product. -/
theorem block_gate : k0_pay4 (F := Ideal) x w (ix2 r j) = ∑ k : Fin 1024, x (ix2 r k) * w (ix3 0 k j) := by
  pointwise [k0_pay4, k0_pay2, k0_pay1]

@[inherit_doc block_gate]
theorem block_up : k0_pay5 (F := Ideal) x v (ix2 r j) = ∑ k : Fin 1024, x (ix2 r k) * v (ix3 0 k j) := by
  pointwise [k0_pay5, k0_pay3, k0_pay1]

/-- What it computes of the hidden value. -/
theorem block_hidden : k0_pay6 (F := Ideal) x w v (ix2 r j)
    = hidden (∑ k : Fin 1024, x (ix2 r k) * w (ix3 0 k j)) (∑ k : Fin 1024, x (ix2 r k) * v (ix3 0 k j)) := by
  pointwise [k0_pay6, k0_pay2, k0_pay3, k0_pay1, hidden]

end payloads

variable (m : (ℓ : Loc nD τ sig) → Buf (Elt Ideal) ℓ) (c : Dev nD)

/-- The three arguments: the normed input, `w_gate` and `w_up`. -/
abbrev hIn : Vec Ideal S2048x1024 .f32 := m ((c : Thread nD τ).loc main_arg0)
@[inherit_doc hIn] abbrev wGate : Vec Ideal S1024x4096 .f32 := m ((c : Thread nD τ).loc main_arg1)
@[inherit_doc hIn] abbrev wUp : Vec Ideal S1024x4096 .f32 := m ((c : Thread nD τ).loc main_arg2)

/-- An entry of the product with `w`. -/
def through (w : Vec Ideal S1024x4096 .f32) (r : Fin 2048) (j : Fin 4096) : EReal := ∑ k : Fin 1024, hIn m c (ix2 r k) * w (ix2 k j)
/-- An entry of the hidden value. -/
def hid (r : Fin 2048) (j : Fin 4096) : EReal := hidden (through m c (wGate m c) r j) (through m c (wUp m c) r j)

/-- Every window's block index in the point's number. -/
theorem idx : ∀ t : Fin cfg0.N, win0_0.index t = ![t.val / 8, 0] ∧ win0_1.index t = ![t.val % 8, 0, 0]
    ∧ win0_2.index t = ![t.val % 8, 0, 0] ∧ win0_3.index t = ![t.val / 8, t.val % 8] ∧ win0_4.index t = ![t.val / 8, t.val % 8]
    ∧ win0_5.index t = ![t.val / 8, t.val % 8] :=
  (by decide +kernel : ∀ t : Fin grid0.N, _)

variable (t : Fin cfg0.N)

theorem lt16 : t.val < 16 := lt_of_lt_of_eq t.isLt N_0

/-- Row `r` of the point's rows, and column `j` of its columns. -/
abbrev row (r : Fin 1024) : Fin 2048 := ⟨t.val / 8 * 1024 + r.val, by have h := lt16 t; omega⟩
@[inherit_doc row] abbrev col (j : Fin 512) : Fin 4096 := ⟨t.val % 8 * 512 + j.val, by omega⟩

/-- What the host's lines hand to the kernel: the input, and the matrices in eight parts by columns. -/
theorem made_h (r : Fin 2048) (k : Fin 1024) : V m c main_v0 (ix2 r k) = hIn m c (ix2 r k) := by
  entry_read
  pointwise

@[inherit_doc made_h]
theorem made_gate (p : Fin 8) (k : Fin 1024) (j : Fin 512) :
    V m c main_v3 (ix3 p k j) = wGate m c (ix2 k ⟨p.val * 512 + j.val, by omega⟩) := by
  entry_read
  pointwise

@[inherit_doc made_h]
theorem made_up (p : Fin 8) (k : Fin 1024) (j : Fin 512) :
    V m c main_v6 (ix3 p k j) = wUp m c (ix2 k ⟨p.val * 512 + j.val, by omega⟩) := by
  entry_read
  pointwise

theorem read_h (r k : Fin 1024) : iblk m c 0 t (ix2 r k) = hIn m c (ix2 (row t r) k) := by
  refine Eq.trans ?_ (made_h m c (row t r) k)
  unfold iblk
  blk_ext [idx t]

theorem read_gate (k : Fin 1024) (j : Fin 512) : iblk m c 1 t (ix3 0 k j) = wGate m c (ix2 k (col t j)) := by
  refine Eq.trans ?_ (made_gate m c ⟨t.val % 8, by omega⟩ k j)
  unfold iblk
  blk_ext [idx t]

theorem read_up (k : Fin 1024) (j : Fin 512) : iblk m c 2 t (ix3 0 k j) = wUp m c (ix2 k (col t j)) := by
  refine Eq.trans ?_ (made_up m c ⟨t.val % 8, by omega⟩ k j)
  unfold iblk
  blk_ext [idx t]

/-- The block a point leaves of the gate, of the up value and of the hidden value. -/
theorem left_gate (r : Fin 1024) (j : Fin 512) : (dats m 0 c).after 3 t (ix2 r j) = through m c (wGate m c) (row t r) (col t j) := by
  rw [after0_3, show out0_3 (iblk m c 0 t) (iblk m c 1 t) (iblk m c 2 t) = k0_pay4 (F := Ideal) (iblk m c 0 t) (iblk m c 1 t) by frame_out, block_gate, through]
  simp only [read_h, read_gate]

@[inherit_doc left_gate]
theorem left_up (r : Fin 1024) (j : Fin 512) : (dats m 0 c).after 4 t (ix2 r j) = through m c (wUp m c) (row t r) (col t j) := by
  rw [after0_4, show out0_4 (iblk m c 0 t) (iblk m c 1 t) (iblk m c 2 t) = k0_pay5 (F := Ideal) (iblk m c 0 t) (iblk m c 2 t) by frame_out, block_up, through]
  simp only [read_h, read_up]

@[inherit_doc left_gate]
theorem left_hidden (r : Fin 1024) (j : Fin 512) : (dats m 0 c).after 5 t (ix2 r j) = hid m c (row t r) (col t j) := by
  rw [after0_5, show out0_5 (iblk m c 0 t) (iblk m c 1 t) (iblk m c 2 t)
    = k0_pay6 (F := Ideal) (iblk m c 0 t) (iblk m c 1 t) (iblk m c 2 t) by frame_out, block_hidden, hid, through, through]
  simp only [read_h, read_gate, read_up]

/-- The three result arrays, whole. -/
theorem all_gate : (dats m 0 c).arrAt 3 (cfgs 0).N = fun i : S2048x4096.Idx => through m c (wGate m c) (i 0) (i 1) := by
  refine (dats m 0 c).arrAt_eq_of_covers 3 _ (by decide +kernel) fun t hf y => ?_
  obtain ⟨e0, e1, e2, e3, e4, e5⟩ := idx t
  idx_vars y
  blk_simp
  rw [left_gate]
  refine congrArg₂ (through m c (wGate m c)) (Fin.ext ?_) (Fin.ext ?_) <;> blk_simp [e3]

@[inherit_doc all_gate]
theorem all_up : (dats m 0 c).arrAt 4 (cfgs 0).N = fun i : S2048x4096.Idx => through m c (wUp m c) (i 0) (i 1) := by
  refine (dats m 0 c).arrAt_eq_of_covers 4 _ (by decide +kernel) fun t hf y => ?_
  obtain ⟨e0, e1, e2, e3, e4, e5⟩ := idx t
  idx_vars y
  blk_simp
  rw [left_up]
  refine congrArg₂ (through m c (wUp m c)) (Fin.ext ?_) (Fin.ext ?_) <;> blk_simp [e4]

@[inherit_doc all_gate]
theorem all_hidden : (dats m 0 c).arrAt 5 (cfgs 0).N = fun i : S2048x4096.Idx => hid m c (i 0) (i 1) := by
  refine (dats m 0 c).arrAt_eq_of_covers 5 _ (by decide +kernel) fun t hf y => ?_
  obtain ⟨e0, e1, e2, e3, e4, e5⟩ := idx t
  idx_vars y
  blk_simp
  rw [left_hidden]
  refine congrArg₂ (hid m c) (Fin.ext ?_) (Fin.ext ?_) <;> blk_simp [e5]

end Cert.Kernel13Ideal.Value

end
-- ==== Proof.FfnUpClaim.lean ====
/- The feed-forward's hidden values are the reference's. -/
module

public import proofs.«01_k».proof.Defs
public import proofs.«01_k».proof.Proof.FfnUp
public import proofs.«01_k».proof.Proof.Gen.Reference13Ideal
public import proofs.«01_k».proof.Proof.Gen.Reference13Ideal.Run

@[expose] public section

set_option maxRecDepth 16384

noncomputable section

open Idealize.ShloMosaic Idealize.ShloMosaic.TcCoe Idealize.SL.Sem

namespace Cert.Kernel13Ideal.Value

open Cert.Kernel13Ideal Cert.Kernel13Ideal.Gen Cert.Scalars

theorem algebraic : Cert.algebraic_Kernel13Ideal_Reference13Ideal := by
  pair_intro
  · run_from Cert.Kernel13Ideal.Gen.run_main m g
  · run_from Cert.Reference13Ideal.Value.run m' g'
    · rw [all_gate]
      funext i
      idx_vars i
      pointwise
      rfl
    · rw [all_up]
      funext i
      idx_vars i
      pointwise
      rfl
    · rw [all_hidden]
      funext i
      idx_vars i
      pointwise
      rfl

end Cert.Kernel13Ideal.Value

end
-- ==== Proof.FfnDown.lean ====
/- The first feed-forward's last product, with its residual and the next norm: what a point computes and what the three
   result arrays hold. -/
module

public import proofs.«01_k».proof.Proof.Gen.Kernel14Ideal.Frame
public import proofs.«01_k».proof.Proof.NormFwd
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen Cert.RowNorm

section payloads
variable (acc x2 : Vec Ideal S512x1024 .f32) (x3 x4 x5 x6 : Vec Ideal S1x1024 .f32) (r : Fin 512) (q : Fin 1024)

/-- A point's part of the product. -/
theorem part_at (x0 : Vec Ideal S512x1024 .bf16) (x1 : Vec Ideal S1024x1024 .bf16) :
    k0_pay1 (F := Ideal) x0 x1 (ix2 r q) = ∑ k : Fin 1024, x0 (ix2 r k) * x1 (ix2 k q) := by
  pointwise [k0_pay1]

/-- What a row tile's last point makes of the whole product. -/
theorem res_at : k0_pay3 (F := Ideal) acc x2 x3 (ix2 r q) = x2 (ix2 r q) + half * x3 (ix2 0 q) * acc (ix2 r q) := by
  pointwise [k0_pay3]

@[inherit_doc res_at]
theorem next_at : k0_pay5 (F := Ideal) acc x2 x3 x4 x5 x6 (ix2 r q)
    = modded (fun k => x2 (ix2 r k) + half * x3 (ix2 0 k) * acc (ix2 r k)) (fun k => x4 (ix2 0 k)) (fun k => x5 (ix2 0 k))
        (fun k => x6 (ix2 0 k)) q := by
  pointwise [k0_pay5, res_at, modded, rinv, ms]

end payloads

variable (m : (ℓ : Loc nD τ sig) → Buf (Elt Ideal) ℓ) (c : Dev nD)

/-- The arguments: the hidden value, the matrix, the residual and the four rows. -/
abbrev hidden : Vec Ideal S2048x4096 .f32 := m ((c : Thread nD τ).loc main_arg0)
@[inherit_doc hidden] abbrev wDown : Vec Ideal S4096x1024 .f32 := m ((c : Thread nD τ).loc main_arg1)
@[inherit_doc hidden] abbrev resIn : Vec Ideal S2048x1024 .f32 := m ((c : Thread nD τ).loc main_arg2)
@[inherit_doc hidden] abbrev gRow : Vec Ideal S1x1024 .f32 := m ((c : Thread nD τ).loc main_arg3)
@[inherit_doc hidden] abbrev gain : Vec Ideal S1x1024 .f32 := m ((c : Thread nD τ).loc main_arg4)
@[inherit_doc hidden] abbrev scale : Vec Ideal S1x1024 .f32 := m ((c : Thread nD τ).loc main_arg5)
@[inherit_doc hidden] abbrev shift : Vec Ideal S1x1024 .f32 := m ((c : Thread nD τ).loc main_arg6)

/-- An entry of the branch, of the residual stream behind it, and of the next norm. -/
def branch (r : Fin 2048) (q : Fin 1024) : EReal := ∑ k : Fin 4096, hidden m c (ix2 r k) * wDown m c (ix2 k q)
@[inherit_doc branch] def res (r : Fin 2048) (q : Fin 1024) : EReal := resIn m c (ix2 r q) + half * gRow m c (ix2 0 q) * branch m c r q
@[inherit_doc branch] def next (r : Fin 2048) (q : Fin 1024) : EReal :=
  modded (res m c r) (fun k => gain m c (ix2 0 k)) (fun k => scale m c (ix2 0 k)) (fun k => shift m c (ix2 0 k)) q

/-- Every window's block index in the point's number. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![0, 0] ∧ win0_5.index t = ![0, 0]
    ∧ win0_6.index t = ![0, 0] ∧ win0_7.index t = ![t.val / 4, 0] ∧ win0_8.index t = ![t.val / 4, 0] ∧ win0_9.index t = ![t.val / 4, 0] :=
  (by decide +kernel : ∀ t : Fin grid0.N, _)

/-- What the host's lines hand to the kernel: the hidden value and the matrix. -/
theorem made_hidden (r : Fin 2048) (k : Fin 4096) : V m c main_v0 (ix2 r k) = hidden m c (ix2 r k) := by
  entry_read
  pointwise

@[inherit_doc made_hidden]
theorem made_down (k : Fin 4096) (q : Fin 1024) : V m c main_v1 (ix2 k q) = wDown m c (ix2 k q) := by
  entry_read
  pointwise

variable (t : Fin cfg0.N)

theorem lt16 : t.val < 16 := lt_of_lt_of_eq t.isLt N_0

/-- Row `r` of the point's rows, and `k` of its columns of the hidden value. -/
abbrev row (r : Fin 512) : Fin 2048 := ⟨t.val / 4 * 512 + r.val, by have h := lt16 t; omega⟩
@[inherit_doc row] abbrev col (k : Fin 1024) : Fin 4096 := ⟨t.val % 4 * 1024 + k.val, by omega⟩

theorem read_hidden (r : Fin 512) (k : Fin 1024) : iblk m c 0 t (ix2 r k) = hidden m c (ix2 (row t r) (col t k)) := by
  refine Eq.trans ?_ (made_hidden m c (row t r) (col t k))
  unfold iblk
  blk_ext [idx t]

theorem read_down (k q : Fin 1024) : iblk m c 1 t (ix2 k q) = wDown m c (ix2 (col t k) q) := by
  refine Eq.trans ?_ (made_down m c (col t k) q)
  unfold iblk
  blk_ext [idx t]

theorem read_res (r : Fin 512) (q : Fin 1024) : iblk m c 2 t (ix2 r q) = resIn m c (ix2 (row t r) q) := by
  blk_point [iblk, V, idx t]

theorem read_rows (q : Fin 1024) : iblk m c 3 t (ix2 0 q) = gRow m c (ix2 0 q) ∧ iblk m c 4 t (ix2 0 q) = gain m c (ix2 0 q)
    ∧ iblk m c 5 t (ix2 0 q) = scale m c (ix2 0 q) ∧ iblk m c 6 t (ix2 0 q) = shift m c (ix2 0 q) := by
  refine ⟨?_, ?_, ?_, ?_⟩ <;> blk_point [iblk, V, idx t]

/-- The point's part of the product, in the arguments. -/
theorem part_eq (r : Fin 512) (q : Fin 1024) : k0_pay1 (F := Ideal) (iblk m c 0 t) (iblk m c 1 t) (ix2 r q)
    = ∑ k : Fin 1024, hidden m c (ix2 (row t r) (col t k)) * wDown m c (ix2 (col t k) q) := by
  rw [part_at]
  simp only [read_hidden, read_down]

/-- The running product: set at a row tile's first point, added to at the others. -/
theorem sum_first (h0 : t.val % 4 = 0) (i : S512x1024.Idx) : (outsAt0 m c t.val t.isLt).2.2.2 i
    = 0 + k0_pay1 (F := Ideal) (iblk m c 0 t) (iblk m c 1 t) i := by
  rw [outsAt0_A m c t h0 (by omega) (by omega), zero_add]
  frame_out

@[inherit_doc sum_first] theorem sum_step (h0 : ¬t.val % 4 = 0) (i : S512x1024.Idx) : (outsAt0 m c t.val t.isLt).2.2.2 i
    = (outsAt0 m c (t.val - 1) (Nat.lt_of_le_of_lt (Nat.sub_le _ _) t.isLt)).2.2.2 i
      + k0_pay1 (F := Ideal) (iblk m c 0 t) (iblk m c 1 t) i := by
  idx_vars i
  rw [part_at]
  by_cases h2 : t.val % 4 = 3
  · rw [outsAt0_C m c t h0 (by omega) h2]
    frame_out
    pointwise [k0_pay2]
    rw [read_unread_whole]
  · rw [outsAt0_B m c t h0 (by omega) h2]
    frame_out
    pointwise [k0_pay2]
    rw [read_unread_whole]

/-- A row tile's last point holds the whole product. -/
theorem sum_last (h3 : t.val % 4 = 3) (r : Fin 512) (q : Fin 1024) : (outsAt0 m c t.val t.isLt).2.2.2 (ix2 r q) = branch m c (row t r) q := by
  rw [Pipeline.eq_sum_fin_of_reset_step_apply_of_flush (fun n h => (outsAt0 m c n h).2.2.2) 4 (fun _ => 0) _
      (fun t h j => sum_first m c t h j) (fun t h j => sum_step m c t h j) t h3 _, zero_add]
  simp only [part_eq]
  refine Fin.sum_mul_add_congr fun s k hl => ?_
  have er : row ⟨_, Pipeline.run_point_lt_of_flush t h3 s⟩ r = row t r := Fin.ext (by simp only [row]; omega)
  have ec : col ⟨_, Pipeline.run_point_lt_of_flush t h3 s⟩ k = ⟨s.val * 1024 + k.val, hl⟩ := Fin.ext (by simp only [col]; omega)
  rw [er, ec]

/-- What the last point hands out, from the running product. -/
theorem handed (h3 : t.val % 4 = 3) :
    (outsAt0 m c t.val t.isLt).1 = k0_pay3 (F := Ideal) ((outsAt0 m c t.val t.isLt).2.2.2) (iblk m c 2 t) (iblk m c 3 t)
    ∧ (outsAt0 m c t.val t.isLt).2.1 = k0_pay4 (F := Ideal) ((outsAt0 m c t.val t.isLt).2.2.2)
    ∧ (outsAt0 m c t.val t.isLt).2.2.1 = k0_pay5 (F := Ideal) ((outsAt0 m c t.val t.isLt).2.2.2) (iblk m c 2 t) (iblk m c 3 t)
        (iblk m c 4 t) (iblk m c 5 t) (iblk m c 6 t) := by
  rw [outsAt0_C m c t (by omega) (by omega) h3]
  refine ⟨?_, ?_, ?_⟩ <;> frame_out

/-- The blocks a row tile's last point leaves. -/
theorem left (h3 : t.val % 4 = 3) (r : Fin 512) (q : Fin 1024) :
    (dats m 0 c).after 7 t (ix2 r q) = res m c (row t r) q ∧ (dats m 0 c).after 8 t (ix2 r q) = branch m c (row t r) q
    ∧ (dats m 0 c).after 9 t (ix2 r q) = next m c (row t r) q := by
  obtain ⟨a, b, d⟩ := handed m c t h3
  refine ⟨?_, ?_, ?_⟩
  · rw [after0_7, a, res_at, res, sum_last m c t h3, read_res, (read_rows m c t q).1]
  · rw [after0_8, b]
    exact sum_last m c t h3 r q
  · rw [after0_9, d, next_at, next]
    simp only [sum_last m c t h3, read_res, read_rows]
    rfl

/-- The three result arrays, whole. -/
theorem all_res : (dats m 0 c).arrAt 7 (cfgs 0).N = fun i : S2048x1024.Idx => res m c (i 0) (i 1) := by
  refine (dats m 0 c).arrAt_eq_of_covers 7 _ (by decide +kernel) fun t hf y => ?_
  obtain ⟨e0, e1, e2, e3, e4, e5, e6, e7, e8, e9⟩ := idx t
  idx_vars y
  blk_simp
  refine (left m c t ((flush0_7 t).mp hf) _ _).1.trans ?_
  refine congrArg₂ (res m c) (Fin.ext ?_) (Fin.ext ?_) <;> blk_simp [e7]

@[inherit_doc all_res]
theorem all_branch : (dats m 0 c).arrAt 8 (cfgs 0).N = fun i : S2048x1024.Idx => branch m c (i 0) (i 1) := by
  refine (dats m 0 c).arrAt_eq_of_covers 8 _ (by decide +kernel) fun t hf y => ?_
  obtain ⟨e0, e1, e2, e3, e4, e5, e6, e7, e8, e9⟩ := idx t
  idx_vars y
  blk_simp
  refine (left m c t ((flush0_8 t).mp hf) _ _).2.1.trans ?_
  refine congrArg₂ (branch m c) (Fin.ext ?_) (Fin.ext ?_) <;> blk_simp [e8]

@[inherit_doc all_res]
theorem all_next : (dats m 0 c).arrAt 9 (cfgs 0).N = fun i : S2048x1024.Idx => next m c (i 0) (i 1) := by
  refine (dats m 0 c).arrAt_eq_of_covers 9 _ (by decide +kernel) fun t hf y => ?_
  obtain ⟨e0, e1, e2, e3, e4, e5, e6, e7, e8, e9⟩ := idx t
  idx_vars y
  blk_simp
  refine (left m c t ((flush0_9 t).mp hf) _ _).2.2.trans ?_
  refine congrArg₂ (next m c) (Fin.ext ?_) (Fin.ext ?_) <;> blk_simp [e9]

end Cert.Kernel14Ideal.Value

end
-- ==== Proof.FfnDownClaim.lean ====
/- The first feed-forward's last product, its residual and the next norm are the reference's. -/
module

public import proofs.«01_k».proof.Defs
public import proofs.«01_k».proof.Proof.FfnDown
public import proofs.«01_k».proof.Proof.Gen.Reference14Ideal
public import proofs.«01_k».proof.Proof.Gen.Reference14Ideal.Run

@[expose] public section

set_option maxRecDepth 16384

noncomputable section

open Idealize.ShloMosaic Idealize.ShloMosaic.TcCoe Idealize.SL.Sem

namespace Cert.Kernel14Ideal.Value

open Cert.Kernel14Ideal Cert.Kernel14Ideal.Gen Cert.RowNorm Cert.Reference8Ideal.Norm

section stages
variable (a0 : FVec Ideal Reference14Ideal.S2048x4096 .f32) (a1 : FVec Ideal Reference14Ideal.S4096x1024 .f32)
  (a2 : FVec Ideal Reference14Ideal.S2048x1024 .f32) (a3 : FVec Ideal Reference14Ideal.S1x1024 .f32)

/-- The reference's product, and its residual stream. -/
def refBranch : FVec Ideal Reference14Ideal.S2048x1024 .f32 :=
  Host.dotGeneral Reference14Ideal.dot_S2048x4096_S4096x1024_S2048x1024_1_0_0_1_n_n none a0 a1
@[inherit_doc refBranch] def refRes : FVec Ideal Reference14Ideal.S2048x1024 .f32 :=
  addf a2 (mulf (down (mulf (broadcastInDim Reference14Ideal.S1x1024 ![] Reference14Ideal.Gen.bcast_S_S1x1024 (constant Reference14Ideal.S_ .f32 0x3F000000#32)) a3)) (refBranch a0 a1))

variable (r : Fin 2048) (q : Fin 1024)

theorem refBranch_at : refBranch a0 a1 (ix2 r q) = ∑ k : Fin 4096, a0 (ix2 r k) * a1 (ix2 k q) := by
  pointwise [refBranch]

theorem refRes_at : refRes a0 a1 a2 a3 (ix2 r q) = a2 (ix2 r q) + half * a3 (ix2 0 q) * ∑ k : Fin 4096, a0 (ix2 r k) * a1 (ix2 k q) := by
  pointwise [refRes, refBranch_at]

end stages

variable (m : (ℓ : Loc nD τ sig) → Buf (Elt Ideal) ℓ) (c : Dev nD)

/-- The stages of these arguments. -/
theorem stage_branch (r : Fin 2048) (q : Fin 1024) : refBranch (hidden m c) (wDown m c) (ix2 r q) = branch m c r q :=
  refBranch_at (hidden m c) (wDown m c) r q

@[inherit_doc stage_branch]
theorem stage_res (r : Fin 2048) (q : Fin 1024) : refRes (hidden m c) (wDown m c) (resIn m c) (gRow m c) (ix2 r q) = res m c r q :=
  refRes_at (hidden m c) (wDown m c) (resIn m c) (gRow m c) r q

@[inherit_doc stage_branch]
theorem stage_next (r : Fin 2048) (q : Fin 1024) :
    refMod (refRes (hidden m c) (wDown m c) (resIn m c) (gRow m c)) (gain m c) (scale m c) (shift m c) (ix2 r q) = next m c r q := by
  rw [mod_at]
  simp only [stage_res]
  rfl

set_option maxHeartbeats 4000000 in
theorem algebraic : Cert.algebraic_Kernel14Ideal_Reference14Ideal := by
  pair_intro
  · run_from Cert.Kernel14Ideal.Gen.run_main m g
  · run_from Cert.Reference14Ideal.Value.run m' g'
    · refine Eq.trans ?_ (all_res m c).symm
      funext i
      idx_vars i
      exact stage_res m c i0 i1
    · refine Eq.trans ?_ (all_branch m c).symm
      funext i
      idx_vars i
      exact stage_branch m c i0 i1
    · refine Eq.trans ?_ (all_next m c).symm
      funext i
      idx_vars i
      exact stage_next m c i0 i1

end Cert.Kernel14Ideal.Value

end
-- ==== Proof.Norm2.lean ====
/- The second feed-forward's norm, backward, with the mixer's residual branch below it: what a point computes and what
   the six result arrays hold. Its norm's blocks are those of the mixer's norm (`MixNorm.lean`). -/
module

public import proofs.«01_k».proof.Proof.Gen.Kernel15Ideal.Frame
public import proofs.«01_k».proof.Proof.MixNorm

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen Cert.RowNorm
open Cert.Kernel8Ideal.Value (held block_x block_gain block_scale block_shift)

section payloads
variable (x : Vec Ideal S512x1024 .f32) (g s : Vec Ideal S1x1024 .f32) (d e : Vec Ideal S512x1024 .f32)
  (f : Vec Ideal S512x1024 .bf16) (gt : Vec Ideal S1x1024 .f32)

/-- The input's gradient in a block. -/
abbrev dx : FVec Ideal S512x1024 .f32 := k0_pay16 (F := Ideal) x (k0_pay13 x g s d) (k0_pay14 x g s d) (k0_pay15 (F := Ideal)) e

theorem dx_at (r : Fin 512) (q : Fin 1024) : dx x g s d e (ix2 r q) = (held x g s d e).gX r q := block_x x g s d e r q

/-- What a point computes of the branch's gradient. -/
theorem branch_at (r : Fin 512) (q : Fin 1024) :
    k0_pay18 (F := Ideal) x (k0_pay13 x g s d) (k0_pay14 x g s d) (k0_pay15 (F := Ideal)) e gt (ix2 r q)
      = gt (ix2 0 q) * (held x g s d e).gX r q := by
  pointwise [k0_pay18, dx_at x g s d e]

/-- What a point computes of the branch gate's gradient. -/
theorem gate_at (q : Fin 1024) :
    k0_pay17 (F := Ideal) x (k0_pay13 x g s d) (k0_pay14 x g s d) (k0_pay15 (F := Ideal)) e f (ix2 0 q)
      = ∑ r : Fin 512, (held x g s d e).gX r q * f (ix2 r q) := by
  pointwise [k0_pay17, dx_at x g s d e]

end payloads

variable (m : (ℓ : Loc nD τ sig) → Buf (Elt Ideal) ℓ) (c : Dev nD)

/-- The norm of @main's arguments, the branch's value and its gate. -/
def whole : Norm 2048 where
  X r q := (m ((c : Thread nD τ).loc main_arg0) : Vec Ideal S2048x1024 .f32) (ix2 r q)
  D r q := (m ((c : Thread nD τ).loc main_arg4) : Vec Ideal S2048x1024 .f32) (ix2 r q)
  E r q := (m ((c : Thread nD τ).loc main_arg5) : Vec Ideal S2048x1024 .f32) (ix2 r q)
  g q := (m ((c : Thread nD τ).loc main_arg1) : Vec Ideal S1x1024 .f32) (ix2 0 q)
  s q := (m ((c : Thread nD τ).loc main_arg2) : Vec Ideal S1x1024 .f32) (ix2 0 q)
@[inherit_doc whole] abbrev branch : Vec Ideal S2048x1024 .f32 := m ((c : Thread nD τ).loc main_arg6)
@[inherit_doc whole] abbrev brGate : Vec Ideal S1x1024 .f32 := m ((c : Thread nD τ).loc main_arg7)

/-- Every window's block index in the point's number. -/
theorem idx : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![t.val, 0] :=
  (by decide +kernel : ∀ t : Fin grid0.N, _)

variable (t : Fin cfg0.N)

theorem lt4 : t.val < 4 := lt_of_lt_of_eq t.isLt N_0

/-- Row `r` of the point's tile. -/
abbrev row (r : Fin 512) : Fin 2048 := ⟨t.val * 512 + r.val, by have h := lt4 t; omega⟩

/-- A point's blocks hold its rows of the norm. -/
theorem held_eq : held (iblk m c 0 t) (iblk m c 1 t) (iblk m c 2 t) (iblk m c 4 t) (iblk m c 5 t) = (whole m c).pick (row t) := by
  unfold held Norm.pick
  congr
  · funext r q; blk_point [iblk, V, idx t, whole]
  · funext r q; blk_point [iblk, V, idx t, whole]
  · funext r q; blk_point [iblk, V, idx t, whole]
  · funext q; blk_point [iblk, V, idx t, whole]
  · funext q; blk_point [iblk, V, idx t, whole]

theorem read_branch (r : Fin 512) (q : Fin 1024) : iblk m c 6 t (ix2 r q) = branch m c (ix2 (row t r) q) := by
  blk_point [iblk, V, idx t]

theorem read_gate (q : Fin 1024) : iblk m c 7 t (ix2 0 q) = brGate m c (ix2 0 q) := by
  blk_point [iblk, V, idx t]

/-- The branch's gradient, and a row's part of its gate's. -/
def gBranch (r : Fin 2048) (q : Fin 1024) : EReal := brGate m c (ix2 0 q) * (whole m c).gX r q
@[inherit_doc gBranch] def gGate (r : Fin 2048) (q : Fin 1024) : EReal := (whole m c).gX r q * branch m c (ix2 r q)

/-- The point's part of a sum over all rows of `f`. -/
def tile (f : Fin 2048 → Fin 1024 → EReal) (i : S1x1024.Idx) : EReal := ∑ r : Fin 512, f (row t r) (i 1)

/-- What the point computes for the four sums. -/
theorem four (q : Fin 1024) :
    k0_pay11 (F := Ideal) (iblk m c 0 t) (iblk m c 2 t) (iblk m c 4 t) (ix2 0 q) = tile t (whole m c).gGain (ix2 0 q)
    ∧ k0_pay9 (F := Ideal) (iblk m c 0 t) (iblk m c 1 t) (iblk m c 4 t) (ix2 0 q) = tile t (whole m c).gScale (ix2 0 q)
    ∧ k0_pay8 (F := Ideal) (iblk m c 4 t) (ix2 0 q) = tile t (whole m c).D (ix2 0 q)
    ∧ k0_pay17 (F := Ideal) (iblk m c 0 t) (k0_pay13 (iblk m c 0 t) (iblk m c 1 t) (iblk m c 2 t) (iblk m c 4 t))
        (k0_pay14 (iblk m c 0 t) (iblk m c 1 t) (iblk m c 2 t) (iblk m c 4 t)) (k0_pay15 (F := Ideal)) (iblk m c 5 t) (iblk m c 6 t) (ix2 0 q)
      = tile t (gGate m c) (ix2 0 q) := by
  have e := held_eq m c t
  refine ⟨(block_gain _ (iblk m c 1 t) _ _ (iblk m c 5 t) q).trans ?_, (block_scale _ _ (iblk m c 2 t) _ (iblk m c 5 t) q).trans ?_,
    (block_shift (iblk m c 0 t) (iblk m c 1 t) (iblk m c 2 t) _ (iblk m c 5 t) q).trans ?_, (gate_at _ _ _ _ _ _ q).trans ?_⟩
  · rw [e]; rfl
  · rw [e]; rfl
  · rw [e]; rfl
  · rw [e]
    simp only [read_branch]
    rfl

/-- The point's rows of the two tall results. -/
theorem two (r : Fin 512) (q : Fin 1024) :
    dx (iblk m c 0 t) (iblk m c 1 t) (iblk m c 2 t) (iblk m c 4 t) (iblk m c 5 t) (ix2 r q) = (whole m c).gX (row t r) q
    ∧ k0_pay18 (F := Ideal) (iblk m c 0 t) (k0_pay13 (iblk m c 0 t) (iblk m c 1 t) (iblk m c 2 t) (iblk m c 4 t))
        (k0_pay14 (iblk m c 0 t) (iblk m c 1 t) (iblk m c 2 t) (iblk m c 4 t)) (k0_pay15 (F := Ideal)) (iblk m c 5 t) (iblk m c 7 t) (ix2 r q)
      = gBranch m c (row t r) q := by
  rw [dx_at, branch_at, held_eq m c t, read_gate]
  exact ⟨rfl, rfl⟩

/-- The first point sets the sums. -/
theorem at_first (h : t.val % 4 = 0) (i : S1x1024.Idx) :
    (outsAt0 m c t.val t.isLt).2.2.1 i = tile t (whole m c).gGain i
    ∧ (outsAt0 m c t.val t.isLt).2.2.2.1 i = tile t (whole m c).gScale i
    ∧ (outsAt0 m c t.val t.isLt).2.2.2.2.1 i = tile t (whole m c).D i
    ∧ (outsAt0 m c t.val t.isLt).2.2.2.2.2 i = tile t (gGate m c) i := by
  have ht := lt4 t
  idx_vars i
  obtain rfl := Fin.fin_one_eq_zero i0
  rw [outsAt0_A m c t h (by omega) h (by omega) h (by omega) h (by omega)]
  obtain ⟨a, b, d, e⟩ := four m c t i1
  refine ⟨?_, ?_, ?_, ?_⟩ <;> frame_out
  · exact a
  · exact b
  · exact d
  · exact e

/-- Every later point adds its rows. -/
theorem at_step (h : ¬t.val % 4 = 0) (i : S1x1024.Idx) :
    (outsAt0 m c t.val t.isLt).2.2.1 i
      = (outsAt0 m c (t.val - 1) (Nat.lt_of_le_of_lt (Nat.sub_le _ _) t.isLt)).2.2.1 i + tile t (whole m c).gGain i
    ∧ (outsAt0 m c t.val t.isLt).2.2.2.1 i
      = (outsAt0 m c (t.val - 1) (Nat.lt_of_le_of_lt (Nat.sub_le _ _) t.isLt)).2.2.2.1 i + tile t (whole m c).gScale i
    ∧ (outsAt0 m c t.val t.isLt).2.2.2.2.1 i
      = (outsAt0 m c (t.val - 1) (Nat.lt_of_le_of_lt (Nat.sub_le _ _) t.isLt)).2.2.2.2.1 i + tile t (whole m c).D i
    ∧ (outsAt0 m c t.val t.isLt).2.2.2.2.2 i
      = (outsAt0 m c (t.val - 1) (Nat.lt_of_le_of_lt (Nat.sub_le _ _) t.isLt)).2.2.2.2.2 i + tile t (gGate m c) i := by
  have ht := lt4 t
  idx_vars i
  obtain rfl := Fin.fin_one_eq_zero i0
  rw [outsAt0_B m c t h (by omega) h (by omega) h (by omega) h (by omega)]
  obtain ⟨a, b, d, e⟩ := four m c t i1
  refine ⟨?_, ?_, ?_, ?_⟩ <;> frame_out
  · pointwise [k0_pay19]
    exact congrArg (_ + ·) a
  · pointwise [k0_pay1]
    exact congrArg (_ + ·) b
  · pointwise [k0_pay2]
    exact congrArg (_ + ·) d
  · pointwise [k0_pay3]
    exact congrArg (_ + ·) e

/-- What the point leaves of the two tall results. -/
theorem left (r : Fin 512) (q : Fin 1024) : (outsAt0 m c t.val t.isLt).1 (ix2 r q) = (whole m c).gX (row t r) q
    ∧ (outsAt0 m c t.val t.isLt).2.1 (ix2 r q) = gBranch m c (row t r) q := by
  have ht := lt4 t
  obtain ⟨a, b⟩ := two m c t r q
  by_cases h : t.val % 4 = 0
  · rw [outsAt0_A m c t h (by omega) h (by omega) h (by omega) h (by omega)]
    constructor <;> frame_out
    · exact a
    · exact b
  · rw [outsAt0_B m c t h (by omega) h (by omega) h (by omega) h (by omega)]
    constructor <;> frame_out
    · exact a
    · exact b

/-- The input's gradient and the branch's, whole. -/
theorem all_x : (dats m 0 c).arrAt 8 (cfgs 0).N = fun i : S2048x1024.Idx => (whole m c).gX (i 0) (i 1) := by
  refine (dats m 0 c).arrAt_eq_of_covers 8 _ (by decide +kernel) fun t hf y => ?_
  obtain ⟨e0, e1, e2, e3, e4, e5, e6, e7, e8⟩ := idx t
  idx_vars y
  blk_simp
  rw [after0_8, (left m c t _ _).1]
  refine congrArg₂ (whole m c).gX (Fin.ext ?_) (Fin.ext ?_) <;> blk_simp [e7]

@[inherit_doc all_x]
theorem all_branch : (dats m 0 c).arrAt 9 (cfgs 0).N = fun i : S2048x1024.Idx => gBranch m c (i 0) (i 1) := by
  refine (dats m 0 c).arrAt_eq_of_covers 9 _ (by decide +kernel) fun t hf y => ?_
  obtain ⟨e0, e1, e2, e3, e4, e5, e6, e7, e8⟩ := idx t
  idx_vars y
  blk_simp
  rw [after0_9, (left m c t _ _).2]
  refine congrArg₂ (gBranch m c) (Fin.ext ?_) (Fin.ext ?_) <;> blk_simp [e8]

/-- A quantity of one row that the first point sets to its tile's part and every later one adds to holds the sum of
    all rows after the last point. -/
theorem summed (u : (n : ℕ) → n < cfg0.N → S1x1024.Idx → EReal) (f : Fin 2048 → Fin 1024 → EReal)
    (h0 : ∀ (t : Fin cfg0.N), t.val % 4 = 0 → ∀ i, u t.val t.isLt i = tile t f i)
    (h1 : ∀ (t : Fin cfg0.N), ¬t.val % 4 = 0 → ∀ i,
      u t.val t.isLt i = u (t.val - 1) (Nat.lt_of_le_of_lt (Nat.sub_le _ _) t.isLt) i + tile t f i) (i : S1x1024.Idx) :
    u t0_3.val t0_3.isLt i = ∑ r : Fin 2048, f r (i 1) := by
  rw [Pipeline.eq_sum_fin_of_reset_step_apply_last u 4 (fun _ => 0) (tile · f)
    (fun t h j => (h0 t h j).trans (zero_add _).symm) h1 (le_of_eq N_0) t0_3 rfl i, zero_add]
  exact (Fin.sum_univ_tiles 4 512 rfl fun r => f r (i 1)).symm

/-- The four sums, whole. -/
theorem all_gain : (dats m 0 c).arrAt 10 (cfgs 0).N = fun i : S1x1024.Idx => ∑ r : Fin 2048, (whole m c).gGain r (i 1) := by
  refine (dats m 0 c).arrAt_eq_of_after_last 10 t0_3 (by decide +kernel) _ fun j => ?_
  blk_simp
  rw [after0_10, summed (fun n h => (outsAt0 m c n h).2.2.1) _ (fun t h i => (at_first m c t h i).1) (fun t h i => (at_step m c t h i).1)]

@[inherit_doc all_gain]
theorem all_scale : (dats m 0 c).arrAt 11 (cfgs 0).N = fun i : S1x1024.Idx => ∑ r : Fin 2048, (whole m c).gScale r (i 1) := by
  refine (dats m 0 c).arrAt_eq_of_after_last 11 t0_3 (by decide +kernel) _ fun j => ?_
  blk_simp
  rw [after0_11, summed (fun n h => (outsAt0 m c n h).2.2.2.1) _ (fun t h i => (at_first m c t h i).2.1) (fun t h i => (at_step m c t h i).2.1)]

@[inherit_doc all_gain]
theorem all_shift : (dats m 0 c).arrAt 12 (cfgs 0).N = fun i : S1x1024.Idx => ∑ r : Fin 2048, (whole m c).D r (i 1) := by
  refine (dats m 0 c).arrAt_eq_of_after_last 12 t0_3 (by decide +kernel) _ fun j => ?_
  blk_simp
  rw [after0_12, summed (fun n h => (outsAt0 m c n h).2.2.2.2.1) _ (fun t h i => (at_first m c t h i).2.2.1)
    (fun t h i => (at_step m c t h i).2.2.1)]

@[inherit_doc all_gain]
theorem all_gate : (dats m 0 c).arrAt 13 (cfgs 0).N = fun i : S1x1024.Idx => ∑ r : Fin 2048, gGate m c r (i 1) := by
  refine (dats m 0 c).arrAt_eq_of_after_last 13 t0_3 (by decide +kernel) _ fun j => ?_
  blk_simp
  rw [after0_13, summed (fun n h => (outsAt0 m c n h).2.2.2.2.2) _ (fun t h i => (at_first m c t h i).2.2.2)
    (fun t h i => (at_step m c t h i).2.2.2)]

end Cert.Kernel15Ideal.Value

end
-- ==== Proof.Norm2Claim.lean ====
/- The second feed-forward's norm, backward, with the mixer's residual branch below it computes the reference's six
   gradients. -/
module

public import proofs.«01_k».proof.Defs
public import proofs.«01_k».proof.Proof.Norm2
public import proofs.«01_k».proof.Proof.RefNorm
public import proofs.«01_k».proof.Proof.Gen.Reference15Ideal
public import proofs.«01_k».proof.Proof.Gen.Reference15Ideal.Run

@[expose] public section

set_option maxRecDepth 16384

noncomputable section

open Idealize.ShloMosaic Idealize.ShloMosaic.TcCoe Idealize.SL.Sem

namespace Cert.Kernel15Ideal.Value

open Cert.Kernel15Ideal Cert.Kernel15Ideal.Gen Cert.RowNorm
open Cert.Reference8Ideal.Norm (refX refScaled refInv refSum down across1 holding gX_at gGain_at gScale_at sum_at)

variable (m : (ℓ : Loc nD τ sig) → Buf (Elt Ideal) ℓ) (c : Dev nD)
  (m' : (ℓ : Loc Cert.Reference15Ideal.nD Cert.Reference15Ideal.τ Cert.Reference15Ideal.sig) → Buf (Elt Ideal) ℓ)

/-- The norm the reference works on. -/
abbrev theirs : Norm 2048 :=
  holding (m' (c.tc.loc Cert.Reference15Ideal.main_arg0)) (m' (c.tc.loc Cert.Reference15Ideal.main_arg4))
    (m' (c.tc.loc Cert.Reference15Ideal.main_arg5)) (m' (c.tc.loc Cert.Reference15Ideal.main_arg1))
    (m' (c.tc.loc Cert.Reference15Ideal.main_arg2))

/-- The two programs' arguments agree. -/
theorem same (h0 : m' (c.tc.loc Cert.Reference15Ideal.main_arg0) = m (c.tc.loc main_arg0))
    (h1 : m' (c.tc.loc Cert.Reference15Ideal.main_arg1) = m (c.tc.loc main_arg1))
    (h2 : m' (c.tc.loc Cert.Reference15Ideal.main_arg2) = m (c.tc.loc main_arg2))
    (h4 : m' (c.tc.loc Cert.Reference15Ideal.main_arg4) = m (c.tc.loc main_arg4))
    (h5 : m' (c.tc.loc Cert.Reference15Ideal.main_arg5) = m (c.tc.loc main_arg5)) : theirs c m' = whole m c := by
  rw [theirs, h0, h1, h2, h4, h5]
  rfl

/-- The reference's gradient of the input at an entry. -/
theorem ref_x (r : Fin 2048) (q : Fin 1024) : Cert.Reference15Ideal.Value.res_main_v48 m' c (ix2 r q) = (theirs c m').gX r q :=
  gX_at _ _ _ _ _ r q

/-- Products with the cotangent `x` of the branch, at an entry. -/
theorem ref_out (gt : FVec Ideal Cert.Reference8Ideal.S1x1024 .f32) (x : FVec Ideal Cert.Reference8Ideal.S2048x1024 .f32)
    (lt : FTy.bf16.bits < FTy.f32.bits) (r : Fin 2048) (q : Fin 1024) :
    truncf .bf16 (mulf (down gt) x) lt (ix2 r q) = gt (ix2 0 q) * x (ix2 r q) := by
  pointwise

@[inherit_doc ref_out]
theorem ref_prod (x f : FVec Ideal Cert.Reference8Ideal.S2048x1024 .f32) (r : Fin 2048) (q : Fin 1024) :
    mulf x f (ix2 r q) = x (ix2 r q) * f (ix2 r q) := by
  pointwise

set_option maxHeartbeats 4000000 in
theorem algebraic : Cert.algebraic_Kernel15Ideal_Reference15Ideal := by
  pair_intro
  · run_from Cert.Kernel15Ideal.Gen.run_main m g & Cert.Kernel15Ideal.Gen.unchanged m g
  · refine Idealize.ShloMosaic.θ_run_mono (Cert.Reference15Ideal.Value.run m' g') fun r hr c => ?_
    obtain ⟨h0, h1, h2, h3, h4, h5, h6, h7⟩ := hagree c
    have hs := same m c m' h0 h1 h2 h4 h5
    obtain ⟨r0, r1, r2, r3, r4, r5, ha⟩ := hr c
    refine ⟨r0.trans ?_, r1.trans ?_, r2.trans ?_, r3.trans ?_, r4.trans ?_, r5.trans ?_, ha⟩
    · rw [all_x]
      funext i
      idx_vars i
      exact (ref_x c m' i0 i1).trans (congrArg (Norm.gX · i0 i1) hs)
    · rw [all_branch]
      funext i
      idx_vars i
      refine (ref_out _ (Cert.Reference15Ideal.Value.res_main_v48 m' c) _ i0 i1).trans ?_
      rw [ref_x, hs, h7]
      rfl
    · rw [all_gain]
      funext i
      idx_vars i
      obtain rfl := Fin.fin_one_eq_zero i0
      exact (gGain_at _ _ _ _ _ i1).trans (congrArg (fun n => ∑ r : Fin 2048, Norm.gGain n r i1) hs)
    · rw [all_scale]
      funext i
      idx_vars i
      obtain rfl := Fin.fin_one_eq_zero i0
      exact (gScale_at _ _ _ _ _ i1).trans (congrArg (fun n => ∑ r : Fin 2048, Norm.gScale n r i1) hs)
    · rw [all_shift]
      funext i
      idx_vars i
      obtain rfl := Fin.fin_one_eq_zero i0
      exact (sum_at _ i1).trans (congrArg (fun n => ∑ r : Fin 2048, Norm.D n r i1) hs)
    · rw [all_gate]
      funext i
      idx_vars i
      obtain rfl := Fin.fin_one_eq_zero i0
      refine (sum_at (mulf (Cert.Reference15Ideal.Value.res_main_v48 m' c) _) i1).trans (Finset.sum_congr rfl fun r _ => ?_)
      rw [ref_prod]
      rw [ref_x, hs, h6]
      rfl

end Cert.Kernel15Ideal.Value

end
-- ==== Proof.DwIn.lean ====
/- The gradient of the mixer's input matrix: the product's column blocks, and the reference's. -/
module

public import proofs.«01_k».proof.Defs
public import proofs.«01_k».proof.Proof.Gen.Kernel17Ideal.Frame
public import proofs.«01_k».proof.Proof.Gen.Reference17Ideal
public import proofs.«01_k».proof.Proof.Gen.Reference17Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ) (c : Dev nD)

/-- The two arguments, and an entry of the product of the first, transposed, with the second. -/
abbrev hIn : Vec Ideal S2048x1024 .f32 := m ((c : Thread nD τ).loc main_arg0)
@[inherit_doc hIn] abbrev dIn : Vec Ideal S2048x6144 .f32 := m ((c : Thread nD τ).loc main_arg1)
@[inherit_doc hIn] def entry (p : Fin 8) (a : Fin 1024) (b : Fin 768) : EReal :=
  ∑ k : Fin 2048, hIn m c (ix2 k a) * dIn m c (ix2 k ⟨p.val * 768 + b.val, by omega⟩)

/-- What a point stores, from its two blocks. -/
theorem block_at (x : Vec Ideal S2048x1024 .bf16) (y : Vec Ideal S2048x768 .bf16) (a : Fin 1024) (b : Fin 768) :
    k0_pay1 (F := Ideal) x y (ix3 0 a b) = ∑ k : Fin 2048, x (ix2 k a) * y (ix2 k b) := by
  pointwise [k0_pay1]

/-- Every window's block index: block `t` of the columns. -/
theorem idx : ∀ t : Fin cfg0.N, win0_0.index t = ![0, 0] ∧ win0_1.index t = ![0, t.val] ∧ win0_2.index t = ![t.val, 0, 0] :=
  (by decide +kernel : ∀ t : Fin grid0.N, _)

theorem made_h (k : Fin 2048) (a : Fin 1024) : V m c main_v0 (ix2 k a) = hIn m c (ix2 k a) := by
  entry_read
  pointwise

theorem made_d (k : Fin 2048) (b : Fin 6144) : V m c main_v1 (ix2 k b) = dIn m c (ix2 k b) := by
  entry_read
  pointwise

variable (t : Fin cfg0.N)

theorem lt8 : t.val < 8 := lt_of_lt_of_eq t.isLt N_0

theorem read_h (k : Fin 2048) (a : Fin 1024) : iblk m c 0 t (ix2 k a) = hIn m c (ix2 k a) := by
  refine Eq.trans ?_ (made_h m c k a)
  unfold iblk
  blk_ext [idx t]

theorem read_d (k : Fin 2048) (b : Fin 768) :
    iblk m c 1 t (ix2 k b) = dIn m c (ix2 k ⟨t.val * 768 + b.val, by have h := lt8 t; omega⟩) := by
  refine Eq.trans ?_ (made_d m c k ⟨t.val * 768 + b.val, by have h := lt8 t; omega⟩)
  unfold iblk
  blk_ext [idx t]

theorem left (a : Fin 1024) (b : Fin 768) : (dats m 0 c).after 2 t (ix3 0 a b) = entry m c ⟨t.val, lt8 t⟩ a b := by
  rw [after0_2, show out0_2 (iblk m c 0 t) (iblk m c 1 t) = k0_pay1 (F := Ideal) (iblk m c 0 t) (iblk m c 1 t) by frame_out, block_at, entry]
  simp only [read_h, read_d]

theorem all : (dats m 0 c).arrAt 2 (cfgs 0).N = fun i : S8x1024x768.Idx => entry m c (i 0) (i 1) (i 2) := by
  refine (dats m 0 c).arrAt_eq_of_covers 2 _ (by decide +kernel) fun t hf y => ?_
  obtain ⟨e0, e1, e2⟩ := idx t
  idx_vars y
  obtain rfl := Fin.fin_one_eq_zero y0
  blk_simp
  refine (left m c t _ _).trans ?_
  congr 1 <;> refine Fin.ext ?_ <;> blk_simp [e2] <;> rfl

theorem algebraic : Cert.algebraic_Kernel17Ideal_Reference17Ideal := by
  pair_intro
  · run_from Cert.Kernel17Ideal.Gen.run_main m g
  · run_from Cert.Reference17Ideal.Value.run m' g'
    · refine Eq.trans ?_ (all m c).symm
      funext i
      idx_vars i
      pointwise [entry]

end Cert.Kernel17Ideal.Value

end
-- ==== Proof.DwGateUp.lean ====
/- The gradients of a feed-forward's two input matrices: the two products' column blocks, and the reference's. -/
module

public import proofs.«01_k».proof.Defs
public import proofs.«01_k».proof.Proof.Gen.Kernel18Ideal.Frame
public import proofs.«01_k».proof.Proof.Gen.Reference18Ideal
public import proofs.«01_k».proof.Proof.Gen.Reference18Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ) (c : Dev nD)

/-- The normed input, and an entry of its product, transposed, with a cotangent. -/
abbrev hIn : Vec Ideal S2048x1024 .f32 := m ((c : Thread nD τ).loc main_arg0)
@[inherit_doc hIn] def entry (d : Vec Ideal S2048x4096 .f32) (p : Fin 8) (a : Fin 1024) (b : Fin 512) : EReal :=
  ∑ k : Fin 2048, hIn m c (ix2 k a) * d (ix2 k ⟨p.val * 512 + b.val, by omega⟩)
/-- The two cotangents. -/
abbrev dGate : Vec Ideal S2048x4096 .f32 := m ((c : Thread nD τ).loc main_arg1)
@[inherit_doc dGate] abbrev dUp : Vec Ideal S2048x4096 .f32 := m ((c : Thread nD τ).loc main_arg2)

/-- What a point stores, from its blocks. -/
theorem block_at (x : Vec Ideal S2048x1024 .bf16) (y : Vec Ideal S2048x512 .bf16) (a : Fin 1024) (b : Fin 512) :
    k0_pay2 (F := Ideal) x y (ix3 0 a b) = ∑ k : Fin 2048, x (ix2 k a) * y (ix2 k b)
    ∧ k0_pay3 (F := Ideal) x y (ix3 0 a b) = ∑ k : Fin 2048, x (ix2 k a) * y (ix2 k b) := by
  constructor <;> pointwise [k0_pay2, k0_pay3, k0_pay1]

theorem idx : ∀ t : Fin cfg0.N, win0_0.index t = ![0, 0] ∧ win0_1.index t = ![0, t.val] ∧ win0_2.index t = ![0, t.val]
    ∧ win0_3.index t = ![t.val, 0, 0] ∧ win0_4.index t = ![t.val, 0, 0] :=
  (by decide +kernel : ∀ t : Fin grid0.N, _)

theorem made_h (k : Fin 2048) (a : Fin 1024) : V m c main_v0 (ix2 k a) = hIn m c (ix2 k a) := by
  entry_read
  pointwise

theorem made_d (k : Fin 2048) (b : Fin 4096) : V m c main_v1 (ix2 k b) = dGate m c (ix2 k b) ∧ V m c main_v2 (ix2 k b) = dUp m c (ix2 k b) := by
  constructor <;> (entry_read; pointwise)

variable (t : Fin cfg0.N)

theorem lt8 : t.val < 8 := lt_of_lt_of_eq t.isLt N_0

/-- The point's column `b` of the cotangents. -/
abbrev col (b : Fin 512) : Fin 4096 := ⟨t.val * 512 + b.val, by have h := lt8 t; omega⟩

theorem read_h (k : Fin 2048) (a : Fin 1024) : iblk m c 0 t (ix2 k a) = hIn m c (ix2 k a) := by
  refine Eq.trans ?_ (made_h m c k a)
  unfold iblk
  blk_ext [idx t]

theorem read_gate (k : Fin 2048) (b : Fin 512) : iblk m c 1 t (ix2 k b) = dGate m c (ix2 k (col t b)) := by
  refine Eq.trans ?_ (made_d m c k (col t b)).1
  unfold iblk
  blk_ext [idx t]

theorem read_up (k : Fin 2048) (b : Fin 512) : iblk m c 2 t (ix2 k b) = dUp m c (ix2 k (col t b)) := by
  refine Eq.trans ?_ (made_d m c k (col t b)).2
  unfold iblk
  blk_ext [idx t]

theorem left (a : Fin 1024) (b : Fin 512) : (dats m 0 c).after 3 t (ix3 0 a b) = entry m c (dGate m c) ⟨t.val, lt8 t⟩ a b
    ∧ (dats m 0 c).after 4 t (ix3 0 a b) = entry m c (dUp m c) ⟨t.val, lt8 t⟩ a b := by
  constructor
  · rw [after0_3, show out0_3 (iblk m c 0 t) (iblk m c 1 t) (iblk m c 2 t) = k0_pay2 (F := Ideal) (iblk m c 0 t) (iblk m c 1 t) by frame_out,
      (block_at _ _ a b).1, entry]
    simp only [read_h, read_gate]
  · rw [after0_4, show out0_4 (iblk m c 0 t) (iblk m c 1 t) (iblk m c 2 t) = k0_pay3 (F := Ideal) (iblk m c 0 t) (iblk m c 2 t) by frame_out,
      (block_at _ _ a b).2, entry]
    simp only [read_h, read_up]

theorem all_gate : (dats m 0 c).arrAt 3 (cfgs 0).N = fun i : S8x1024x512.Idx => entry m c (dGate m c) (i 0) (i 1) (i 2) := by
  refine (dats m 0 c).arrAt_eq_of_covers 3 _ (by decide +kernel) fun t hf y => ?_
  obtain ⟨e0, e1, e2, e3, e4⟩ := idx t
  idx_vars y
  obtain rfl := Fin.fin_one_eq_zero y0
  blk_simp
  refine (left m c t _ _).1.trans ?_
  congr 1 <;> refine Fin.ext ?_ <;> blk_simp [e3] <;> rfl

theorem all_up : (dats m 0 c).arrAt 4 (cfgs 0).N = fun i : S8x1024x512.Idx => entry m c (dUp m c) (i 0) (i 1) (i 2) := by
  refine (dats m 0 c).arrAt_eq_of_covers 4 _ (by decide +kernel) fun t hf y => ?_
  obtain ⟨e0, e1, e2, e3, e4⟩ := idx t
  idx_vars y
  obtain rfl := Fin.fin_one_eq_zero y0
  blk_simp
  refine (left m c t _ _).2.trans ?_
  congr 1 <;> refine Fin.ext ?_ <;> blk_simp [e4] <;> rfl

theorem algebraic : Cert.algebraic_Kernel18Ideal_Reference18Ideal := by
  pair_intro
  · run_from Cert.Kernel18Ideal.Gen.run_main m g
  · run_from Cert.Reference18Ideal.Value.run m' g'
    · refine Eq.trans ?_ (all_gate m c).symm
      funext i
      idx_vars i
      pointwise [entry]
    · refine Eq.trans ?_ (all_up m c).symm
      funext i
      idx_vars i
      pointwise [entry]

end Cert.Kernel18Ideal.Value

end
-- ==== Proof.DwDown.lean ====
/- The gradient of a feed-forward's output matrix: the product in row tiles, and the reference's. -/
module

public import proofs.«01_k».proof.Defs
public import proofs.«01_k».proof.Proof.Gen.Kernel19Ideal.Frame
public import proofs.«01_k».proof.Proof.Gen.Reference19Ideal
public import proofs.«01_k».proof.Proof.Gen.Reference19Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ) (c : Dev nD)

/-- The hidden value, the cotangent, and an entry of their product. -/
abbrev act : Vec Ideal S2048x4096 .f32 := m ((c : Thread nD τ).loc main_arg0)
@[inherit_doc act] abbrev df : Vec Ideal S2048x1024 .f32 := m ((c : Thread nD τ).loc main_arg1)
@[inherit_doc act] def entry (a : Fin 4096) (b : Fin 1024) : EReal := ∑ k : Fin 2048, act m c (ix2 k a) * df m c (ix2 k b)

/-- What a point stores, from its two blocks. -/
theorem block_at (x : Vec Ideal S2048x512 .bf16) (y : Vec Ideal S2048x1024 .bf16) (a : Fin 512) (b : Fin 1024) :
    k0_pay1 (F := Ideal) x y (ix2 a b) = ∑ k : Fin 2048, x (ix2 k a) * y (ix2 k b) := by
  pointwise [k0_pay1]

theorem idx : ∀ t : Fin cfg0.N, win0_0.index t = ![0, t.val] ∧ win0_1.index t = ![0, 0] ∧ win0_2.index t = ![t.val, 0] :=
  (by decide +kernel : ∀ t : Fin grid0.N, _)

theorem made_act (k : Fin 2048) (a : Fin 4096) : V m c main_v0 (ix2 k a) = act m c (ix2 k a) := by
  entry_read
  pointwise

theorem made_df (k : Fin 2048) (b : Fin 1024) : V m c main_v1 (ix2 k b) = df m c (ix2 k b) := by
  entry_read
  pointwise

variable (t : Fin cfg0.N)

/-- The point's row `a` of the result. -/
abbrev row (a : Fin 512) : Fin 4096 := ⟨t.val * 512 + a.val, by have h : t.val < 8 := lt_of_lt_of_eq t.isLt N_0; omega⟩

theorem read_act (k : Fin 2048) (a : Fin 512) : iblk m c 0 t (ix2 k a) = act m c (ix2 k (row t a)) := by
  refine Eq.trans ?_ (made_act m c k (row t a))
  unfold iblk
  blk_ext [idx t]

theorem read_df (k : Fin 2048) (b : Fin 1024) : iblk m c 1 t (ix2 k b) = df m c (ix2 k b) := by
  refine Eq.trans ?_ (made_df m c k b)
  unfold iblk
  blk_ext [idx t]

theorem left (a : Fin 512) (b : Fin 1024) : (dats m 0 c).after 2 t (ix2 a b) = entry m c (row t a) b := by
  rw [after0_2, show out0_2 (iblk m c 0 t) (iblk m c 1 t) = k0_pay1 (F := Ideal) (iblk m c 0 t) (iblk m c 1 t) by frame_out, block_at, entry]
  simp only [read_act, read_df]

theorem all : (dats m 0 c).arrAt 2 (cfgs 0).N = fun i : S4096x1024.Idx => entry m c (i 0) (i 1) := by
  refine (dats m 0 c).arrAt_eq_of_covers 2 _ (by decide +kernel) fun t hf y => ?_
  obtain ⟨e0, e1, e2⟩ := idx t
  idx_vars y
  blk_simp
  refine (left m c t _ _).trans ?_
  refine congrArg₂ (entry m c) (Fin.ext ?_) (Fin.ext ?_) <;> blk_simp [e2]

theorem algebraic : Cert.algebraic_Kernel19Ideal_Reference19Ideal := by
  pair_intro
  · run_from Cert.Kernel19Ideal.Gen.run_main m g
  · run_from Cert.Reference19Ideal.Value.run m' g'
    · refine Eq.trans ?_ (all m c).symm
      funext i
      idx_vars i
      pointwise [entry]

end Cert.Kernel19Ideal.Value

end
-- ==== Proof.DwSquare.lean ====
/- The gradients of the mixer's three square matrices: the products in row tiles, and the reference's. -/
module

public import proofs.«01_k».proof.Defs
public import proofs.«01_k».proof.Proof.Gen.Kernel20Ideal.Frame
public import proofs.«01_k».proof.Proof.Gen.Reference20Ideal
public import proofs.«01_k».proof.Proof.Gen.Reference20Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen

/-- An entry of a product of two arrays, the first transposed. -/
def entry (x y : Vec Ideal S2048x1024 .f32) (a b : Fin 1024) : EReal := ∑ k : Fin 2048, x (ix2 k a) * y (ix2 k b)

/-- What a point stores, from two of its blocks; the three products are one function. -/
theorem block_at (x : Vec Ideal S2048x512 .bf16) (y : Vec Ideal S2048x1024 .bf16) (a : Fin 512) (b : Fin 1024) :
    k0_pay1 (F := Ideal) x y (ix2 a b) = ∑ k : Fin 2048, x (ix2 k a) * y (ix2 k b) := by
  pointwise [k0_pay1]
@[inherit_doc block_at] theorem same : @k0_pay2 Ideal _ = @k0_pay1 Ideal _ ∧ @k0_pay3 Ideal _ = @k0_pay1 Ideal _ := ⟨rfl, rfl⟩

variable (m : (ℓ : Loc nD τ sig) → Buf (Elt Ideal) ℓ) (c : Dev nD)

theorem idx : ∀ t : Fin cfg0.N, win0_0.index t = ![0, t.val] ∧ win0_1.index t = ![0, 0] ∧ win0_2.index t = ![0, t.val]
    ∧ win0_3.index t = ![0, 0] ∧ win0_4.index t = ![0, t.val] ∧ win0_5.index t = ![0, 0] ∧ win0_6.index t = ![t.val, 0]
    ∧ win0_7.index t = ![t.val, 0] ∧ win0_8.index t = ![t.val, 0] :=
  (by decide +kernel : ∀ t : Fin grid0.N, _)

/-- The six arguments. -/
abbrev arg (w : Fin 6) : Vec Ideal S2048x1024 .f32 := match w with
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)

theorem made (k : Fin 2048) (a : Fin 1024) : V m c main_v0 (ix2 k a) = arg m c 0 (ix2 k a) ∧ V m c main_v1 (ix2 k a) = arg m c 1 (ix2 k a)
    ∧ V m c main_v2 (ix2 k a) = arg m c 2 (ix2 k a) ∧ V m c main_v3 (ix2 k a) = arg m c 3 (ix2 k a)
    ∧ V m c main_v4 (ix2 k a) = arg m c 4 (ix2 k a) ∧ V m c main_v5 (ix2 k a) = arg m c 5 (ix2 k a) := by
  refine ⟨?_, ?_, ?_, ?_, ?_, ?_⟩ <;> (entry_read; pointwise)

variable (t : Fin cfg0.N)

/-- The point's row `a` of the results. -/
abbrev row (a : Fin 512) : Fin 1024 := ⟨t.val * 512 + a.val, by have h : t.val < 2 := lt_of_lt_of_eq t.isLt N_0; omega⟩

theorem read_left (k : Fin 2048) (a : Fin 512) : iblk m c 0 t (ix2 k a) = arg m c 0 (ix2 k (row t a))
    ∧ iblk m c 2 t (ix2 k a) = arg m c 2 (ix2 k (row t a)) ∧ iblk m c 4 t (ix2 k a) = arg m c 4 (ix2 k (row t a)) := by
  obtain ⟨h0, h1, h2, h3, h4, h5⟩ := made m c k (row t a)
  refine ⟨Eq.trans ?_ h0, Eq.trans ?_ h2, Eq.trans ?_ h4⟩ <;> (unfold iblk; blk_ext [idx t])

theorem read_right (k : Fin 2048) (b : Fin 1024) : iblk m c 1 t (ix2 k b) = arg m c 1 (ix2 k b)
    ∧ iblk m c 3 t (ix2 k b) = arg m c 3 (ix2 k b) ∧ iblk m c 5 t (ix2 k b) = arg m c 5 (ix2 k b) := by
  obtain ⟨h0, h1, h2, h3, h4, h5⟩ := made m c k b
  refine ⟨Eq.trans ?_ h1, Eq.trans ?_ h3, Eq.trans ?_ h5⟩ <;> (unfold iblk; blk_ext [idx t])

theorem left (a : Fin 512) (b : Fin 1024) : (dats m 0 c).after 6 t (ix2 a b) = entry (arg m c 0) (arg m c 1) (row t a) b
    ∧ (dats m 0 c).after 7 t (ix2 a b) = entry (arg m c 2) (arg m c 3) (row t a) b
    ∧ (dats m 0 c).after 8 t (ix2 a b) = entry (arg m c 4) (arg m c 5) (row t a) b := by
  refine ⟨?_, ?_, ?_⟩
  · rw [after0_6, show out0_6 (iblk m c 0 t) (iblk m c 1 t) (iblk m c 2 t) (iblk m c 3 t) (iblk m c 4 t) (iblk m c 5 t)
      = k0_pay1 (F := Ideal) (iblk m c 0 t) (iblk m c 1 t) by frame_out, block_at, entry]
    simp only [read_left, read_right]
  · rw [after0_7, show out0_7 (iblk m c 0 t) (iblk m c 1 t) (iblk m c 2 t) (iblk m c 3 t) (iblk m c 4 t) (iblk m c 5 t)
      = k0_pay2 (F := Ideal) (iblk m c 2 t) (iblk m c 3 t) by frame_out, same.1, block_at, entry]
    simp only [read_left, read_right]
  · rw [after0_8, show out0_8 (iblk m c 0 t) (iblk m c 1 t) (iblk m c 2 t) (iblk m c 3 t) (iblk m c 4 t) (iblk m c 5 t)
      = k0_pay3 (F := Ideal) (iblk m c 4 t) (iblk m c 5 t) by frame_out, same.2, block_at, entry]
    simp only [read_left, read_right]

/-- The three result arrays, whole. -/
theorem all_o : (dats m 0 c).arrAt 6 (cfgs 0).N = fun i : S1024x1024.Idx => entry (arg m c 0) (arg m c 1) (i 0) (i 1) := by
  refine (dats m 0 c).arrAt_eq_of_covers 6 _ (by decide +kernel) fun t hf y => ?_
  obtain ⟨e0, e1, e2, e3, e4, e5, e6, e7, e8⟩ := idx t
  idx_vars y
  blk_simp
  refine (left m c t _ _).1.trans ?_
  refine congrArg₂ (entry _ _) (Fin.ext ?_) (Fin.ext ?_) <;> blk_simp [e6]

@[inherit_doc all_o]
theorem all_a : (dats m 0 c).arrAt 7 (cfgs 0).N = fun i : S1024x1024.Idx => entry (arg m c 2) (arg m c 3) (i 0) (i 1) := by
  refine (dats m 0 c).arrAt_eq_of_covers 7 _ (by decide +kernel) fun t hf y => ?_
  obtain ⟨e0, e1, e2, e3, e4, e5, e6, e7, e8⟩ := idx t
  idx_vars y
  blk_simp
  refine (left m c t _ _).2.1.trans ?_
  refine congrArg₂ (entry _ _) (Fin.ext ?_) (Fin.ext ?_) <;> blk_simp [e7]

@[inherit_doc all_o]
theorem all_b : (dats m 0 c).arrAt 8 (cfgs 0).N = fun i : S1024x1024.Idx => entry (arg m c 4) (arg m c 5) (i 0) (i 1) := by
  refine (dats m 0 c).arrAt_eq_of_covers 8 _ (by decide +kernel) fun t hf y => ?_
  obtain ⟨e0, e1, e2, e3, e4, e5, e6, e7, e8⟩ := idx t
  idx_vars y
  blk_simp
  refine (left m c t _ _).2.2.trans ?_
  refine congrArg₂ (entry _ _) (Fin.ext ?_) (Fin.ext ?_) <;> blk_simp [e8]

theorem algebraic : Cert.algebraic_Kernel20Ideal_Reference20Ideal := by
  pair_intro
  · run_from Cert.Kernel20Ideal.Gen.run_main m g
  · run_from Cert.Reference20Ideal.Value.run m' g'
    · refine Eq.trans ?_ (all_o m c).symm
      funext i
      idx_vars i
      pointwise [entry]
    · refine Eq.trans ?_ (all_a m c).symm
      funext i
      idx_vars i
      pointwise [entry]
    · refine Eq.trans ?_ (all_b m c).symm
      funext i
      idx_vars i
      pointwise [entry]

end Cert.Kernel20Ideal.Value

end
-- ==== Proof.MixIn.lean ====
/- The mixer's input product: its tiles, and the reference's. -/
module

public import proofs.«01_k».proof.Defs
public import proofs.«01_k».proof.Proof.Gen.Kernel21Ideal.Frame
public import proofs.«01_k».proof.Proof.Gen.Reference21Ideal
public import proofs.«01_k».proof.Proof.Gen.Reference21Ideal.Run
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ) (c : Dev nD)

/-- The normed input, the matrix, and an entry of their product. -/
abbrev hIn : Vec Ideal S2048x1024 .f32 := m ((c : Thread nD τ).loc main_arg0)
@[inherit_doc hIn] abbrev wIn : Vec Ideal S1024x6144 .f32 := m ((c : Thread nD τ).loc main_arg1)
@[inherit_doc hIn] def entry (a : Fin 2048) (b : Fin 6144) : EReal := ∑ k : Fin 1024, hIn m c (ix2 a k) * wIn m c (ix2 k b)

/-- What a point stores, from its two blocks. -/
theorem block_at (x : Vec Ideal S1024x1024 .bf16) (y : Vec Ideal S1x1024x768 .bf16) (a : Fin 1024) (b : Fin 768) :
    k0_pay1 (F := Ideal) x y (ix2 a b) = ∑ k : Fin 1024, x (ix2 a k) * y (ix3 0 k b) := by
  pointwise [k0_pay1]

theorem idx : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

theorem made_h (a : Fin 2048) (k : Fin 1024) : V m c main_v0 (ix2 a k) = hIn m c (ix2 a k) := by
  entry_read
  pointwise

theorem made_w (p : Fin 8) (k : Fin 1024) (b : Fin 768) :
    V m c main_v3 (ix3 p k b) = wIn m c (ix2 k ⟨p.val * 768 + b.val, by omega⟩) := by
  entry_read
  pointwise

variable (t : Fin cfg0.N)

/-- The point's row and column of the result. -/
abbrev row (a : Fin 1024) : Fin 2048 := ⟨t.val / 8 * 1024 + a.val, by have h : t.val < 16 := lt_of_lt_of_eq t.isLt N_0; omega⟩
@[inherit_doc row] abbrev col (b : Fin 768) : Fin 6144 := ⟨t.val % 8 * 768 + b.val, by omega⟩

theorem read_h (a k : Fin 1024) : iblk m c 0 t (ix2 a k) = hIn m c (ix2 (row t a) k) := by
  refine Eq.trans ?_ (made_h m c (row t a) k)
  unfold iblk
  blk_ext [idx t]

theorem read_w (k : Fin 1024) (b : Fin 768) : iblk m c 1 t (ix3 0 k b) = wIn m c (ix2 k (col t b)) := by
  refine Eq.trans ?_ (made_w m c ⟨t.val % 8, by omega⟩ k b)
  unfold iblk
  blk_ext [idx t]

theorem left (a : Fin 1024) (b : Fin 768) : (dats m 0 c).after 2 t (ix2 a b) = entry m c (row t a) (col t b) := by
  rw [after0_2, show out0_2 (iblk m c 0 t) (iblk m c 1 t) = k0_pay1 (F := Ideal) (iblk m c 0 t) (iblk m c 1 t) by frame_out, block_at, entry]
  simp only [read_h, read_w]

theorem all : (dats m 0 c).arrAt 2 (cfgs 0).N = fun i : S2048x6144.Idx => entry m c (i 0) (i 1) := by
  refine (dats m 0 c).arrAt_eq_of_covers 2 _ (by decide +kernel) fun t hf y => ?_
  obtain ⟨e0, e1, e2⟩ := idx t
  idx_vars y
  blk_simp
  refine (left m c t _ _).trans ?_
  refine congrArg₂ (entry m c) (Fin.ext ?_) (Fin.ext ?_) <;> blk_simp [e2]

theorem algebraic : Cert.algebraic_Kernel21Ideal_Reference21Ideal := by
  pair_intro
  · run_from Cert.Kernel21Ideal.Gen.run_main m g
  · run_from Cert.Reference21Ideal.Value.run m' g'
    · refine Eq.trans ?_ (all m c).symm
      funext i
      idx_vars i
      pointwise [entry]

end Cert.Kernel21Ideal.Value

end
-- ==== Proof.FfnDh.lean ====
/- The cotangent of a feed-forward's input: two products added over the column blocks, and the reference's. -/
module

public import proofs.«01_k».proof.Defs
public import proofs.«01_k».proof.Proof.Gen.Kernel22Ideal.Frame
public import proofs.«01_k».proof.Proof.Gen.Reference22Ideal
public import proofs.«01_k».proof.Proof.Gen.Reference22Ideal.Run
public import proofs.«01_k».proof.Proof.Scalars
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen

section payloads
variable (x y : Vec Ideal S1024x512 .bf16) (w u : Vec Ideal S1x1024x512 .bf16) (r q : Fin 1024)

/-- A point's part of the two products. -/
theorem part_at : k0_pay1 (F := Ideal) x w y u (ix2 r q)
    = (∑ k : Fin 512, x (ix2 r k) * w (ix3 0 q k)) + ∑ k : Fin 512, y (ix2 r k) * u (ix3 0 q k) := by
  pointwise [k0_pay1]

@[inherit_doc part_at] theorem step_at (acc : Vec Ideal S1024x1024 .f32) : k0_pay2 (F := Ideal) acc x w y u (ix2 r q)
    = acc (ix2 r q) + k0_pay1 (F := Ideal) x w y u (ix2 r q) := by
  pointwise [k0_pay2, k0_pay1]

end payloads

variable (m : (ℓ : Loc nD τ sig) → Buf (Elt Ideal) ℓ) (c : Dev nD)

/-- The two cotangents and the two matrices. -/
abbrev dGate : Vec Ideal S2048x4096 .f32 := m ((c : Thread nD τ).loc main_arg0)
@[inherit_doc dGate] abbrev dUp : Vec Ideal S2048x4096 .f32 := m ((c : Thread nD τ).loc main_arg1)
@[inherit_doc dGate] abbrev wGate : Vec Ideal S1024x4096 .f32 := m ((c : Thread nD τ).loc main_arg2)
@[inherit_doc dGate] abbrev wUp : Vec Ideal S1024x4096 .f32 := m ((c : Thread nD τ).loc main_arg3)

/-- An entry of a product with a matrix transposed, and of the two products' sum. -/
def through (x : Vec Ideal S2048x4096 .f32) (w : Vec Ideal S1024x4096 .f32) (r : Fin 2048) (q : Fin 1024) : EReal :=
  ∑ k : Fin 4096, x (ix2 r k) * w (ix2 q k)
@[inherit_doc through] def entry (r : Fin 2048) (q : Fin 1024) : EReal :=
  through (dGate m c) (wGate m c) r q + through (dUp m c) (wUp m c) r q

theorem idx : ∀ t : Fin cfg0.N, win0_0.index t = ![t.val / 8, t.val % 8] ∧ win0_1.index t = ![t.val % 8, 0, 0]
    ∧ win0_2.index t = ![t.val / 8, t.val % 8] ∧ win0_3.index t = ![t.val % 8, 0, 0] ∧ win0_4.index t = ![t.val / 8, 0] :=
  (by decide +kernel : ∀ t : Fin grid0.N, _)

/-- What the host's lines hand to the kernel. -/
theorem made_d (r : Fin 2048) (k : Fin 4096) : V m c main_v0 (ix2 r k) = dGate m c (ix2 r k) ∧ V m c main_v1 (ix2 r k) = dUp m c (ix2 r k) := by
  constructor <;> (entry_read; pointwise)

@[inherit_doc made_d]
theorem made_w (p : Fin 8) (q : Fin 1024) (k : Fin 512) : V m c main_v4 (ix3 p q k) = wGate m c (ix2 q ⟨p.val * 512 + k.val, by omega⟩)
    ∧ V m c main_v7 (ix3 p q k) = wUp m c (ix2 q ⟨p.val * 512 + k.val, by omega⟩) := by
  constructor <;> (entry_read; pointwise)

variable (t : Fin cfg0.N)

/-- The point's rows, and its columns of the cotangents. -/
abbrev row (r : Fin 1024) : Fin 2048 := ⟨t.val / 8 * 1024 + r.val, by have h : t.val < 16 := lt_of_lt_of_eq t.isLt N_0; omega⟩
@[inherit_doc row] abbrev col (k : Fin 512) : Fin 4096 := ⟨t.val % 8 * 512 + k.val, by omega⟩

theorem read_d (r : Fin 1024) (k : Fin 512) : iblk m c 0 t (ix2 r k) = dGate m c (ix2 (row t r) (col t k))
    ∧ iblk m c 2 t (ix2 r k) = dUp m c (ix2 (row t r) (col t k)) := by
  obtain ⟨h0, h1⟩ := made_d m c (row t r) (col t k)
  refine ⟨Eq.trans ?_ h0, Eq.trans ?_ h1⟩ <;> (unfold iblk; blk_ext [idx t])

theorem read_w (q : Fin 1024) (k : Fin 512) : iblk m c 1 t (ix3 0 q k) = wGate m c (ix2 q (col t k))
    ∧ iblk m c 3 t (ix3 0 q k) = wUp m c (ix2 q (col t k)) := by
  obtain ⟨h0, h1⟩ := made_w m c ⟨t.val % 8, by omega⟩ q k
  refine ⟨Eq.trans ?_ h0, Eq.trans ?_ h1⟩ <;> (unfold iblk; blk_ext [idx t])

/-- The point's part, in the arguments. -/
theorem part_eq (r q : Fin 1024) : k0_pay1 (F := Ideal) (iblk m c 0 t) (iblk m c 1 t) (iblk m c 2 t) (iblk m c 3 t) (ix2 r q)
    = (∑ k : Fin 512, dGate m c (ix2 (row t r) (col t k)) * wGate m c (ix2 q (col t k)))
      + ∑ k : Fin 512, dUp m c (ix2 (row t r) (col t k)) * wUp m c (ix2 q (col t k)) := by
  rw [part_at]
  simp only [read_d, read_w]

/-- The running sum: set at a row tile's first point, added to at the others. -/
theorem sum_first (h0 : t.val % 8 = 0) (i : S1024x1024.Idx) : (outsAt0 m c t.val t.isLt).2 i
    = 0 + k0_pay1 (F := Ideal) (iblk m c 0 t) (iblk m c 1 t) (iblk m c 2 t) (iblk m c 3 t) i := by
  rw [outsAt0_A m c t h0 (by omega) (by omega), zero_add]
  frame_out

@[inherit_doc sum_first] theorem sum_step (h0 : ¬t.val % 8 = 0) (i : S1024x1024.Idx) : (outsAt0 m c t.val t.isLt).2 i
    = (outsAt0 m c (t.val - 1) (Nat.lt_of_le_of_lt (Nat.sub_le _ _) t.isLt)).2 i
      + k0_pay1 (F := Ideal) (iblk m c 0 t) (iblk m c 1 t) (iblk m c 2 t) (iblk m c 3 t) i := by
  idx_vars i
  by_cases h2 : t.val % 8 = 7
  · rw [outsAt0_C m c t h0 (by omega) h2]
    frame_out
    rw [step_at, read_unread_whole]
  · rw [outsAt0_B m c t h0 (by omega) h2]
    frame_out
    rw [step_at, read_unread_whole]

/-- A row tile's last point holds both whole products. -/
theorem sum_last (h3 : t.val % 8 = 7) (r q : Fin 1024) : (outsAt0 m c t.val t.isLt).2 (ix2 r q) = entry m c (row t r) q := by
  rw [Pipeline.eq_sum_fin_of_reset_step_apply_of_flush (fun n h => (outsAt0 m c n h).2) 8 (fun _ => 0) _
      (fun t h j => sum_first m c t h j) (fun t h j => sum_step m c t h j) t h3 _, zero_add]
  simp only [part_eq]
  rw [Finset.sum_add_distrib, entry, through, through]
  congr 1 <;>
  · refine Fin.sum_mul_add_congr fun s k hl => ?_
    have er : row ⟨_, Pipeline.run_point_lt_of_flush t h3 s⟩ r = row t r := Fin.ext (by simp only [row]; omega)
    have ec : col ⟨_, Pipeline.run_point_lt_of_flush t h3 s⟩ k = ⟨s.val * 512 + k.val, hl⟩ := Fin.ext (by simp only [col]; omega)
    rw [er, ec]

theorem left (h3 : t.val % 8 = 7) (r q : Fin 1024) : (dats m 0 c).after 4 t (ix2 r q) = entry m c (row t r) q := by
  rw [after0_4, show (outsAt0 m c t.val t.isLt).1 = (outsAt0 m c t.val t.isLt).2 by
    rw [outsAt0_C m c t (by omega) (by omega) h3]; frame_out]
  exact sum_last m c t h3 r q

theorem all : (dats m 0 c).arrAt 4 (cfgs 0).N = fun i : S2048x1024.Idx => entry m c (i 0) (i 1) := by
  refine (dats m 0 c).arrAt_eq_of_covers 4 _ (by decide +kernel) fun t hf y => ?_
  obtain ⟨e0, e1, e2, e3, e4⟩ := idx t
  idx_vars y
  blk_simp
  refine (left m c t ((flush0_4 t).mp hf) _ _).trans ?_
  refine congrArg₂ (entry m c) (Fin.ext ?_) (Fin.ext ?_) <;> blk_simp [e4]

theorem algebraic : Cert.algebraic_Kernel22Ideal_Reference22Ideal := by
  pair_intro
  · run_from Cert.Kernel22Ideal.Gen.run_main m g
  · run_from Cert.Reference22Ideal.Value.run m' g'
    · refine Eq.trans ?_ (all m c).symm
      funext i
      idx_vars i
      pointwise [entry, through]

end Cert.Kernel22Ideal.Value

end
-- ==== Proof.AdamPlain.lean ====
/- One whole weight's update: the optimiser's three values of every entry, and the reference's. -/
module

public import proofs.«01_k».proof.Defs
public import proofs.«01_k».proof.Proof.Gen.Kernel24Ideal.Frame
public import proofs.«01_k».proof.Proof.Gen.Reference24Ideal
public import proofs.«01_k».proof.Proof.Gen.Reference24Ideal.Run
public import proofs.«01_k».proof.Proof.Ada

@[expose] public section

set_option maxRecDepth 16384

noncomputable section

open Idealize.ShloMosaic Idealize.ShloMosaic.TcCoe Idealize.SL.Sem
open Idealize.ShloMosaic.Pipeline (Dat)

namespace Cert.Reference24Ideal.Update

open Cert.Reference24Ideal Cert.Reference24Ideal.Gen Cert.Adam

variable (g : FVec Ideal S31x128 .f32) (w m v : FVec Ideal S1x31x128 .f32) (r : Fin 31) (q : Fin 128)

/-- The reference's new moments of the whole array. -/
def refMean : FVec Ideal S31x128 .f32 :=
  addf (mulf (broadcastInDim S31x128 ![] bcast_S_S31x128 (constant S_ .f32 0x3F666666#32)) (shapeCast _ m shapeCasts_S1x31x128_S31x128))
    (mulf (broadcastInDim S31x128 ![] bcast_S_S31x128 (constant S_ .f32 0x3DCCCCCD#32)) g)
@[inherit_doc refMean]
def refSquare : FVec Ideal S31x128 .f32 :=
  addf (mulf (broadcastInDim S31x128 ![] bcast_S_S31x128 (constant S_ .f32 0x3F7FBE77#32)) (shapeCast _ v shapeCasts_S1x31x128_S31x128))
    (mulf (broadcastInDim S31x128 ![] bcast_S_S31x128 (constant S_ .f32 0x3A83126F#32)) (mulf g g))
/-- The change of the weight, from the two moments. -/
def refDelta (a b : FVec Ideal S31x128 .f32) : FVec Ideal S31x128 .f32 :=
  mulf (broadcastInDim S31x128 ![] bcast_S_S31x128 (constant S_ .f32 0xBA83126F#32))
    (addf (Host.divf (Host.divf a (broadcastInDim S31x128 ![] bcast_S_S31x128 (constant S_ .f32 0x3F26BD02#32)))
      (addf (Host.sqrt (Host.divf b (broadcastInDim S31x128 ![] bcast_S_S31x128 (constant S_ .f32 0x3C231ACC#32))))
        (broadcastInDim S31x128 ![] bcast_S_S31x128 (constant S_ .f32 0x322BCC77#32))))
      (mulf (broadcastInDim S31x128 ![] bcast_S_S31x128 (constant S_ .f32 0x3C23D70A#32)) (shapeCast _ w shapeCasts_S1x31x128_S31x128)))

theorem mean_at : refMean g m (ix2 r q) = mean (m (ix3 0 r q)) (g (ix2 r q)) := by
  pointwise [refMean, mean]
theorem square_at : refSquare g v (ix2 r q) = square (v (ix3 0 r q)) (g (ix2 r q)) := by
  pointwise [refSquare, square]
theorem delta_at : refDelta w (refMean g m) (refSquare g v) (ix2 r q) = delta (w (ix3 0 r q)) (m (ix3 0 r q)) (v (ix3 0 r q)) (g (ix2 r q)) := by
  pointwise [refDelta, delta, mean_at, square_at]

end Cert.Reference24Ideal.Update

namespace Cert.Kernel24Ideal.Value

open Cert.Kernel24Ideal Cert.Kernel24Ideal.Gen
open Cert.Adam (mean square delta)

section payloads
variable (w g n v : Vec Ideal S31x128 .f32) (r : Fin 31) (q : Fin 128)

/-- The three values the body stores. -/
theorem mean_at : k0_pay1 (F := Ideal) g n (ix2 r q) = mean (n (ix2 r q)) (g (ix2 r q)) := by
  pointwise [k0_pay1, mean]
@[inherit_doc mean_at] theorem square_at : k0_pay2 (F := Ideal) g v (ix2 r q) = square (v (ix2 r q)) (g (ix2 r q)) := by
  pointwise [k0_pay2, square]
@[inherit_doc mean_at] theorem delta_at : k0_pay3 (F := Ideal) w g n v (ix2 r q)
    = delta (w (ix2 r q)) (n (ix2 r q)) (v (ix2 r q)) (g (ix2 r q)) := by
  pointwise [k0_pay3, mean_at, square_at, delta]

end payloads

variable (m : (ℓ : Loc nD τ sig) → Buf (Elt Ideal) ℓ) (c : Dev nD)

/-- The gradient, the weight and its two moments. -/
abbrev grad : Vec Ideal S31x128 .f32 := m ((c : Thread nD τ).loc main_arg0)
@[inherit_doc grad] abbrev weight : Vec Ideal S1x31x128 .f32 := m ((c : Thread nD τ).loc main_arg1)
@[inherit_doc grad] abbrev first : Vec Ideal S1x31x128 .f32 := m ((c : Thread nD τ).loc main_arg2)
@[inherit_doc grad] abbrev second : Vec Ideal S1x31x128 .f32 := m ((c : Thread nD τ).loc main_arg3)

theorem made (r : Fin 31) (q : Fin 128) : V m c main_v0 (ix2 r q) = weight m c (ix3 0 r q) ∧ V m c main_v1 (ix2 r q) = first m c (ix3 0 r q)
    ∧ V m c main_v2 (ix2 r q) = second m c (ix3 0 r q) := by
  refine ⟨?_, ?_, ?_⟩ <;> (entry_read; pointwise)

/-- The three new values of an entry. -/
def newMean (r : Fin 31) (q : Fin 128) : EReal := mean (first m c (ix3 0 r q)) (grad m c (ix2 r q))
@[inherit_doc newMean] def newSquare (r : Fin 31) (q : Fin 128) : EReal := square (second m c (ix3 0 r q)) (grad m c (ix2 r q))
@[inherit_doc newMean] def newDelta (r : Fin 31) (q : Fin 128) : EReal :=
  delta (weight m c (ix3 0 r q)) (first m c (ix3 0 r q)) (second m c (ix3 0 r q)) (grad m c (ix2 r q))

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (t : Fin cfg0.N) (r : Fin 31) (q : Fin 128)

theorem read_g : iblk m c 0 t (ix2 r q) = grad m c (ix2 r q) := by
  blk_point [iblk, V, idx t]

theorem read_wmv : iblk m c 1 t (ix2 r q) = weight m c (ix3 0 r q) ∧ iblk m c 2 t (ix2 r q) = first m c (ix3 0 r q)
    ∧ iblk m c 3 t (ix2 r q) = second m c (ix3 0 r q) := by
  obtain ⟨h1, h2, h3⟩ := made m c r q
  refine ⟨Eq.trans ?_ h1, Eq.trans ?_ h2, Eq.trans ?_ h3⟩ <;> (unfold iblk; blk_ext [idx t])

/-- What the one point leaves. -/
theorem left : (dats m 0 c).after 4 t (ix2 r q) = newDelta m c r q ∧ (dats m 0 c).after 5 t (ix2 r q) = newMean m c r q
    ∧ (dats m 0 c).after 6 t (ix2 r q) = newSquare m c r q := by
  refine ⟨?_, ?_, ?_⟩
  · rw [after0_4, show out0_4 (iblk m c 0 t) (iblk m c 1 t) (iblk m c 2 t) (iblk m c 3 t)
      = k0_pay3 (F := Ideal) (iblk m c 1 t) (iblk m c 0 t) (iblk m c 2 t) (iblk m c 3 t) by frame_out, delta_at]
    simp only [read_g, read_wmv, newDelta]
  · rw [after0_5, show out0_5 (iblk m c 0 t) (iblk m c 1 t) (iblk m c 2 t) (iblk m c 3 t)
      = k0_pay1 (F := Ideal) (iblk m c 0 t) (iblk m c 2 t) by frame_out, mean_at]
    simp only [read_g, read_wmv, newMean]
  · rw [after0_6, show out0_6 (iblk m c 0 t) (iblk m c 1 t) (iblk m c 2 t) (iblk m c 3 t)
      = k0_pay2 (F := Ideal) (iblk m c 0 t) (iblk m c 3 t) by frame_out, square_at]
    simp only [read_g, read_wmv, newSquare]

/-- The three result arrays, whole. -/
theorem all_delta : (dats m 0 c).arrAt 4 (cfgs 0).N = fun i : S31x128.Idx => newDelta m c (i 0) (i 1) := by
  refine (dats m 0 c).arrAt_eq_of_covers 4 _ (by decide +kernel) fun t hf y => ?_
  obtain ⟨e0, e1, e2, e3, e4, e5, e6⟩ := idx t
  idx_vars y
  blk_simp
  refine (left m c t _ _).1.trans ?_
  refine congrArg₂ (newDelta m c) (Fin.ext ?_) (Fin.ext ?_) <;> blk_simp [e4]

@[inherit_doc all_delta]
theorem all_mean : (dats m 0 c).arrAt 5 (cfgs 0).N = fun i : S31x128.Idx => newMean m c (i 0) (i 1) := by
  refine (dats m 0 c).arrAt_eq_of_covers 5 _ (by decide +kernel) fun t hf y => ?_
  obtain ⟨e0, e1, e2, e3, e4, e5, e6⟩ := idx t
  idx_vars y
  blk_simp
  refine (left m c t _ _).2.1.trans ?_
  refine congrArg₂ (newMean m c) (Fin.ext ?_) (Fin.ext ?_) <;> blk_simp [e5]

@[inherit_doc all_delta]
theorem all_square : (dats m 0 c).arrAt 6 (cfgs 0).N = fun i : S31x128.Idx => newSquare m c (i 0) (i 1) := by
  refine (dats m 0 c).arrAt_eq_of_covers 6 _ (by decide +kernel) fun t hf y => ?_
  obtain ⟨e0, e1, e2, e3, e4, e5, e6⟩ := idx t
  idx_vars y
  blk_simp
  refine (left m c t _ _).2.2.trans ?_
  refine congrArg₂ (newSquare m c) (Fin.ext ?_) (Fin.ext ?_) <;> blk_simp [e6]

theorem algebraic : Cert.algebraic_Kernel24Ideal_Reference24Ideal := by
  pair_intro
  · run_from Cert.Kernel24Ideal.Gen.run_main m g & Cert.Kernel24Ideal.Gen.unchanged m g
  · refine Idealize.ShloMosaic.θ_run_mono (Cert.Reference24Ideal.Value.run m' g') fun r hr c => ?_
    obtain ⟨h0, h1, h2, h3⟩ := hagree c
    obtain ⟨r0, r1, r2, ha⟩ := hr c
    refine ⟨r0.trans ?_, r1.trans ?_, r2.trans ?_, ha⟩
    · rw [all_delta, h0, h1, h2, h3]
      funext i
      idx_vars i
      exact Cert.Reference24Ideal.Update.delta_at _ _ _ _ i0 i1
    · rw [all_mean, h0, h2]
      funext i
      idx_vars i
      exact Cert.Reference24Ideal.Update.mean_at _ _ i0 i1
    · rw [all_square, h0, h3]
      funext i
      idx_vars i
      exact Cert.Reference24Ideal.Update.square_at _ _ i0 i1

end Cert.Kernel24Ideal.Value

end
-- ==== Proof.PairSum.lean ====
/- The sum of one device's parts of two weights' gradients with its sibling's, the parts picked by a table of block numbers. -/
module

public import proofs.«01_k».proof.Defs
public import proofs.«01_k».proof.Proof.Gen.Kernel25.Frame
public import proofs.«01_k».proof.Proof.Gen.Kernel25Ideal.Frame
public import proofs.«01_k».proof.Proof.Gen.Pre_picked
public import proofs.«01_k».proof.Proof.Scalars
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_picked

/-- The precondition in words: every number of the table is below 8. -/
theorem below {F : FTy → Type} [FloatOps F] (s : IVec S4 32) (a b : FVec F S8x1024x512 .bf16) (p q : FVec F S4x1024x512 .bf16)
    (h : fn (F := F) s a b p q = fun _ => 1#1) (x : S4.Idx) : (s x).toNat < 8 := by
  have : Subsingleton S_.Idx := ⟨fun i j => funext fun a => a.elim0⟩
  have e := Host.reduce_andi_all _ _ _ _ _ (congrFun h fun a => a.elim0) x
  have both (u w : BitVec 1) : IntOp.andi u w = 1#1 ↔ u = 1#1 ∧ w = 1#1 := by revert u w; decide
  have one (u : Bool) : BitVec.ofBool u = 1#1 ↔ u = true := by cases u <;> decide
  obtain ⟨e0, e1⟩ := (both _ _).mp e
  replace e0 : (0#32).toInt ≤ (s x).toInt := of_decide_eq_true ((one _).mp e0)
  replace e1 : (s x).toInt < (8#32).toInt := of_decide_eq_true ((one _).mp e1)
  have z : (0#32).toInt = 0 := by decide
  have w : (8#32).toInt = 8 := by decide
  rw [z] at e0
  rw [w] at e1
  rw [BitVec.toInt_eq_toNat_cond] at e0 e1
  split at e0 <;> omega

end Cert.Pre_picked

namespace Cert.Kernel25Ideal.Value

open Cert.Kernel25Ideal Cert.Kernel25Ideal.Gen

variable {F : FTy → Type} [FloatOps F] (m : (ℓ : Loc nD τ sig) → Buf (Elt F) ℓ)

/-- The table. -/
abbrev slot : IVec S4 32 := m (((0 : Dev nD) : Thread nD τ).loc main_arg0)

/-- The block a point takes: its word of the table. -/
theorem at_point (i : grid0.Coords) : cc0_transform_0 k0_off1_inb numel1_S1 (tbl m) i = ![(slot m (ix1 (i 0))).toNat, 0, 0] := by
  unfold cc0_transform_0
  refine congrArg (fun u : BitVec 32 => (![u.toNat, 0, 0] : Fin 3 → Nat)) ?_
  have same : ∀ y z : S4.Idx, (y 0).val = (z 0).val → slot m y = slot m z := fun y z e =>
    congrArg (slot m) (funext fun a => by obtain rfl : a = 0 := Subsingleton.elim _ _; exact Fin.ext e)
  refine same _ _ ?_
  have one : ∀ z : S1.Idx, (z 0).val = 0 := fun z => by have := (z 0).isLt; exact Nat.lt_one_iff.mp this
  refine (Rect.emb_apply _ _ _).trans ?_
  refine (congrArg (fun n => _ + 1 * n) (one _)).trans ?_
  have ib : (i 0).val < 4 := (i 0).isLt
  show (BitVec.ofNat 32 (i 0).val).toNat + 1 * 0 = (i 0).val
  rw [BitVec.toNat_ofNat]
  omega

theorem ok_of (h : ∀ x, (slot m x).toNat < 8) : Ok m := by
  have key (i : grid0.Coords) (a : Fin 3) : (cc0_transform_0 k0_off1_inb numel1_S1 (tbl m) i a + 1) * S1x1024x512.size a ≤ S8x1024x512.size a := by
    rw [at_point]
    have hh := h (ix1 (i 0))
    match a with
    | 0 => show (_ + 1) * 1 ≤ 8; simpa using hh
    | 1 => show (0 + 1) * 1024 ≤ 1024; omega
    | 2 => show (0 + 1) * 512 ≤ 512; omega
  exact ⟨fun i => ⟨key i, .inr (Affine.block_words_dvd (of_decide_eq_true rfl) (by decide))⟩,
    fun i => ⟨key i, .inr (Affine.block_words_dvd (of_decide_eq_true rfl) (by decide))⟩⟩

/-- Which blocks a point takes and leaves. -/
theorem idx (hO : Ok m) (t : Fin grid0.N) : ((cfgM m hO).win 0).index t = ![(slot m (ix1 ⟨t.val, lt_of_lt_of_eq t.isLt N_0⟩)).toNat, 0, 0]
    ∧ ((cfgM m hO).win 1).index t = ![(slot m (ix1 ⟨t.val, lt_of_lt_of_eq t.isLt N_0⟩)).toNat, 0, 0]
    ∧ ((cfgM m hO).win 2).index t = ![t.val, 0, 0] ∧ ((cfgM m hO).win 3).index t = ![t.val, 0, 0]
    ∧ ((cfgM m hO).win 4).index t = ![t.val, 0, 0] ∧ ((cfgM m hO).win 5).index t = ![t.val, 0, 0] := by
  have e : grid0.coords t 0 = ⟨t.val, lt_of_lt_of_eq t.isLt N_0⟩ := Fin.ext
    ((by decide +kernel : ∀ t : Fin grid0.N, (grid0.coords t 0).val = t.val) t)
  have h (f : grid0.Coords → Fin 3 → Nat) (hf : ∀ t : Fin grid0.N, f (grid0.coords t) = ![t.val, 0, 0]) : f (grid0.coords t) = ![t.val, 0, 0] := hf t
  exact ⟨(at_point m _).trans (by rw [e]; rfl), (at_point m _).trans (by rw [e]; rfl), h cc0_transform_2 (by decide +kernel), h cc0_transform_3 (by decide +kernel),
    h cc0_transform_4 (by decide +kernel), h cc0_transform_5 (by decide +kernel)⟩

end Cert.Kernel25Ideal.Value

namespace Cert.Kernel25Ideal.Value

open Cert.Kernel25Ideal Cert.Kernel25Ideal.Gen

/-- The sum of two entries, taken in f32. -/
def plus {F : FTy → Type} [FloatOps F] (u v : F .bf16) : F .bf16 :=
  FloatOps.truncf .bf16 bitsLt_bf16_f32 (FloatOps.addf (FloatOps.extf .f32 bitsLt_bf16_f32 u) (FloatOps.extf .f32 bitsLt_bf16_f32 v))

section payload
variable {F : FTy → Type} [FloatOps F] (x y : Vec F S1x1024x512 .bf16) (r : Fin 1024) (q : Fin 512)

/-- What a point stores: the sum of two blocks; the two stored values are one function. -/
theorem pay_at : k0_pay1 (F := F) x y (ix3 0 r q) = plus (x (ix3 0 r q)) (y (ix3 0 r q)) := by
  unfold plus
  pointwise [k0_pay1]
@[inherit_doc pay_at] theorem pay_same : @k0_pay2 F _ = @k0_pay1 F _ := rfl

end payload

variable {F : FTy → Type} [FloatOps F] (m : (ℓ : Loc nD τ sig) → Buf (Elt F) ℓ) (hO : Ok m) (hs : ∀ x, (slot m x).toNat < 8) (c : Dev nD)

/-- This device's parts, and its sibling's. -/
abbrev mine (w : Fin 2) : Vec F S8x1024x512 .bf16 := match w with
  | 0 => m ((c : Thread nD τ).loc main_arg1)
  | 1 => m ((c : Thread nD τ).loc main_arg2)
@[inherit_doc mine] abbrev sibling (w : Fin 2) : Vec F S4x1024x512 .bf16 := match w with
  | 0 => m ((c : Thread nD τ).loc main_arg3)
  | 1 => m ((c : Thread nD τ).loc main_arg4)

/-- The part the table picks for a place, and the sum there. -/
abbrev part (p : Fin 4) : Fin 8 := ⟨(slot m (ix1 p)).toNat, hs _⟩
@[inherit_doc part] def entry (w : Fin 2) (p : Fin 4) (r : Fin 1024) (q : Fin 512) : F .bf16 :=
  plus (mine m c w (ix3 (part m hs p) r q)) (sibling m c w (ix3 p r q))

variable (t : Fin (cfgM m hO).N) (r : Fin 1024) (q : Fin 512)

/-- The point's place. -/
abbrev place : Fin 4 := ⟨t.val, lt_of_lt_of_eq t.isLt N_0⟩

theorem read_mine : iblk m hO c 0 t (ix3 0 r q) = mine m c 0 (ix3 (part m hs (place m hO t)) r q)
    ∧ iblk m hO c 1 t (ix3 0 r q) = mine m c 1 (ix3 (part m hs (place m hO t)) r q) := by
  constructor <;> (blk_point [iblk, V, idx m hO t]) <;> rfl

theorem read_sibling : iblk m hO c 2 t (ix3 0 r q) = sibling m c 0 (ix3 (place m hO t) r q)
    ∧ iblk m hO c 3 t (ix3 0 r q) = sibling m c 1 (ix3 (place m hO t) r q) := by
  constructor <;> (blk_point [iblk, V, idx m hO t])

theorem left : (dats m hO 0 c).after 4 t (ix3 0 r q) = entry m hs c 0 (place m hO t) r q
    ∧ (dats m hO 0 c).after 5 t (ix3 0 r q) = entry m hs c 1 (place m hO t) r q := by
  have h4 : (outsAt0 m hO c t).1 = k0_pay1 (F := F) (iblk m hO c 0 t) (iblk m hO c 2 t) := by
    unfold outsAt0; frame_out; exact congrArg₂ _ (Memref.IsWhole.read_unread _ _) (Memref.IsWhole.read_unread _ _)
  have h5 : (outsAt0 m hO c t).2 = k0_pay2 (F := F) (iblk m hO c 1 t) (iblk m hO c 3 t) := by
    unfold outsAt0; frame_out; exact congrArg₂ _ (Memref.IsWhole.read_unread _ _) (Memref.IsWhole.read_unread _ _)
  exact ⟨(congrFun ((after0_4 m hO c t).trans h4) _).trans ((pay_at _ _ _ _).trans
      (congrArg₂ plus (read_mine m hO hs c t r q).1 (read_sibling m hO c t r q).1)),
    (congrFun ((after0_5 m hO c t).trans h5) _).trans ((pay_at _ _ _ _).trans
      (congrArg₂ plus (read_mine m hO hs c t r q).2 (read_sibling m hO c t r q).2))⟩

/-- The points' blocks fill a result: place `p` is point `p`'s. -/
theorem fills : ((cfgM m hO).win 4).Covers ∧ ((cfgM m hO).win 5).Covers := by
  have hz : ∀ a : Fin 3, 0 < S1x1024x512.size a := by decide
  have n4 (a : Fin 3) : ((cfgM m hO).win 4).nblk a = ![4, 1, 1] a := by
    show (S4x1024x512.size a + S1x1024x512.size a - 1) / S1x1024x512.size a = _
    revert a; decide
  have n5 (a : Fin 3) : ((cfgM m hO).win 5).nblk a = ![4, 1, 1] a := n4 a
  have cell (a : Fin 3) (b : Fin 3 → Nat) (h : ∀ a, b a < ![4, 1, 1] a) : ![b 0, 0, 0] a = b a := by
    match a with
    | 0 => rfl
    | 1 => exact (Nat.lt_one_iff.mp (h 1)).symm
    | 2 => exact (Nat.lt_one_iff.mp (h 2)).symm
  refine ⟨⟨hz, fun β => ?_⟩, ⟨hz, fun β => ?_⟩⟩
  · have hb (a : Fin 3) : (β a).val < ![4, 1, 1] a := lt_of_lt_of_eq (β a).isLt (n4 a)
    exact ⟨⟨(β (0 : Fin 3)).val, lt_of_lt_of_eq (hb 0) N_0.symm⟩, flush0_4 _ _, fun a =>
      ⟨(congrFun (idx m hO _).2.2.2.2.1 a).trans (cell a (fun a => (β a).val) hb), Or.inl rfl⟩⟩
  · have hb (a : Fin 3) : (β a).val < ![4, 1, 1] a := lt_of_lt_of_eq (β a).isLt (n5 a)
    exact ⟨⟨(β (0 : Fin 3)).val, lt_of_lt_of_eq (hb 0) N_0.symm⟩, flush0_5 _ _, fun a =>
      ⟨(congrFun (idx m hO _).2.2.2.2.2 a).trans (cell a (fun a => (β a).val) hb), Or.inl rfl⟩⟩

/-- A block's entry, and where it lies in the array. -/
theorem place_of (w : Fin 2) (y : S1x1024x512.Idx) (i : S4x1024x512.Idx) (h0 : (i 0).val = t.val * 1 + (y 0).val)
    (h1 : (i 1).val = 0 * 1024 + (y 1).val) (h2 : (i 2).val = 0 * 512 + (y 2).val) :
    entry m hs c w (place m hO t) (y 1) (y 2) = entry m hs c w (i 0) (i 1) (i 2) := by
  have z : (y 0).val < 1 := (y 0).isLt
  refine congr (congrArg₂ (entry m hs c w) (Fin.ext ?_) (Fin.ext ?_)) (Fin.ext ?_)
  · show t.val = (i 0).val
    omega
  · omega
  · omega

/-- An index of a block, in coordinates. -/
theorem of_block (y : S1x1024x512.Idx) : y = ix3 0 (y 1) (y 2) := by
  funext a
  match a with
  | 0 => exact Fin.fin_one_eq_zero _
  | 1 => rfl
  | 2 => rfl

/-- The two result arrays, whole. -/
theorem all_gate : (dats m hO 0 c).arrAt 4 (cfgM m hO).N = fun i : S4x1024x512.Idx => entry m hs c 0 (i 0) (i 1) (i 2) := by
  refine (dats m hO 0 c).arrAt_eq_of_covers 4 _ (fills m hO).1 fun t hf (y : S1x1024x512.Idx) => ?_
  have e := (idx m hO t).2.2.2.2.1
  refine (congrArg ((dats m hO 0 c).after 4 t) (of_block y)).trans ((left m hO hs c t (y 1) (y 2)).1.trans ?_)
  refine place_of m hO hs c t 0 y _ ?_ ?_ ?_ <;> blk_simp [e]
@[inherit_doc all_gate] theorem all_up : (dats m hO 0 c).arrAt 5 (cfgM m hO).N = fun i : S4x1024x512.Idx => entry m hs c 1 (i 0) (i 1) (i 2) := by
  refine (dats m hO 0 c).arrAt_eq_of_covers 5 _ (fills m hO).2 fun t hf (y : S1x1024x512.Idx) => ?_
  have e := (idx m hO t).2.2.2.2.2
  refine (congrArg ((dats m hO 0 c).after 5 t) (of_block y)).trans ((left m hO hs c t (y 1) (y 2)).2.trans ?_)
  refine place_of m hO hs c t 1 y _ ?_ ?_ ?_ <;> blk_simp [e]

end Cert.Kernel25Ideal.Value

namespace Cert.Kernel25.Value

open Cert.Kernel25 Cert.Kernel25.Gen

variable {F : FTy → Type} [FloatOps F] (m : (ℓ : Loc nD τ sig) → Buf (Elt F) ℓ)

theorem ok_of (h : ∀ x, ((m (((0 : Dev nD) : Thread nD τ).loc main_arg0) : IVec S4 32) x).toNat < 8) : Ok m :=
  Cert.Kernel25Ideal.Value.ok_of (F := F) m h

end Cert.Kernel25.Value

end
-- ==== Proof.PairSumClaim.lean ====
/- The sums the pair's step leaves are the reference's. -/
module

public import proofs.«01_k».proof.Defs
public import proofs.«01_k».proof.Proof.PairSum
public import proofs.«01_k».proof.Proof.Gen.Reference25
public import proofs.«01_k».proof.Proof.Gen.Reference25.Run
public import proofs.«01_k».proof.Proof.Gen.Reference25Ideal
public import proofs.«01_k».proof.Proof.Gen.Reference25Ideal.Run

@[expose] public section

set_option maxRecDepth 16384

noncomputable section

open Idealize.ShloMosaic Idealize.ShloMosaic.TcCoe Idealize.SL.Sem

namespace Cert.Reference25Ideal.Value

open Cert.Reference25Ideal

/-- The reference's choice of the parts. -/
abbrev dims := gather_S8x1024x512_S4x1_S4x1024x512_12_0_n_n_0_1_11024512

/-- The parts the reference picks: place `p` is the part whose number stands at place `p` of the table. -/
theorem picked_at {F : FTy → Type} (x : FVec F S8x1024x512 .bf16) (s : IVec S4 32) (p : Fin 4) (r : Fin 1024) (q : Fin 512) (h : (s (ix1 p)).toNat < 8) :
    Host.gather dims x (broadcastInDim S4x1 ![0] Facts₀.bcast_S4_S4x1_0 s) (ix3 p r q) = x (ix3 ⟨(s (ix1 p)).toNat, h⟩ r q) := by
  unfold Host.gather
  refine congrArg x (funext fun a => Fin.ext ?_)
  show dims.start (ix3 p r q) _ a + dims.batchCoord (ix3 p r q) a + dims.offCoord (ix3 p r q) a = _
  rw [dims.batchCoord_eq_zero _ _ List.not_mem_nil]
  match a with
  | 0 =>
    rw [dims.offCoord_eq_zero _ _ (fun h => ((dims.mem_sKept _).mp h).1 (List.mem_singleton.mpr rfl))]
    unfold GatherDims.start
    rw [dif_pos (show (0 : Fin 3) ∈ dims.startIndexMap from List.mem_singleton.mpr rfl)]
    have e : broadcastInDim S4x1 ![0] Facts₀.bcast_S4_S4x1_0 s (dims.siIdx (ix3 p r q) ⟨dims.startIndexMap.idxOf (0 : Fin 3),
        List.idxOf_lt_length_iff.2 (List.mem_singleton.mpr rfl)⟩) = s (ix1 p) := by
      refine congrArg s (funext fun b => Fin.ext ?_)
      match b with
      | 0 => rfl
    have hi : (s (ix1 p)).toInt.toNat = (s (ix1 p)).toNat := by
      rw [BitVec.toInt_eq_toNat_cond]
      split <;> omega
    rw [e, hi]
    show min (s (ix1 p)).toNat 7 + 0 + 0 = (s (ix1 p)).toNat
    omega
  | 1 =>
    unfold GatherDims.start
    rw [dif_neg (by decide)]
    show 0 + 0 + r.val = r.val
    omega
  | 2 =>
    unfold GatherDims.start
    rw [dif_neg (by decide)]
    show 0 + 0 + q.val = q.val
    omega

end Cert.Reference25Ideal.Value

namespace Cert.Kernel25Ideal.Value

open Cert.Kernel25Ideal Cert.Kernel25Ideal.Gen

section sums
variable {F : FTy → Type} [FloatOps F] (m : (ℓ : Loc nD τ sig) → Buf (Elt F) ℓ) (g : Dev nD → PrngReg) (hs : ∀ x, (slot m x).toNat < 8)

/-- What the kernel leaves, over any float values. -/
theorem run_sum : θ_run (defs (F := F)) (onTc (τ := τ) (main (F := F))) ⟨m, fun _ => 0, g⟩ fun r => ∀ c : Dev nD,
    r.2.mem ((c.tc : Thread nD τ).loc main_v0_0) = (fun i : S4x1024x512.Idx => entry m hs c 0 (i 0) (i 1) (i 2))
    ∧ r.2.mem ((c.tc : Thread nD τ).loc main_v0_1) = (fun i : S4x1024x512.Idx => entry m hs c 1 (i 0) (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  run_from Cert.Kernel25Ideal.Gen.run_main m g (ok_of m hs) & Cert.Kernel25Ideal.Gen.unchanged m g (ok_of m hs)
  · exact all_gate m (ok_of m hs) hs c
  · exact all_up m (ok_of m hs) hs c

/-- An entry of the kernel's sum is the reference's. -/
theorem entry_eq (c : Dev nD) (w : Fin 2) (p : Fin 4) (r : Fin 1024) (q : Fin 512) : plus
    (Host.gather Cert.Reference25Ideal.Value.dims (mine m c w) (broadcastInDim _ ![0] Cert.Reference25Ideal.Facts₀.bcast_S4_S4x1_0 (slot m)) (ix3 p r q))
    (sibling m c w (ix3 p r q)) = entry m hs c w p r q :=
  congrArg (plus · _) (Cert.Reference25Ideal.Value.picked_at (mine m c w) (slot m) p r q (hs _))

end sums

/-- What the precondition gives. -/
theorem numbers (m : (ℓ : Loc nD τ sig) → Buf (Elt Ideal) ℓ) (h : Cert.Pre_Kernel25Ideal m) (x : S4.Idx) : (slot m x).toNat < 8 :=
  Cert.Pre_picked.below _ _ _ _ _ (h 0) x

theorem algebraic : Cert.algebraic_Kernel25Ideal_Reference25Ideal := by
  pair_intro
  · exact run_sum m g (numbers m hpre)
  · run_from Cert.Reference25Ideal.Value.run m' g'
    · obtain rfl : c = 0 := Subsingleton.elim _ _
      funext i
      idx_vars i
      exact entry_eq m (numbers m hpre) 0 0 _ _ _
    · obtain rfl : c = 0 := Subsingleton.elim _ _
      funext i
      idx_vars i
      exact entry_eq m (numbers m hpre) 0 1 _ _ _

end Cert.Kernel25Ideal.Value

namespace Cert.Kernel25.Value

open Cert.Kernel25 Cert.Kernel25.Gen
open Cert.Kernel25Ideal.Value (entry entry_eq)

theorem numbers (m : (ℓ : Loc nD τ sig) → Buf (Elt Bits) ℓ) (h : Cert.Pre_Kernel25 m) (x : S4.Idx) :
    ((m (((0 : Dev nD) : Thread nD τ).loc main_arg0) : IVec S4 32) x).toNat < 8 :=
  Cert.Pre_picked.below _ _ _ _ _ (h 0) x

/-- What the kernel leaves, bit by bit: the two programs are one text. -/
theorem run_bits (m : (ℓ : Loc nD τ sig) → Buf (Elt Bits) ℓ) (g : Dev nD → PrngReg)
    (hs : ∀ x, ((m (((0 : Dev nD) : Thread nD τ).loc main_arg0) : IVec S4 32) x).toNat < 8) :
    θ_run (defs (F := Bits)) (onTc (τ := τ) (main (F := Bits))) ⟨m, fun _ => 0, g⟩ fun r => ∀ c : Dev nD,
      r.2.mem ((c.tc : Thread nD τ).loc main_v0_0) = (fun i : S4x1024x512.Idx => entry (F := Bits) m hs c 0 (i 0) (i 1) (i 2))
      ∧ r.2.mem ((c.tc : Thread nD τ).loc main_v0_1) = (fun i : S4x1024x512.Idx => entry (F := Bits) m hs c 1 (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Eq.mp (by sl_kernel_rfl) (Cert.Kernel25Ideal.Value.run_sum (F := Bits) m g hs)

theorem bitexact : Cert.bitexact_Kernel25_Reference25 := by
  pair_intro
  · exact run_bits m g (numbers m hpre)
  · run_from Cert.Reference25.Value.run m' g'
    · obtain rfl : c = 0 := Subsingleton.elim _ _
      funext i
      idx_vars i
      exact entry_eq (F := Bits) m (numbers m hpre) 0 0 _ _ _
    · obtain rfl : c = 0 := Subsingleton.elim _ _
      funext i
      idx_vars i
      exact entry_eq (F := Bits) m (numbers m hpre) 0 1 _ _ _

end Cert.Kernel25.Value

end
-- ==== Proof.lean ====
/- The claims, put together: every frame, what idealizing changed (nothing), and the equations of the value modules. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25
public import proofs.«01_k».proof.Proof.Gen.Reference25.Run
public import proofs.«01_k».proof.Proof.Gen.Pre_finite
public import proofs.«01_k».proof.Proof.Gen.Pre_picked
public import proofs.«01_k».proof.Proof.FfnClaim
public import proofs.«01_k».proof.Proof.SguClaim
public import proofs.«01_k».proof.Proof.Ffn1Claim
public import proofs.«01_k».proof.Proof.MixTailClaim
public import proofs.«01_k».proof.Proof.MixNormClaim
public import proofs.«01_k».proof.Proof.LossClaim
public import proofs.«01_k».proof.Proof.Norm1Claim
public import proofs.«01_k».proof.Proof.SguFwdClaim
public import proofs.«01_k».proof.Proof.AdaClaim
public import proofs.«01_k».proof.Proof.MixFwdClaim
public import proofs.«01_k».proof.Proof.FfnUpClaim
public import proofs.«01_k».proof.Proof.FfnDownClaim
public import proofs.«01_k».proof.Proof.Norm2Claim
public import proofs.«01_k».proof.Proof.DwIn
public import proofs.«01_k».proof.Proof.DwGateUp
public import proofs.«01_k».proof.Proof.DwDown
public import proofs.«01_k».proof.Proof.DwSquare
public import proofs.«01_k».proof.Proof.MixIn
public import proofs.«01_k».proof.Proof.FfnDh
public import proofs.«01_k».proof.Proof.AdamPlain
public import proofs.«01_k».proof.Proof.PairSum
public import proofs.«01_k».proof.Proof.PairSumClaim
public import Idealize.ShloMosaic.Adequacy
public import Idealize.ShloMosaic.Init

@[expose] public section

set_option maxRecDepth 16384

noncomputable section

namespace Cert.Proof

open Idealize.ShloMosaic Idealize.SL.Sem

/-- `ReferenceIdeal` runs and leaves its arguments as they were. -/
theorem frame_ReferenceIdeal : Cert.quiescent_ReferenceIdeal := by
  intro m g _
  hlo_run
  · exact fun _ => by simp
  exact sem_eq_zero_of_no_sems (sig := Cert.ReferenceIdeal.sig) (by decide) _

/-- `ReferenceIdeal` runs and leaves its arguments as they were. -/
theorem frame_ReferenceIdeal_pre_finite : Cert.quiescent_ReferenceIdeal_pre_finite := by
  intro m g _
  hlo_run
  · exact fun _ => by simp
  exact sem_eq_zero_of_no_sems (sig := Cert.ReferenceIdeal.sig) (by decide) _

/-- `Reference2Ideal` runs and leaves its arguments as they were. -/
theorem frame_Reference2Ideal : Cert.quiescent_Reference2Ideal := by
  intro m g _
  hlo_run
  · exact fun _ => by simp
  exact sem_eq_zero_of_no_sems (sig := Cert.Reference2Ideal.sig) (by decide) _

/-- `Reference4Ideal` runs and leaves its arguments as they were. -/
theorem frame_Reference4Ideal : Cert.quiescent_Reference4Ideal := by
  intro m g _
  hlo_run
  · exact fun _ => by simp
  exact sem_eq_zero_of_no_sems (sig := Cert.Reference4Ideal.sig) (by decide) _

/-- `Reference4Ideal` runs and leaves its arguments as they were. -/
theorem frame_Reference4Ideal_pre_finite : Cert.quiescent_Reference4Ideal_pre_finite := by
  intro m g _
  hlo_run
  · exact fun _ => by simp
  exact sem_eq_zero_of_no_sems (sig := Cert.Reference4Ideal.sig) (by decide) _

/-- `Reference5Ideal` runs and leaves its arguments as they were. -/
theorem frame_Reference5Ideal : Cert.quiescent_Reference5Ideal := by
  intro m g _
  hlo_run
  · exact fun _ => by simp
  exact sem_eq_zero_of_no_sems (sig := Cert.Reference5Ideal.sig) (by decide) _

/-- `Reference6Ideal` runs and leaves its arguments as they were. -/
theorem frame_Reference6Ideal : Cert.quiescent_Reference6Ideal := by
  intro m g _
  hlo_run
  · exact fun _ => by simp
  exact sem_eq_zero_of_no_sems (sig := Cert.Reference6Ideal.sig) (by decide) _

/-- `Reference7Ideal` runs and leaves its arguments as they were. -/
theorem frame_Reference7Ideal : Cert.quiescent_Reference7Ideal := by
  intro m g _
  hlo_run
  · exact fun _ => by simp
  exact sem_eq_zero_of_no_sems (sig := Cert.Reference7Ideal.sig) (by decide) _

/-- `Reference8Ideal` runs and leaves its arguments as they were. -/
theorem frame_Reference8Ideal : Cert.quiescent_Reference8Ideal := by
  intro m g _
  hlo_run
  · exact fun _ => by simp
  exact sem_eq_zero_of_no_sems (sig := Cert.Reference8Ideal.sig) (by decide) _

/-- `Reference9Ideal` runs and leaves its arguments as they were. -/
theorem frame_Reference9Ideal : Cert.quiescent_Reference9Ideal := by
  intro m g _
  hlo_run
  · exact fun _ => by simp
  exact sem_eq_zero_of_no_sems (sig := Cert.Reference9Ideal.sig) (by decide) _

/-- `Reference10Ideal` runs and leaves its arguments as they were. -/
theorem frame_Reference10Ideal : Cert.quiescent_Reference10Ideal := by
  intro m g _
  hlo_run
  · exact fun _ => by simp
  exact sem_eq_zero_of_no_sems (sig := Cert.Reference10Ideal.sig) (by decide) _

/-- `Reference12Ideal` runs and leaves its arguments as they were. -/
theorem frame_Reference12Ideal : Cert.quiescent_Reference12Ideal := by
  intro m g _
  hlo_run
  · exact fun _ => by simp
  exact sem_eq_zero_of_no_sems (sig := Cert.Reference12Ideal.sig) (by decide) _

/-- `Reference13Ideal` runs and leaves its arguments as they were. -/
theorem frame_Reference13Ideal : Cert.quiescent_Reference13Ideal := by
  intro m g _
  hlo_run
  · exact fun _ => by simp
  exact sem_eq_zero_of_no_sems (sig := Cert.Reference13Ideal.sig) (by decide) _

/-- `Reference14Ideal` runs and leaves its arguments as they were. -/
theorem frame_Reference14Ideal : Cert.quiescent_Reference14Ideal := by
  intro m g _
  hlo_run
  · exact fun _ => by simp
  exact sem_eq_zero_of_no_sems (sig := Cert.Reference14Ideal.sig) (by decide) _

/-- `Reference15Ideal` runs and leaves its arguments as they were. -/
theorem frame_Reference15Ideal : Cert.quiescent_Reference15Ideal := by
  intro m g _
  hlo_run
  · exact fun _ => by simp
  exact sem_eq_zero_of_no_sems (sig := Cert.Reference15Ideal.sig) (by decide) _

/-- `Reference17Ideal` runs and leaves its arguments as they were. -/
theorem frame_Reference17Ideal : Cert.quiescent_Reference17Ideal := by
  intro m g _
  hlo_run
  · exact fun _ => by simp
  exact sem_eq_zero_of_no_sems (sig := Cert.Reference17Ideal.sig) (by decide) _

/-- `Reference18Ideal` runs and leaves its arguments as they were. -/
theorem frame_Reference18Ideal : Cert.quiescent_Reference18Ideal := by
  intro m g _
  hlo_run
  · exact fun _ => by simp
  exact sem_eq_zero_of_no_sems (sig := Cert.Reference18Ideal.sig) (by decide) _

/-- `Reference19Ideal` runs and leaves its arguments as they were. -/
theorem frame_Reference19Ideal : Cert.quiescent_Reference19Ideal := by
  intro m g _
  hlo_run
  · exact fun _ => by simp
  exact sem_eq_zero_of_no_sems (sig := Cert.Reference19Ideal.sig) (by decide) _

/-- `Reference20Ideal` runs and leaves its arguments as they were. -/
theorem frame_Reference20Ideal : Cert.quiescent_Reference20Ideal := by
  intro m g _
  hlo_run
  · exact fun _ => by simp
  exact sem_eq_zero_of_no_sems (sig := Cert.Reference20Ideal.sig) (by decide) _

/-- `Reference21Ideal` runs and leaves its arguments as they were. -/
theorem frame_Reference21Ideal : Cert.quiescent_Reference21Ideal := by
  intro m g _
  hlo_run
  · exact fun _ => by simp
  exact sem_eq_zero_of_no_sems (sig := Cert.Reference21Ideal.sig) (by decide) _

/-- `Reference22Ideal` runs and leaves its arguments as they were. -/
theorem frame_Reference22Ideal : Cert.quiescent_Reference22Ideal := by
  intro m g _
  hlo_run
  · exact fun _ => by simp
  exact sem_eq_zero_of_no_sems (sig := Cert.Reference22Ideal.sig) (by decide) _

/-- `Reference24Ideal` runs and leaves its arguments as they were. -/
theorem frame_Reference24Ideal : Cert.quiescent_Reference24Ideal := by
  intro m g _
  hlo_run
  · exact fun _ => by simp
  exact sem_eq_zero_of_no_sems (sig := Cert.Reference24Ideal.sig) (by decide) _

/-- `Reference25Ideal` runs and leaves its arguments as they were. -/
theorem frame_Reference25Ideal : Cert.quiescent_Reference25Ideal := by
  intro m g _
  hlo_run
  · exact fun _ => by simp
  exact sem_eq_zero_of_no_sems (sig := Cert.Reference25Ideal.sig) (by decide) _

/-- `Reference25Ideal` runs and leaves its arguments as they were. -/
theorem frame_Reference25Ideal_pre_picked : Cert.quiescent_Reference25Ideal_pre_picked := by
  intro m g _
  hlo_run
  · exact fun _ => by simp
  exact sem_eq_zero_of_no_sems (sig := Cert.Reference25Ideal.sig) (by decide) _

/-- `Reference25` runs and leaves its arguments as they were. -/
theorem frame_Reference25 : Cert.quiescent_Reference25 := by
  intro m g _
  hlo_run
  · exact fun _ => by simp
  exact sem_eq_zero_of_no_sems (sig := Cert.Reference25.sig) (by decide) _

/-- `Reference25` runs and leaves its arguments as they were. -/
theorem frame_Reference25_pre_picked : Cert.quiescent_Reference25_pre_picked := by
  intro m g _
  hlo_run
  · exact fun _ => by simp
  exact sem_eq_zero_of_no_sems (sig := Cert.Reference25.sig) (by decide) _

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel24.Gen.facts,
   Cert.Kernel24Ideal.Gen.facts,
   Cert.Reference24Ideal.Gen.facts,
   Cert.Kernel25.Gen.facts,
   Cert.Kernel25Ideal.Gen.facts,
   Cert.Reference25Ideal.Gen.facts,
   Cert.Reference25.Gen.facts,
   Cert.Pre_finite.Gen.facts,
   Cert.Pre_picked.Gen.facts,
   fun m ρ _ => Cert.Kernel.Gen.frame m ρ,
   fun m ρ _ => Cert.KernelIdeal.Gen.frame m ρ,
   fun m ρ _ => Cert.KernelIdeal.Gen.frame m ρ,
   frame_ReferenceIdeal,
   frame_ReferenceIdeal_pre_finite,
   fun m ρ _ => Cert.Kernel2.Gen.frame m ρ,
   fun m ρ _ => Cert.Kernel2Ideal.Gen.frame m ρ,
   frame_Reference2Ideal,
   fun m ρ _ => Cert.Kernel4.Gen.frame m ρ,
   fun m ρ _ => Cert.Kernel4Ideal.Gen.frame m ρ,
   fun m ρ _ => Cert.Kernel4Ideal.Gen.frame m ρ,
   frame_Reference4Ideal,
   frame_Reference4Ideal_pre_finite,
   fun m ρ _ => Cert.Kernel5.Gen.frame m ρ,
   fun m ρ _ => Cert.Kernel5Ideal.Gen.frame m ρ,
   frame_Reference5Ideal,
   fun m ρ _ => Cert.Kernel6.Gen.frame m ρ,
   fun m ρ _ => Cert.Kernel6Ideal.Gen.frame m ρ,
   frame_Reference6Ideal,
   fun m ρ _ => Cert.Kernel7.Gen.frame m ρ,
   fun m ρ _ => Cert.Kernel7Ideal.Gen.frame m ρ,
   frame_Reference7Ideal,
   fun m ρ _ => Cert.Kernel8.Gen.frame m ρ,
   fun m ρ _ => Cert.Kernel8Ideal.Gen.frame m ρ,
   frame_Reference8Ideal,
   fun m ρ _ => Cert.Kernel9.Gen.frame m ρ,
   fun m ρ _ => Cert.Kernel9Ideal.Gen.frame m ρ,
   frame_Reference9Ideal,
   fun m ρ _ => Cert.Kernel10.Gen.frame m ρ,
   fun m ρ _ => Cert.Kernel10Ideal.Gen.frame m ρ,
   frame_Reference10Ideal,
   fun m ρ _ => Cert.Kernel12.Gen.frame m ρ,
   fun m ρ _ => Cert.Kernel12Ideal.Gen.frame m ρ,
   frame_Reference12Ideal,
   fun m ρ _ => Cert.Kernel13.Gen.frame m ρ,
   fun m ρ _ => Cert.Kernel13Ideal.Gen.frame m ρ,
   frame_Reference13Ideal,
   fun m ρ _ => Cert.Kernel14.Gen.frame m ρ,
   fun m ρ _ => Cert.Kernel14Ideal.Gen.frame m ρ,
   frame_Reference14Ideal,
   fun m ρ _ => Cert.Kernel15.Gen.frame m ρ,
   fun m ρ _ => Cert.Kernel15Ideal.Gen.frame m ρ,
   frame_Reference15Ideal,
   fun m ρ _ => Cert.Kernel17.Gen.frame m ρ,
   fun m ρ _ => Cert.Kernel17Ideal.Gen.frame m ρ,
   frame_Reference17Ideal,
   fun m ρ _ => Cert.Kernel18.Gen.frame m ρ,
   fun m ρ _ => Cert.Kernel18Ideal.Gen.frame m ρ,
   frame_Reference18Ideal,
   fun m ρ _ => Cert.Kernel19.Gen.frame m ρ,
   fun m ρ _ => Cert.Kernel19Ideal.Gen.frame m ρ,
   frame_Reference19Ideal,
   fun m ρ _ => Cert.Kernel20.Gen.frame m ρ,
   fun m ρ _ => Cert.Kernel20Ideal.Gen.frame m ρ,
   frame_Reference20Ideal,
   fun m ρ _ => Cert.Kernel21.Gen.frame m ρ,
   fun m ρ _ => Cert.Kernel21Ideal.Gen.frame m ρ,
   frame_Reference21Ideal,
   fun m ρ _ => Cert.Kernel22.Gen.frame m ρ,
   fun m ρ _ => Cert.Kernel22Ideal.Gen.frame m ρ,
   frame_Reference22Ideal,
   fun m ρ _ => Cert.Kernel24.Gen.frame m ρ,
   fun m ρ _ => Cert.Kernel24Ideal.Gen.frame m ρ,
   frame_Reference24Ideal,
   fun m ρ h => Cert.Kernel25.Gen.frame m ρ (Cert.Kernel25.Value.ok_of m fun x => Cert.Pre_picked.below _ _ _ _ _ (h 0) x),
   fun m ρ h => Cert.Kernel25Ideal.Gen.frame m ρ (Cert.Kernel25Ideal.Value.ok_of m (Cert.Kernel25Ideal.Value.numbers m h)),
   frame_Reference25Ideal,
   frame_Reference25Ideal_pre_picked,
   frame_Reference25,
   frame_Reference25_pre_picked,
   trivial,
   Cert.KernelIdeal.Value.algebraic,
   trivial,
   Cert.Kernel2Ideal.Value.algebraic,
   trivial,
   Cert.Kernel4Ideal.Value.algebraic,
   trivial,
   Cert.Kernel5Ideal.Value.algebraic,
   trivial,
   Cert.Kernel6Ideal.Value.algebraic,
   trivial,
   Cert.Kernel7Ideal.Value.algebraic,
   trivial,
   Cert.Kernel8Ideal.Value.algebraic,
   trivial,
   Cert.Kernel9Ideal.Value.algebraic,
   trivial,
   Cert.Kernel10Ideal.Value.algebraic,
   trivial,
   Cert.Kernel12Ideal.Value.algebraic,
   trivial,
   Cert.Kernel13Ideal.Value.algebraic,
   trivial,
   Cert.Kernel14Ideal.Value.algebraic,
   trivial,
   Cert.Kernel15Ideal.Value.algebraic,
   trivial,
   Cert.Kernel17Ideal.Value.algebraic,
   trivial,
   Cert.Kernel18Ideal.Value.algebraic,
   trivial,
   Cert.Kernel19Ideal.Value.algebraic,
   trivial,
   Cert.Kernel20Ideal.Value.algebraic,
   trivial,
   Cert.Kernel21Ideal.Value.algebraic,
   trivial,
   Cert.Kernel22Ideal.Value.algebraic,
   trivial,
   Cert.Kernel24Ideal.Value.algebraic,
   trivial,
   Cert.Kernel25Ideal.Value.algebraic,
   Cert.Kernel25.Value.bitexact⟩

end Cert.Proof

end
